-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "big" .f32 0x4E800000#32 ⊤

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v37)) (v3 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_v39) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S64x2 : Shape := ⟨2, ![64, 2]⟩
abbrev S64x512 : Shape := ⟨2, ![64, 512]⟩
abbrev S64x1 : Shape := ⟨2, ![64, 1]⟩
abbrev S100000x512 : Shape := ⟨2, ![100000, 512]⟩
abbrev S512x4x2 : Shape := ⟨3, ![512, 4, 2]⟩
abbrev S512x512 : Shape := ⟨2, ![512, 512]⟩
abbrev S512 : Shape := ⟨1, ![512]⟩
abbrev S100000 : Shape := ⟨1, ![100000]⟩
abbrev S_ : Shape := ⟨0, ![]⟩

class Facts : Prop where
  bcast_S_S64x2 : S_.BroadcastsInDim S64x2 (![] : Fin 0 → Fin S64x2.rank)
  reducesTo_S64x2_S_d0_1 : S64x2.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S100000x512 : S_.BroadcastsInDim S100000x512 (![] : Fin 0 → Fin S100000x512.rank)
  reducesTo_S100000x512_S_d0_1 : S100000x512.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v15 : IVec S_ 1) (main_v16 : FVec F S100000 .f32) : IVec S_ 1 :=
  let main_cst_5 : FVec F S_ .f32 := constant S_ .f32 0x7F800000#32
  let main_v17 : FVec F S100000 .f32 := broadcastInDim S100000 ![] bcast_S_S100000 main_cst_5
  let main_v18 : IVec S100000 1 := cmpf .olt main_v16 main_v17
  let main_c_6 : IVec S_ 1 := constantI S_ 1 1#1
  let main_v19 : IVec S_ 1 := (fun x v => Host.reduce IntOp.andi x v reducesTo_S100000_S_d0 h_S_) main_v18 main_c_6
  let main_v20 : IVec S_ 1 := andi main_v15 main_v19
  main_v20

def fn {F : FTy → Type} [FloatOps F] (main_arg0 : IVec S64x2 32) (main_arg1 : FVec F S64x512 .f32) (main_arg2 : FVec F S64x1 .f32) (main_arg3 : FVec F S100000x512 .f32) (main_arg4 : FVec F S512x4x2 .f32) (main_arg5 : FVec F S512x512 .f32) (main_arg6 : FVec F S512 .f32) (main_arg7 : FVec F S100000x512 .f32) (main_arg8 : FVec F S100000 .f32) : IVec S_ 1 :=
  let main_c : IVec S_ 32 := constantI S_ 32 0#32
  let main_v0 : IVec S64x2 32 := broadcastInDim S64x2 ![] bcast_S_S64x2 main_c
  let main_v1 : IVec S64x2 1 := cmpi .sge main_arg0 main_v0
  let main_c_0 : IVec S_ 32 := constantI S_ 32 100000#32
  let main_v2 : IVec S64x2 32 := broadcastInDim S64x2 ![] bcast_S_S64x2 main_c_0
  let main_v3 : IVec S64x2 1 := cmpi .slt main_arg0 main_v2
  let main_v4 : IVec S64x2 1 := andi main_v1 main_v3
  let main_c_1 : IVec S_ 1 := constantI S_ 1 1#1
  let main_v5 : IVec S_ 1 := (fun x v => Host.reduce IntOp.andi x v reducesTo_S64x2_S_d0_1 h_S_) main_v4 main_c_1
  let main_v6 : FVec F S64x1 .f32 := Host.absf main_arg2
  let main_cst : FVec F S_ .f32 := constant S_ .f32 0x7F800000#32
  let main_v7 : FVec F S64x1 .f32 := broadcastInDim S64x1 ![] bcast_S_S64x1 main_cst
  let main_v8 : IVec S64x1 1 := cmpf .olt main_v6 main_v7
  let main_c_2 : IVec S_ 1 := constantI S_ 1 1#1
  let main_v9 : IVec S_ 1 := (fun x v => Host.reduce IntOp.andi x v reducesTo_S64x1_S_d0_1 h_S_) main_v8 main_c_2
  let main_v10 : IVec S_ 1 := andi main_v5 main_v9
  let main_v11 : FVec F S100000x512 .f32 := Host.absf main_arg7
  let main_cst_3 : FVec F S_ .f32 := constant S_ .f32 0x7F800000#32
  let main_v12 : FVec F S100000x512 .f32 := broadcastInDim S100000x512 ![] bcast_S_S100000x512 main_cst_3
  let main_v13 : IVec S100000x512 1 := cmpf .olt main_v11 main_v12
  let main_c_4 : IVec S_ 1 := constantI S_ 1 1#1
  let main_v14 : IVec S_ 1 := (fun x v => Host.reduce IntOp.andi x v reducesTo_S100000x512_S_d0_1 h_S_) main_v13 main_c_4
  let main_v15 : IVec S_ 1 := andi main_v10 main_v14
  let main_v16 : FVec F S100000 .f32 := Host.absf main_arg8
  fn_part1 (F := F) main_v15 main_v16
-- ==== Pre_in_range.lean ====
abbrev S64x2 : Shape := ⟨2, ![64, 2]⟩
abbrev S64x512 : Shape := ⟨2, ![64, 512]⟩
abbrev S64x1 : Shape := ⟨2, ![64, 1]⟩
abbrev S100000x512 : Shape := ⟨2, ![100000, 512]⟩
abbrev S512x4x2 : Shape := ⟨3, ![512, 4, 2]⟩
abbrev S512x512 : Shape := ⟨2, ![512, 512]⟩
abbrev S512 : Shape := ⟨1, ![512]⟩
abbrev S100000 : Shape := ⟨1, ![100000]⟩
abbrev S_ : Shape := ⟨0, ![]⟩

class Facts : Prop where
  bcast_S_S64x2 : S_.BroadcastsInDim S64x2 (![] : Fin 0 → Fin S64x2.rank)
  reducesTo_S64x2_S_d0_1 : S64x2.ReducesTo [0, 1] S_
  h_S_ : 0 < S_.numel

variable [Facts]

def fn {F : FTy → Type} [FloatOps F] (main_arg0 : IVec S64x2 32) (main_arg1 : FVec F S64x512 .f32) (main_arg2 : FVec F S64x1 .f32) (main_arg3 : FVec F S100000x512 .f32) (main_arg4 : FVec F S512x4x2 .f32) (main_arg5 : FVec F S512x512 .f32) (main_arg6 : FVec F S512 .f32) (main_arg7 : FVec F S100000x512 .f32) (main_arg8 : FVec F S100000 .f32) : IVec S_ 1 :=
  let main_c : IVec S_ 32 := constantI S_ 32 0#32
  let main_v0 : IVec S64x2 32 := broadcastInDim S64x2 ![] bcast_S_S64x2 main_c
  let main_v1 : IVec S64x2 1 := cmpi .sge main_arg0 main_v0
  let main_c_0 : IVec S_ 32 := constantI S_ 32 100000#32
  let main_v2 : IVec S64x2 32 := broadcastInDim S64x2 ![] bcast_S_S64x2 main_c_0
  let main_v3 : IVec S64x2 1 := cmpi .slt main_arg0 main_v2
  let main_v4 : IVec S64x2 1 := andi main_v1 main_v3
  let main_c_1 : IVec S_ 1 := constantI S_ 1 1#1
  let main_v5 : IVec S_ 1 := (fun x v => Host.reduce IntOp.andi x v reducesTo_S64x2_S_d0_1 h_S_) main_v4 main_c_1
  main_v5
-- ==== Kernel.lean ====
abbrev S64x2 : Shape := ⟨2, ![64, 2]⟩
abbrev S64x512 : Shape := ⟨2, ![64, 512]⟩
abbrev S64x1 : Shape := ⟨2, ![64, 1]⟩
abbrev S100000x512 : Shape := ⟨2, ![100000, 512]⟩
abbrev S512x4x2 : Shape := ⟨3, ![512, 4, 2]⟩
abbrev S512x512 : Shape := ⟨2, ![512, 512]⟩
abbrev S512 : Shape := ⟨1, ![512]⟩
abbrev S100000 : Shape := ⟨1, ![100000]⟩
abbrev S128x4x4x2 : Shape := ⟨4, ![128, 4, 4, 2]⟩
abbrev S128x128 : Shape := ⟨2, ![128, 128]⟩
abbrev S_ : Shape := ⟨0, ![]⟩
abbrev S128x4x4x1 : Shape := ⟨4, ![128, 4, 4, 1]⟩
abbrev S128x4x4 : Shape := ⟨3, ![128, 4, 4]⟩
abbrev S128x4x1x4 : Shape := ⟨4, ![128, 4, 1, 4]⟩
abbrev S128x1x128x1 : Shape := ⟨4, ![128, 1, 128, 1]⟩
abbrev S128x4x128x4 : Shape := ⟨4, ![128, 4, 128, 4]⟩
abbrev S2x64 : Shape := ⟨2, ![2, 64]⟩
abbrev S128 : Shape := ⟨1, ![128]⟩
abbrev S128x512 : Shape := ⟨2, ![128, 512]⟩
abbrev S8 : Shape := ⟨1, ![8]⟩
abbrev S8x512 : Shape := ⟨2, ![8, 512]⟩
abbrev S8x128 : Shape := ⟨2, ![8, 128]⟩
abbrev S100000x128 : Shape := ⟨2, ![100000, 128]⟩
abbrev S64x128 : Shape := ⟨2, ![64, 128]⟩
abbrev S1x512 : Shape := ⟨2, ![1, 512]⟩
abbrev S20x5000x1 : Shape := ⟨3, ![20, 5000, 1]⟩
abbrev S1x128 : Shape := ⟨2, ![1, 128]⟩
abbrev S5000x512 : Shape := ⟨2, ![5000, 512]⟩
abbrev S1x5000x1 : Shape := ⟨3, ![1, 5000, 1]⟩
abbrev S2x64x5000 : Shape := ⟨3, ![2, 64, 5000]⟩
abbrev S64x5000 : Shape := ⟨2, ![64, 5000]⟩
abbrev S5000x1 : Shape := ⟨2, ![5000, 1]⟩
abbrev S1x64x5000 : Shape := ⟨3, ![1, 64, 5000]⟩
abbrev S64 : Shape := ⟨1, ![64]⟩
abbrev S1x64x128 : Shape := ⟨3, ![1, 64, 128]⟩
abbrev S1 : Shape := ⟨1, ![1]⟩
abbrev S1x1x1 : Shape := ⟨3, ![1, 1, 1]⟩
abbrev S1x8 : Shape := ⟨2, ![1, 8]⟩

abbrev nBuf : Table → Nat
  | .hbm => 53
  | .local .tc .vmem => 21
  | .local .scVector .vmem => 2
  | _ => 0

abbrev bufTy : (tb : Table) → Fin (nBuf tb) → BufTy
  | .hbm, ⟨0, _⟩ => ⟨S64x2, .i32⟩
  | .hbm, ⟨1, _⟩ => ⟨S64x512, .f32⟩
  | .hbm, ⟨2, _⟩ => ⟨S64x1, .f32⟩
  | .hbm, ⟨3, _⟩ => ⟨S100000x512, .f32⟩
  | .hbm, ⟨4, _⟩ => ⟨S512x4x2, .f32⟩
  | .hbm, ⟨5, _⟩ => ⟨S512x512, .f32⟩
  | .hbm, ⟨6, _⟩ => ⟨S512, .f32⟩
  | .hbm, ⟨7, _⟩ => ⟨S100000x512, .f32⟩
  | .hbm, ⟨8, _⟩ => ⟨S100000, .f32⟩
  | .hbm, ⟨9, _⟩ => ⟨S128x4x4x2, .f32⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S128x128, .f32⟩
  | .hbm, ⟨17, _⟩ => ⟨S128x4x4x1, .f32⟩
  | .hbm, ⟨18, _⟩ => ⟨S128x4x4, .f32⟩
  | .hbm, ⟨19, _⟩ => ⟨S128x4x4, .f32⟩
  | .hbm, ⟨20, _⟩ => ⟨S128x4x1x4, .f32⟩
  | .hbm, ⟨21, _⟩ => ⟨S128x1x128x1, .f32⟩
  | .hbm, ⟨22, _⟩ => ⟨S128x4x128x4, .f32⟩
  | .hbm, ⟨23, _⟩ => ⟨S128x4x128x4, .f32⟩
  | .hbm, ⟨24, _⟩ => ⟨S128x4x128x4, .f32⟩
  | .hbm, ⟨25, _⟩ => ⟨S512x512, .f32⟩
  | .hbm, ⟨26, _⟩ => ⟨S128x4x4x1, .f32⟩
  | .hbm, ⟨27, _⟩ => ⟨S128x4x4, .f32⟩
  | .hbm, ⟨28, _⟩ => ⟨S128x4x4, .f32⟩
  | .hbm, ⟨29, _⟩ => ⟨S128x4x1x4, .f32⟩
  | .hbm, ⟨30, _⟩ => ⟨S128x1x128x1, .f32⟩
  | .hbm, ⟨31, _⟩ => ⟨S128x4x128x4, .f32⟩
  | .hbm, ⟨32, _⟩ => ⟨S128x4x128x4, .f32⟩
  | .hbm, ⟨33, _⟩ => ⟨S128x4x128x4, .f32⟩
  | .hbm, ⟨34, _⟩ => ⟨S512x512, .f32⟩
  | .hbm, ⟨35, _⟩ => ⟨S2x64, .i32⟩
  | .hbm, ⟨36, _⟩ => ⟨S128, .i32⟩
  | .hbm, ⟨37, _⟩ => ⟨S128x512, .f32⟩
  | .hbm, ⟨38, _⟩ => ⟨S64x128, .f32⟩
  | .hbm, ⟨39, _⟩ => ⟨S1x512, .f32⟩
  | .hbm, ⟨40, _⟩ => ⟨S20x5000x1, .f32⟩
  | .hbm, ⟨41, _⟩ => ⟨S1x128, .f32⟩
  | .hbm, ⟨42, _⟩ => ⟨S1x128, .f32⟩
  | .hbm, ⟨43, _⟩ => ⟨S1x128, .i32⟩
  | .hbm, ⟨44, _⟩ => ⟨S1x128, .i32⟩
  | .hbm, ⟨45, _⟩ => ⟨S1x8, .f32⟩
  | .hbm, ⟨46, _⟩ => ⟨S8, .f32⟩
  | .hbm, ⟨47, _⟩ => ⟨S1x8, .f32⟩
  | .hbm, ⟨48, _⟩ => ⟨S8, .f32⟩
  | .hbm, ⟨49, _⟩ => ⟨S1x8, .i32⟩
  | .hbm, ⟨50, _⟩ => ⟨S8, .i32⟩
  | .hbm, ⟨51, _⟩ => ⟨S1x8, .i32⟩
  | .hbm, ⟨52, _⟩ => ⟨S8, .i32⟩
  | .local .tc .vmem, ⟨0, _⟩ => ⟨S128x512, .f32⟩
  | .local .tc .vmem, ⟨1, _⟩ => ⟨S64x512, .f32⟩
  | .local .tc .vmem, ⟨2, _⟩ => ⟨S64x128, .f32⟩
  | .local .tc .vmem, ⟨3, _⟩ => ⟨S512x512, .f32⟩
  | .local .tc .vmem, ⟨4, _⟩ => ⟨S512x512, .f32⟩
  | .local .tc .vmem, ⟨5, _⟩ => ⟨S512x512, .f32⟩
  | .local .tc .vmem, ⟨6, _⟩ => ⟨S1x512, .f32⟩
  | .local .tc .vmem, ⟨7, _⟩ => ⟨S5000x512, .f32⟩
  | .local .tc .vmem, ⟨8, _⟩ => ⟨S5000x512, .f32⟩
  | .local .tc .vmem, ⟨9, _⟩ => ⟨S1x5000x1, .f32⟩
  | .local .tc .vmem, ⟨10, _⟩ => ⟨S1x5000x1, .f32⟩
  | .local .tc .vmem, ⟨11, _⟩ => ⟨S1x128, .f32⟩
  | .local .tc .vmem, ⟨12, _⟩ => ⟨S1x128, .f32⟩
  | .local .tc .vmem, ⟨13, _⟩ => ⟨S1x128, .i32⟩
  | .local .tc .vmem, ⟨14, _⟩ => ⟨S1x128, .i32⟩
  | .local .tc .vmem, ⟨15, _⟩ => ⟨S64x512, .f32⟩
  | .local .tc .vmem, ⟨16, _⟩ => ⟨S64x128, .f32⟩
  | .local .tc .vmem, ⟨17, _⟩ => ⟨S64x128, .f32⟩
  | .local .tc .vmem, ⟨18, _⟩ => ⟨S64x128, .f32⟩
  | .local .tc .vmem, ⟨19, _⟩ => ⟨S64x128, .i32⟩
  | .local .tc .vmem, ⟨20, _⟩ => ⟨S2x64x5000, .f32⟩
  | .local .scVector .vmem, ⟨0, _⟩ => ⟨S8, .i32⟩
  | .local .scVector .vmem, ⟨1, _⟩ => ⟨S8x512, .f32⟩
  | _, _ => ⟨S64x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev main_v31_2 : Ref sig .tc := ⟨.hbm, 43, rfl⟩
abbrev main_v31_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_arg3_scv : Ref sig .scVector := ⟨.hbm, 3, rfl⟩
abbrev main_v26_scv : Ref sig .scVector := ⟨.hbm, 36, rfl⟩
abbrev main_v27_scv : Ref sig .scVector := ⟨.hbm, 37, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg7_1 : Ref sig .tc := ⟨.vmem, 8, rfl⟩
abbrev cc1_stg8_0 : Ref sig .tc := ⟨.vmem, 9, rfl⟩
abbrev cc1_stg8_1 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc1_scratch3 : Ref sig .tc := ⟨.vmem, 18, rfl⟩
abbrev cc1_scratch4 : Ref sig .tc := ⟨.vmem, 19, rfl⟩
abbrev cc1_scratch5 : Ref sig .tc := ⟨.vmem, 20, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem7_1 : DmaSem sig := 11
abbrev cc1_sem8_0 : DmaSem sig := 12
abbrev cc1_sem8_1 : DmaSem sig := 13
abbrev cc1_sem9_0 : DmaSem sig := 14
abbrev cc1_sem10_0 : DmaSem sig := 15
abbrev cc1_sem11_0 : DmaSem sig := 16
abbrev cc1_sem12_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v5 : BitVec 32 := Scalar.muli v1 c8_i32
  ![v5.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v5 : BitVec 32 := Scalar.muli v1 c8_i32
  let c0_i32_29_r1 : BitVec 32 := 0#32
  ![v5.toNat, 0]
abbrev grid1 : Pipeline.Grid := ⟨1, ![21], ![false]⟩

def k1_cond2 (i : grid1.Coords) : BitVec 1 :=
  let arg0 : BitVec 32 := BitVec.ofNat 32 (i 0).val
  let c20_i32 : BitVec 32 := 20#32
  let v4 : BitVec 1 := Scalar.cmpi .slt arg0 c20_i32
  let v5 : BitVec 32 := Scalar.extui v4
  let c0_i32_1 : BitVec 32 := 0#32
  let v6 : BitVec 1 := Scalar.cmpi .ne v5 c0_i32_1
  v6

def k1_off1 (i : grid1.Coords) : Fin 3 → Nat :=
  let arg0 : BitVec 32 := BitVec.ofNat 32 (i 0).val
  let c2_i32 : BitVec 32 := 2#32
  let v3 : BitVec 32 := Scalar.remsi arg0 c2_i32
  let v21 : Index := Scalar.indexCast v3
  let c0_14 : Index := 0#32
  let c0_15 : Index := 0#32
  ![v21.toNat, 0, 0]
def k1_cond3 (i : grid1.Coords) : BitVec 1 :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .ne v8 c0_i32_3
  v9

def k1_off2 (i : grid1.Coords) : Fin 3 → Nat :=
  let c1_i32_6 : BitVec 32 := 1#32
  let arg0 : BitVec 32 := BitVec.ofNat 32 (i 0).val
  let c2_i32 : BitVec 32 := 2#32
  let v3 : BitVec 32 := Scalar.remsi arg0 c2_i32
  let v14 : BitVec 32 := Scalar.subi c1_i32_6 v3
  let v15 : Index := Scalar.indexCast v14
  let c0 : Index := 0#32
  let c0_7 : Index := 0#32
  ![v15.toNat, 0, 0]
def k1_cond6 (i : grid1.Coords) : BitVec 1 :=
  let arg0 : BitVec 32 := BitVec.ofNat 32 (i 0).val
  let c20_i32_4 : BitVec 32 := 20#32
  let v10 : BitVec 1 := Scalar.cmpi .eq arg0 c20_i32_4
  let v11 : BitVec 32 := Scalar.extui v10
  let c0_i32_5 : BitVec 32 := 0#32
  let v12 : BitVec 1 := Scalar.cmpi .ne v11 c0_i32_5
  v12

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![v0.toNat, c0_i32.toNat]

def cc1_transform_8 (i : grid1.Coords) : Fin 3 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  let c0_i32_1 : BitVec 32 := 0#32
  ![v0.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .i32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .i32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "big" => some ⊤
  | "mask" => some ⊥
  | _ => none
-- ==== ReferenceIdeal.lean ====
abbrev S64x2 : Shape := ⟨2, ![64, 2]⟩
abbrev S64x512 : Shape := ⟨2, ![64, 512]⟩
abbrev S64x1 : Shape := ⟨2, ![64, 1]⟩
abbrev S100000x512 : Shape := ⟨2, ![100000, 512]⟩
abbrev S512x4x2 : Shape := ⟨3, ![512, 4, 2]⟩
abbrev S512x512 : Shape := ⟨2, ![512, 512]⟩
abbrev S512 : Shape := ⟨1, ![512]⟩
abbrev S100000 : Shape := ⟨1, ![100000]⟩
abbrev S_ : Shape := ⟨0, ![]⟩
abbrev S64x2x1 : Shape := ⟨3, ![64, 2, 1]⟩
abbrev S1 : Shape := ⟨1, ![1]⟩
abbrev S1x1x1 : Shape := ⟨3, ![1, 1, 1]⟩
abbrev S64x2x512 : Shape := ⟨3, ![64, 2, 512]⟩
abbrev S64x512x2 : Shape := ⟨3, ![64, 512, 2]⟩
abbrev S64x128x4x2 : Shape := ⟨4, ![64, 128, 4, 2]⟩
abbrev S128x4x4x2 : Shape := ⟨4, ![128, 4, 4, 2]⟩
abbrev S128x4x64 : Shape := ⟨3, ![128, 4, 64]⟩
abbrev S64x128x4 : Shape := ⟨3, ![64, 128, 4]⟩
abbrev S64x512x1 : Shape := ⟨3, ![64, 512, 1]⟩
abbrev S64x1x512 : Shape := ⟨3, ![64, 1, 512]⟩
abbrev S1x1x512 : Shape := ⟨3, ![1, 1, 512]⟩
abbrev S512x100000 : Shape := ⟨2, ![512, 100000]⟩
abbrev S64x100000 : Shape := ⟨2, ![64, 100000]⟩
abbrev S1x100000 : Shape := ⟨2, ![1, 100000]⟩
abbrev S64 : Shape := ⟨1, ![64]⟩
abbrev S6400000 : Shape := ⟨1, ![6400000]⟩
abbrev S8 : Shape := ⟨1, ![8]⟩
abbrev S8x1 : Shape := ⟨2, ![8, 1]⟩

abbrev nBuf : Space → Nat
  | .hbm => 137
  | .vmem => 0
  | .smem => 0
  | _ => 0

abbrev hbmTy0_0 (i : Nat) : BufTy := match i % 128 with
  | 0 => ⟨S64x2, .i32⟩
  | 1 => ⟨S64x512, .f32⟩
  | 2 => ⟨S64x1, .f32⟩
  | 3 => ⟨S100000x512, .f32⟩
  | 4 => ⟨S512x4x2, .f32⟩
  | 5 => ⟨S512x512, .f32⟩
  | 6 => ⟨S512, .f32⟩
  | 7 => ⟨S100000x512, .f32⟩
  | 8 => ⟨S100000, .f32⟩
  | 9 => ⟨S_, .i32⟩
  | 10 => ⟨S_, .i32⟩
  | 11 => ⟨S64x2, .i32⟩
  | 12 => ⟨S64x2, .i32⟩
  | 13 => ⟨S_, .i32⟩
  | 14 => ⟨S64x2, .i32⟩
  | 15 => ⟨S64x2, .i1⟩
  | 16 => ⟨S_, .i32⟩
  | 17 => ⟨S64x2, .i32⟩
  | 18 => ⟨S64x2, .i32⟩
  | 19 => ⟨S64x2, .i32⟩
  | 20 => ⟨S64x2x1, .i32⟩
  | 21 => ⟨S1, .i32⟩
  | 22 => ⟨S_, .i32⟩
  | 23 => ⟨S64x2x1, .i32⟩
  | 24 => ⟨S64x2x1, .i1⟩
  | 25 => ⟨S1x1x1, .i32⟩
  | 26 => ⟨S64x2x1, .i32⟩
  | 27 => ⟨S64x2x1, .i1⟩
  | 28 => ⟨S64x2x1, .i1⟩
  | 29 => ⟨S_, .i1⟩
  | 30 => ⟨S64x2, .i1⟩
  | 31 => ⟨S64x2x512, .f32⟩
  | 32 => ⟨S64x2x512, .i1⟩
  | 33 => ⟨S_, .f32⟩
  | 34 => ⟨S64x2x512, .f32⟩
  | 35 => ⟨S64x2x512, .f32⟩
  | 36 => ⟨S_, .i32⟩
  | 37 => ⟨S64x2, .i32⟩
  | 38 => ⟨S64x2, .i1⟩
  | 39 => ⟨S64x2x1, .i1⟩
  | 40 => ⟨S64x2x1, .f32⟩
  | 41 => ⟨S64x2x512, .f32⟩
  | 42 => ⟨S64x2x512, .f32⟩
  | 43 => ⟨S64x512x2, .f32⟩
  | 44 => ⟨S64x128x4x2, .f32⟩
  | 45 => ⟨S128x4x4x2, .f32⟩
  | 46 => ⟨S128x4x64, .f32⟩
  | 47 => ⟨S64x128x4, .f32⟩
  | 48 => ⟨S64x512x1, .f32⟩
  | 49 => ⟨S64x1x512, .f32⟩
  | 50 => ⟨S_, .f32⟩
  | 51 => ⟨S64x1x512, .f32⟩
  | 52 => ⟨S64x1x512, .f32⟩
  | 53 => ⟨S512x512, .f32⟩
  | 54 => ⟨S64x1x512, .f32⟩
  | 55 => ⟨S1x1x512, .f32⟩
  | 56 => ⟨S64x1x512, .f32⟩
  | 57 => ⟨S64x1x512, .f32⟩
  | 58 => ⟨S64x512, .f32⟩
  | 59 => ⟨S64x512, .f32⟩
  | 60 => ⟨S64x512, .f32⟩
  | 61 => ⟨S512x100000, .f32⟩
  | 62 => ⟨S64x100000, .f32⟩
  | 63 => ⟨S1x100000, .f32⟩
  | 64 => ⟨S64x100000, .f32⟩
  | 65 => ⟨S64x100000, .f32⟩
  | 66 => ⟨S_, .f32⟩
  | 67 => ⟨S64, .f32⟩
  | 68 => ⟨S_, .f32⟩
  | 69 => ⟨S64, .f32⟩
  | 70 => ⟨S64, .f32⟩
  | 71 => ⟨S64x1, .f32⟩
  | 72 => ⟨S64x100000, .f32⟩
  | 73 => ⟨S64x100000, .f32⟩
  | 74 => ⟨S64x100000, .f32⟩
  | 75 => ⟨S_, .f32⟩
  | 76 => ⟨S64, .f32⟩
  | 77 => ⟨S64x1, .f32⟩
  | 78 => ⟨S64x1, .f32⟩
  | 79 => ⟨S64x100000, .f32⟩
  | 80 => ⟨S64x100000, .f32⟩
  | 81 => ⟨S64x100000, .f32⟩
  | 82 => ⟨S64x100000, .f32⟩
  | 83 => ⟨S6400000, .f32⟩
  | 84 => ⟨S8, .f32⟩
  | 85 => ⟨S8, .i32⟩
  | 86 => ⟨S_, .i32⟩
  | 87 => ⟨S_, .i32⟩
  | 88 => ⟨S8, .i32⟩
  | 89 => ⟨S8, .i32⟩
  | 90 => ⟨S8, .i32⟩
  | 91 => ⟨S_, .i32⟩
  | 92 => ⟨S8, .i32⟩
  | 93 => ⟨S8, .i1⟩
  | 94 => ⟨S8, .i32⟩
  | 95 => ⟨S8, .i32⟩
  | 96 => ⟨S_, .i32⟩
  | 97 => ⟨S8, .i32⟩
  | 98 => ⟨S8, .i1⟩
  | 99 => ⟨S8, .i1⟩
  | 100 => ⟨S_, .i32⟩
  | 101 => ⟨S8, .i32⟩
  | 102 => ⟨S8, .i32⟩
  | 103 => ⟨S8, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S8, .i32⟩
  | 111 => ⟨S8, .i32⟩
  | 112 => ⟨S_, .i32⟩
  | 113 => ⟨S8, .i32⟩
  | 114 => ⟨S8, .i1⟩
  | 115 => ⟨S_, .i32⟩
  | 116 => ⟨S8, .i32⟩
  | 117 => ⟨S8, .i1⟩
  | 118 => ⟨S_, .i32⟩
  | 119 => ⟨S_, .i1⟩
  | 120 => ⟨S8, .i1⟩
  | 121 => ⟨S8, .i1⟩
  | 122 => ⟨S8, .i1⟩
  | 123 => ⟨S8, .i32⟩
  | 124 => ⟨S8, .i32⟩
  | 125 => ⟨S8, .i32⟩
  | 126 => ⟨S6400000, .f32⟩
  | 127 => ⟨S_, .i32⟩
  | _ => ⟨S64x2, .i32⟩

abbrev hbmTy0_1 (i : Nat) : BufTy := match i % 128 with
  | 0 => ⟨S8, .i32⟩
  | 1 => ⟨S8, .i1⟩
  | 2 => ⟨S_, .i32⟩
  | 3 => ⟨S8, .i32⟩
  | 4 => ⟨S8, .i32⟩
  | 5 => ⟨S8, .i32⟩
  | 6 => ⟨S8x1, .i32⟩
  | 7 => ⟨S8, .f32⟩
  | 8 => ⟨S8, .f32⟩
  | _ => ⟨S64x2, .i32⟩

abbrev hbmTy (i : Nat) : BufTy := match i / 128 with
  | 0 => hbmTy0_0 i
  | 1 => hbmTy0_1 i
  | _ => ⟨S64x2, .i32⟩

abbrev bufTy : (tb : Table) → Fin (tcTables nBuf tb) → BufTy
  | .hbm, ⟨i, _⟩ => hbmTy i
  | _, _ => ⟨S64x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v0 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v1 : Ref sig .tc := ⟨.hbm, 35, rfl⟩
abbrev main_c_0 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_call2_cst : Ref sig .tc := ⟨.hbm, 50, rfl⟩
abbrev main_call2_v0 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call3_cst : Ref sig .tc := ⟨.hbm, 66, rfl⟩
abbrev main_call3_v0 : Ref sig .tc := ⟨.hbm, 67, rfl⟩
abbrev main_call3_cst_0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_v6 : Ref sig .tc := ⟨.hbm, 74, rfl⟩
abbrev main_call3_cst_1 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_values : Ref sig .tc := ⟨.hbm, 84, rfl⟩
abbrev main_indices : Ref sig .tc := ⟨.hbm, 85, rfl⟩
abbrev main_c_1 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_c : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_c_0 : Ref sig .tc := ⟨.hbm, 100, rfl⟩
abbrev main_call4_v12 : Ref sig .tc := ⟨.hbm, 101, rfl⟩
abbrev main_call4_v13 : Ref sig .tc := ⟨.hbm, 102, rfl⟩
abbrev main_v33 : Ref sig .tc := ⟨.hbm, 103, rfl⟩
abbrev main_c_2 : Ref sig .tc := ⟨.hbm, 104, rfl⟩
abbrev main_call5_v0 : Ref sig .tc := ⟨.hbm, 105, rfl⟩
abbrev main_call5_c : Ref sig .tc := ⟨.hbm, 106, rfl⟩
abbrev main_call5_v1 : Ref sig .tc := ⟨.hbm, 107, rfl⟩
abbrev main_call5_c_0 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_c_1 : Ref sig .tc := ⟨.hbm, 112, rfl⟩
abbrev main_call5_v5 : Ref sig .tc := ⟨.hbm, 113, rfl⟩
abbrev main_call5_v6 : Ref sig .tc := ⟨.hbm, 114, rfl⟩
abbrev main_call5_c_2 : Ref sig .tc := ⟨.hbm, 115, rfl⟩
abbrev main_call5_v7 : Ref sig .tc := ⟨.hbm, 116, rfl⟩
abbrev main_call5_v8 : Ref sig .tc := ⟨.hbm, 117, rfl⟩
abbrev main_call5_c_3 : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_call5_v12 : Ref sig .tc := ⟨.hbm, 122, rfl⟩
abbrev main_call5_v13 : Ref sig .tc := ⟨.hbm, 123, rfl⟩
abbrev main_call5_v14 : Ref sig .tc := ⟨.hbm, 124, rfl⟩
abbrev main_v34 : Ref sig .tc := ⟨.hbm, 125, rfl⟩
abbrev main_v35 : Ref sig .tc := ⟨.hbm, 126, rfl⟩
abbrev main_c_3 : Ref sig .tc := ⟨.hbm, 127, rfl⟩
abbrev main_v36 : Ref sig .tc := ⟨.hbm, 128, rfl⟩
abbrev main_v37 : Ref sig .tc := ⟨.hbm, 129, rfl⟩
abbrev main_c_4 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩

abbrev nD : Nat := 1
abbrev τ : Topo := Topo.v7x

variable {F : FTy → Type} [FloatOps F]
-- ==== Proof.ScTile.lean ====
/-
  One task of the SparseCore gather, at a symbolic (core, subcore) pair.

  Task `w = 2 * subcore + core` of the first sixteen fetches its eight row numbers, gathers those rows of the table in
  four pieces of 128 columns each into its row buffer, and copies the buffer to its block of eight rows of the result.
  The other sixteen tasks do nothing. Ownership is dealt by the row's block: task `w` holds the row numbers and the
  result rows `j` with `j / 8 = w` — none when `w` is 16 or more — and one of thirty-two equal shares of the table.
  A task hands its result rows back at the gathered contents (`gathered`): row `j` is the table's row `ids j`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The program's labels. -/
abbrev ΛP : Labels := Pipeline.Sig Λ₀ (Fin 1) fun p => (pcfgs (F := F) p).Adm
/-- The SparseCore call's configuration. -/
abbrev K : SparseCore.Cfg τ sig (ΛP (F := F)) 1 := sc (F := F)
/-- No loop of the kernel needs a variant. -/
abbrev 𝒱₀ : Variants := Variants.none

/-- The handshake's ghost state. -/
abbrev UH : Type := URounds (GSem nD τ sig) ℕ
/-- The pipelined call's ghost state. -/
abbrev UP : Type := URounds (GSem nD τ sig) Unit
/-- The whole ghost state. -/
abbrev UU : Type := (UH × UP) × Counters

local notation "𝕄" => MT nD τ sig (HIx 1) (Elt F) ℕ UU ℕ

/-! ## The buffers -/

/-- The table's location. -/
abbrev eLoc (d : Dev nD) : Loc nD τ sig := (SparseCore.T d).loc main_arg3
/-- The row numbers' location. -/
abbrev iLoc (d : Dev nD) : Loc nD τ sig := (SparseCore.T d).loc main_v26
/-- The result's location. -/
abbrev oLoc (d : Dev nD) : Loc nD τ sig := (SparseCore.T d).loc main_v27

local notation "eV" => (Memref.whole Cert.KernelIdeal.main_arg3_scv : Memref Cert.KernelIdeal.sig Kind.scVector Space.hbm Cert.KernelIdeal.S100000x512 EltTy.f32)
local notation "iV" => (Memref.whole Cert.KernelIdeal.main_v26_scv : Memref Cert.KernelIdeal.sig Kind.scVector Space.hbm Cert.KernelIdeal.S128 EltTy.i32)
local notation "oV" => (Memref.whole Cert.KernelIdeal.main_v27_scv : Memref Cert.KernelIdeal.sig Kind.scVector Space.hbm Cert.KernelIdeal.S128x512 EltTy.f32)
local notation "sV" => (Memref.whole Cert.KernelIdeal.cc0_scratch0 : Memref Cert.KernelIdeal.sig Kind.scVector Space.vmem Cert.KernelIdeal.S8 EltTy.i32)
local notation "rV" => (Memref.whole Cert.KernelIdeal.cc0_scratch1 : Memref Cert.KernelIdeal.sig Kind.scVector Space.vmem Cert.KernelIdeal.S8x512 EltTy.f32)

/-- The row numbers and the result's elements in block `w` of eight rows. -/
def iSet (w : ℕ) : Finset S128.Idx := Finset.univ.filter fun j => (j 0).val / 8 = w
/-- The entries of the result a task writes. -/
def oSet (w : ℕ) : Finset S128x512.Idx := Finset.univ.filter fun j => (j 0).val / 8 = w

/-- The gathered rows: row `j` of the result is row `ids j` of the table. -/
def gathered (ids : S128.Idx → BitVec 32) (E : S100000x512.Idx → Elt F .f32) (hids : ∀ j, (ids j).toNat < 100000) : S128x512.Idx → Elt F .f32 :=
  fun j => E (fun | 0 => ⟨(ids (fun | 0 => ⟨(j 0).val, (j 0).isLt⟩)).toNat, hids _⟩ | 1 => ⟨(j 1).val, (j 1).isLt⟩)

variable [FloatOps F] [Named F]

section Tile

variable (d : Dev nD) (L : grid0.Coords)

/-- The task's core. -/
abbrev cV (L : grid0.Coords) : Fin τ.nSC := (L 0).castLE hcore0
/-- The task's subcore. -/
abbrev jV (L : grid0.Coords) : Fin τ.nSub := (L 1).castLE hsub0

/-- The task's number. -/
abbrev wid (L : grid0.Coords) : ℕ := 2 * (L 1).val + (L 0).val

omit [FloatOps F] [Named F] in
/-- The guard of the task's body: the first sixteen tasks work. -/
theorem cond_iff : ∀ L : grid0.Coords, (k0_cond1 L = 1#1 ↔ wid L < 16) := by decide +kernel

/-- The task's row numbers as a rectangle. -/
abbrev irowK (h : k0_cond1 L = 1#1) : Rect S128 := Rect.unit (s := S128) (k0_off1 L) S8.size (k0_off1_inb L h)
/-- The task's rows of the result as a rectangle. -/
abbrev orowK (h : k0_cond1 L = 1#1) : Rect S128x512 := Rect.unit (s := S128x512) (k0_off2 L) S8x512.size (k0_off2_inb L h)
/-- The task's row numbers. -/
abbrev iRowK (h : k0_cond1 L = 1#1) : Memref sig .scVector .hbm S8 .i32 := (iV).slice (irowK L h) (fun _ => rfl)
/-- The task's rows of the result. -/
abbrev oRowK (h : k0_cond1 L = 1#1) : Memref sig .scVector .hbm S8x512 .f32 := (oV).slice (orowK L h) (fun _ => rfl)

omit [FloatOps F] [Named F] in
/-- The entries the task's row numbers are. -/
theorem set_iRowK (h : k0_cond1 L = 1#1) : (iRowK L h).view.set = iSet (wid L) := by
  show ((View.whole (main_v26_scv : Ref sig .scVector)).slice (irowK L h)).set = _
  rw [View.set_slice_whole]
  ext j
  rw [Rect.mem_set_unit, k0_off1_eq]
  simp only [iSet, wid, Finset.mem_filter, Finset.mem_univ, true_and]
  constructor
  · intro H
    have h0 := H 0
    simp at h0
    omega
  · intro H a
    match a with
    | 0 => simp; omega

omit [FloatOps F] [Named F] in
/-- The entries the task's rows of the result are. -/
theorem set_oRowK (h : k0_cond1 L = 1#1) : (oRowK L h).view.set = oSet (wid L) := by
  show ((View.whole (main_v27_scv : Ref sig .scVector)).slice (orowK L h)).set = _
  rw [View.set_slice_whole]
  ext j
  rw [Rect.mem_set_unit, k0_off2_eq]
  simp only [oSet, wid, Finset.mem_filter, Finset.mem_univ, true_and]
  constructor
  · intro H
    have h0 := H 0
    simp at h0
    omega
  · intro H a
    match a with
    | 0 => simp; omega
    | 1 => simpa using (show (j 1).val < 512 from (j 1).isLt)

/-- The semaphore the gathers signal. -/
abbrev cGcell (d : Dev nD) (c : Fin τ.nSC) (i : Fin τ.nSub) : GSem nD τ sig := (V d c i, .dma cc0_scratch2.sem)
/-- The semaphore the copy in signals. -/
abbrev cAcell (d : Dev nD) (c : Fin τ.nSC) (i : Fin τ.nSub) : GSem nD τ sig := (V d c i, .dma cc0_scoped0.sem)
/-- The semaphore the copy out signals. -/
abbrev cBcell (d : Dev nD) (c : Fin τ.nSC) (i : Fin τ.nSub) : GSem nD τ sig := (V d c i, .dma cc0_scoped1.sem)

omit [FloatOps F] [Named F] in
/-- The task's three DMA semaphores are among its own. -/
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] [Named F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable (I : Buf (Elt F) (iLoc d)) (E : Buf (Elt F) (eLoc d)) (O0 : Buf (Elt F) (oLoc d))

/-- The offsets the streams read are in range: what the fetch landed is the task's block of the row numbers. -/
theorem inb_of_ids (hids : ∀ j : S128.Idx, (I j : BitVec 32).toNat < 100000) (h : k0_cond1 L = 1#1) (g : Buf (Elt F) ((sV).view.loc (V d (cV L) (jV L)))) :
    ∀ x, ((sV).view.read (Elt F) (View.write (Elt F) (sV).view g ((iRowK L h).view.read (Elt F) I) Finset.univ) x).toNat < 100000 := by
  intro x
  rw [View.write_whole_univ]
  simp only [Memref.view_whole, View.read_whole]
  rw [show ∀ j, (iRowK L h).view.read (Elt F) I j = I ((iRowK L h).view.emb j) from fun j => (View.read_apply _ _).trans (cast_eq _ _)]
  exact hids _

/-- The row buffer once gathered: row `x` of the task's block of the result. -/
def rowsOf (hids : ∀ j : S128.Idx, (I j : BitVec 32).toNat < 100000) (h : k0_cond1 L = 1#1) : S8x512.Idx → Elt F .f32 :=
  fun x => gathered I E hids ((orowK L h).emb x)

omit [FloatOps F] [Named F] in
/-- A gather's 128 columns are those of the gathered rows. -/
theorem gather_piece (hids : ∀ j : S128.Idx, (I j : BitVec 32).toNat < 100000) (h : k0_cond1 L = 1#1)
    (c : ℕ) (inb) (inbr) (hs) (hn) (g : Buf (Elt F) ((sV).view.loc (V d (cV L) (jV L)))) (pay : S8.Idx → Elt F .i32)
    (hpay : pay = (iRowK L h).view.read (Elt F) I) (hin) (x : S8x128.Idx) :
    SparseCore.gatherPayload gathers_S100000x128_S8x128
      (View.read (Elt F) ((eV).slice (Rect.unit (s := S100000x512) ![0, c] S100000x128.size inb) hs).view E)
      (SparseCore.rows (View.read (Elt F) (sV).view (View.write (Elt F) (sV).view g pay Finset.univ)) hn hin) x
    = rowsOf d L I E hids h ((Rect.unit (s := S8x512) ![0, c] S8x128.size inbr).emb x) := by
  subst hpay
  unfold SparseCore.gatherPayload rowsOf gathered
  rw [View.read_apply]
  refine (cast_eq _ _).trans (congrArg E ?_)
  have hk : ∀ k : Fin 8, S8.rowMajor.symm (Fin.cast hn.symm k) = (fun | 0 => k : S8.Idx) := fun k => by
    rw [Equiv.symm_apply_eq]
    exact Fin.ext (Shape.rowMajor_val_one (d := ![8]) (fun | 0 => k)).symm
  have hrd : ∀ y : S8.Idx, View.read (Elt F) (sV).view (View.write (Elt F) (sV).view g ((iRowK L h).view.read (Elt F) I) Finset.univ) y
      = I ((irowK L h).emb y) := fun y => by
    rw [View.write_whole_univ]
    simp only [Memref.view_whole, View.read_whole]
    exact (View.read_apply _ _).trans (cast_eq _ _)
  have e0 := Shape.Gathers.idx_axis gathers_S100000x128_S8x128
    (SparseCore.rows (View.read (Elt F) (sV).view (View.write (Elt F) (sV).view g ((iRowK L h).view.read (Elt F) I) Finset.univ)) hn hin) x
  have e1 := Shape.Gathers.idx_of_ne gathers_S100000x128_S8x128
    (SparseCore.rows (View.read (Elt F) (sV).view (View.write (Elt F) (sV).view g ((iRowK L h).view.read (Elt F) I) Finset.univ)) hn hin) x 1 (by decide)
  funext a
  match a with
  | 0 =>
    apply Fin.ext
    show 0 + 1 * _ = _
    rw [Nat.zero_add, Nat.one_mul]
    refine (congrArg Fin.val e0).trans ?_
    have hi : (irowK L h).emb (S8.rowMajor.symm (Fin.cast hn.symm (x 0)))
        = (fun | 0 => ⟨((orowK L h).emb ((Rect.unit (s := S8x512) ![0, c] S8x128.size inbr).emb x) 0).val,
            ((orowK L h).emb ((Rect.unit (s := S8x512) ![0, c] S8x128.size inbr).emb x) 0).isLt⟩ : S128.Idx) := by
      refine (congrArg (irowK L h).emb (hk (x 0))).trans ?_
      funext b
      match b with
      | 0 =>
        apply Fin.ext
        show k0_off1 L 0 + 1 * (x 0).val = k0_off2 L 0 + 1 * (0 + 1 * (x 0).val)
        rw [k0_off1_eq, k0_off2_eq]
        simp
    have hv := (hrd (S8.rowMajor.symm (Fin.cast hn.symm (x 0)))).trans (congrArg I hi)
    have hh := congrArg (fun v : BitVec 32 => v.toNat) hv
    exact hh
  | 1 =>
    apply Fin.ext
    show c + 1 * _ = k0_off2 L 1 + 1 * (c + 1 * (x 1).val)
    rw [e1, k0_off2_eq]
    show c + 1 * (x 1).val = 0 + 1 * (c + 1 * (x 1).val)
    omega

set_option maxHeartbeats 4000000 in
/-- A task that works: from its row numbers, a share of the table and its rows of the result, it leaves the gathered rows. -/
theorem tile_work (hF : (K (F := F)).Facts) (hids : ∀ j : S128.Idx, (I j : BitVec 32).toNat < 100000) (h : k0_cond1 L = 1#1) (q : PosShare TreeShare)
    (O : CellTallies nD τ sig (HIx 1)) (W : Waits sig (HIx 1)) (hO : ∀ g, O g none = 0)
    (fs : Buf (Elt F) ((sV).view.loc (V d (cV L) (jV L)))) (fr : Buf (Elt F) ((rV).view.loc (V d (cV L) (jV L)))) :
    iprop(levAts (K (F := F)).L (K (F := F)).lev
        ∗ ((iRowK L h).view.loc (V d (cV L) (jV L)) ↦[(iRowK L h).view.set]{fullShare} I : sProp 𝕄)
        ∗ ((eV).view.loc (V d (cV L) (jV L)) ↦{q} E)
        ∗ ((oRowK L h).view.loc (V d (cV L) (jV L)) ↦[(oRowK L h).view.set]{fullShare} O0)
        ∗ ((sV).view.loc (V d (cV L) (jV L)) ↦{fullShare} fs) ∗ ((rV).view.loc (V d (cV L) (jV L)) ↦{fullShare} fr)
        ∗ semVal (cAcell d (cV L) (jV L)) 0 ∗ semVal (cGcell d (cV L) (jV L)) 0 ∗ semVal (cBcell d (cV L) (jV L)) 0
        ∗ owes (V d (cV L) (jV L)) O W)
      ⊢ wp frame (wpE (defs₀ (F := F)) 𝒱₀ (V d (cV L) (jV L)) none) Set.univ
          (cc0_k L eV (Memref.isWhole_whole _) iV (Memref.isWhole_whole _) oV (Memref.isWhole_whole _)
            sV (Memref.isWhole_whole _) rV (Memref.isWhole_whole _) cc0_scratch2 cc0_scoped0 cc0_scoped1)
          fun _ => iprop(((iRowK L h).view.loc (V d (cV L) (jV L)) ↦[(iRowK L h).view.set]{fullShare} I)
        ∗ ((eV).view.loc (V d (cV L) (jV L)) ↦{q} E)
        ∗ ((oRowK L h).view.loc (V d (cV L) (jV L)) ↦[(oRowK L h).view.set]{fullShare} gathered I E hids)
        ∗ (∃ f, (sV).view.loc (V d (cV L) (jV L)) ↦{fullShare} f) ∗ (∃ f, (rV).view.loc (V d (cV L) (jV L)) ↦{fullShare} f)
        ∗ semVal (cAcell d (cV L) (jV L)) 0 ∗ semVal (cGcell d (cV L) (jV L)) 0 ∗ semVal (cBcell d (cV L) (jV L)) 0
            ∗ ∃ W', ⌜∀ p ∈ W', p ∈ W ∨ p.2 = none⌝ ∗ owes (V d (cV L) (jV L)) O W') := by
  rw [cc0_k_eq_skeleton]; unfold cc0_k_skel
  rw [dif_pos h, k0_part1_eq_skeleton]; unfold k0_part1_skel
  iintro ⟨#Hlv, Hi, Hx, Ho, Hs, Hr, HsemA, HsemG, HsemB, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  have hin := inb_of_ids d L I hids h
  sl_exec
  have hval : ∀ j ∈ (oRowK L h).view.set,
      (oRowK L h).view.writes (Elt F) O0 [⟨Rect.whole S8x512, tile_work.sl.dma0_1 d L I E h fs fr hin⟩] j = gathered I E hids j := by
    intro j hj
    obtain ⟨x, -, rfl⟩ := Finset.mem_map.mp hj
    have e := congrFun (View.read_writes_whole (oRowK L h).view O0 (tile_work.sl.dma0_1 d L I E h fs fr hin)) x
    rw [View.read_apply] at e
    refine ((cast_eq _ _).symm.trans e).trans ?_
    refine (View.read_writes_apply_of_pieces (rV).view fr (rowsOf d L I E hids h) _ ?_ x ?_).trans ?_
    · refine List.forall_mem_cons.mpr ⟨?_, List.forall_mem_cons.mpr ⟨?_, List.forall_mem_cons.mpr ⟨?_, List.forall_mem_cons.mpr ⟨?_, fun _ h => absurd h List.not_mem_nil⟩⟩⟩⟩
      · exact gather_piece d L I E hids h 384 inb_S100000x512_S100000x128_0_384 inb_S8x512_S8x128_0_384 (fun _ => rfl) rfl fs _ rfl (hin fs)
      · exact gather_piece d L I E hids h 256 inb_S100000x512_S100000x128_0_256 inb_S8x512_S8x128_0_256 (fun _ => rfl) rfl fs _ rfl (hin fs)
      · exact gather_piece d L I E hids h 128 inb_S100000x512_S100000x128_0_128 inb_S8x512_S8x128_0_128 (fun _ => rfl) rfl fs _ rfl (hin fs)
      · exact gather_piece d L I E hids h 0 inb_S100000x512_S100000x128_0_0 inb_S8x512_S8x128_0_0 (fun _ => rfl) rfl fs _ rfl (hin fs)
    · have h0 : (x 0).val < 8 := (x 0).isLt
      have h1 : (x 1).val < 512 := (x 1).isLt
      rcases (by omega : (x 1).val < 128 ∨ (128 ≤ (x 1).val ∧ (x 1).val < 256) ∨ (256 ≤ (x 1).val ∧ (x 1).val < 384) ∨ 384 ≤ (x 1).val)
        with hc | hc | hc | hc
      · refine ⟨_, .tail _ (.tail _ (.tail _ (.head _))), ?_⟩
        rw [Rect.mem_set_unit]; intro a
        match a with
        | 0 => simpa using h0
        | 1 => simpa using hc
      · refine ⟨_, .tail _ (.tail _ (.head _)), ?_⟩
        rw [Rect.mem_set_unit]; intro a
        match a with
        | 0 => simpa using h0
        | 1 => simpa using hc
      · refine ⟨_, .tail _ (.head _), ?_⟩
        rw [Rect.mem_set_unit]; intro a
        match a with
        | 0 => simpa using h0
        | 1 => simpa using hc
      · refine ⟨_, .head _, ?_⟩
        rw [Rect.mem_set_unit]; intro a
        match a with
        | 0 => simpa using h0
        | 1 => simpa using ⟨hc, h1⟩
    · rfl
  sl_step
  isplitl [Hi]; · iexact Hi
  isplitl [Hx]; · iexact Hx
  isplitl [Ho]; · iapply (Entails.of_eq (pointsTo_congr hval)); iexact Ho
  isplitl [Hs]; · iexists _; iexact Hs
  isplitl [Hr]; · iexists _; iexact Hr
  isplitl [HsemA]; · iexact HsemA
  isplitl [HsemG]; · iexact HsemG
  isplitl [HsemB]; · iexact HsemB
  iexists _; isplitr
  swap; · iexact HO
  ipureintro; intro p hp
  simp only [Finset.mem_insert] at hp
  rcases hp with rfl | rfl | rfl | rfl | rfl | rfl | hp
  all_goals first | exact .inl hp | exact .inr rfl

/-! ## The task over what the handshake hands it -/

/-- Task `w`'s operands: its block of the row numbers, one of the table's thirty-two shares, its block of the result. -/
abbrev taskRes (d : Dev nD) (I : Buf (Elt F) (iLoc d)) (E : Buf (Elt F) (eLoc d)) (R : Buf (Elt F) (oLoc d)) (w : Fin 32) : sProp 𝕄 :=
  iprop((iLoc d ↦[iSet w.val]{fullShare} I) ∗ (eLoc d ↦{ShareLeaves.leaf 5 fullShare w} E) ∗ (oLoc d ↦[oSet w.val]{fullShare} R))

omit [FloatOps F] [Named F] in
/-- A task's number is below 32. -/
theorem wid_lt (L : grid0.Coords) : wid L < 32 := by
  have h0 : (L 0).val < 2 := (L 0).isLt
  have h1 : (L 1).val < 16 := (L 1).isLt
  unfold wid; omega

/-- A task's number as one of thirty-two. -/
abbrev widF (L : grid0.Coords) : Fin 32 := ⟨wid L, wid_lt L⟩

omit [FloatOps F] [Named F] in
/-- A task that does not work has no entry of the result. -/
theorem oSet_idle (w : ℕ) (h : ¬w < 16) : oSet w = ∅ := by
  unfold oSet
  refine Finset.filter_eq_empty_iff.mpr fun j _ => ?_
  have : (j 0).val < 128 := (j 0).isLt
  omega

/-- The task on vector subcore `(L 0, L 1)` of device `d`, working or idle: its block of the result comes back gathered. -/
theorem tile_body (hF : (K (F := F)).Facts) (hids : ∀ j : S128.Idx, (I j : BitVec 32).toNat < 100000)
    (O : CellTallies nD τ sig (HIx 1)) (W : Waits sig (HIx 1)) (hO : ∀ g, O g none = 0) :
    iprop(levAts (K (F := F)).L (K (F := F)).lev ∗ emp ∗ taskRes d I E O0 (widF L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L eV (Memref.isWhole_whole _) iV (Memref.isWhole_whole _) oV (Memref.isWhole_whole _)
            sV (Memref.isWhole_whole _) rV (Memref.isWhole_whole _) cc0_scratch2 cc0_scoped0 cc0_scoped1)
          fun _ => iprop(taskRes d I E (gathered I E hids) (widF L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h : k0_cond1 L = 1#1
  · rw [(K (F := F)).scopedBufs_V hF d (cV L) (jV L), SparseCore.Cfg.scopedSems0_V (Val := Elt F) d (cV L) (jV L), ownSems0_V, ownBufs_V]
    unfold taskRes
    rw [← set_iRowK L h, ← set_oRowK L h]
    iintro ⟨Hlv, -, ⟨Hi, Hx, Ho⟩, ⟨⟨%fs, Hs⟩, ⟨%fr, Hr⟩, Hbufs⟩, ⟨HsemA, HsemG, HsemB, Hsems⟩, HO⟩
    iapply (wp_wand frame _ _) $$ [Hlv Hi Hx Ho Hs Hr HsemA HsemG HsemB HO]
    · iapply (tile_work d L I E O0 hF hids h (ShareLeaves.leaf 5 fullShare (widF L)) O W hO fs fr)
      isplitl [Hlv]; · iexact Hlv
      isplitl [Hi]; · iexact Hi
      isplitl [Hx]; · iexact Hx
      isplitl [Ho]; · iexact Ho
      isplitl [Hs]; · iexact Hs
      isplitl [Hr]; · iexact Hr
      isplitl [HsemA]; · iexact HsemA
      isplitl [HsemG]; · iexact HsemG
      isplitl [HsemB]; · iexact HsemB
      iexact HO
    iintro %_ ⟨Hi, Hx, Ho, Hs, Hr, HsemA, HsemG, HsemB, HO⟩
    isplitl [Hi Hx Ho]
    · isplitl [Hi]; · iexact Hi
      isplitl [Hx]; · iexact Hx
      iexact Ho
    isplitl [Hs Hr Hbufs]
    · isplitl [Hs]; · iexact Hs
      isplitl [Hr]; · iexact Hr
      iexact Hbufs
    isplitl [HsemA HsemG HsemB Hsems]
    · isplitl [HsemA]; · iexact HsemA
      isplitl [HsemG]; · iexact HsemG
      isplitl [HsemB]; · iexact HsemB
      iexact Hsems
    iexact HO
  · rw [cc0_k_eq_skeleton]; unfold cc0_k_skel
    rw [dif_neg h]
    unfold taskRes
    rw [oSet_idle (wid L) fun hw => h ((cond_iff L).mpr hw)]
    iintro ⟨-, -, ⟨Hi, Hx, Ho⟩, Hbufs, Hsems, HO⟩
    sl_step
    isplitl [Hi Hx Ho]
    · isplitl [Hi]; · iexact Hi
      isplitl [Hx]; · iexact Hx
      iapply (Entails.of_eq (pointsTo_congr (f := O0) fun j hj => absurd hj (Finset.notMem_empty j))); iexact Ho
    isplitl [Hbufs]; · iexact Hbufs
    isplitl [Hsems]; · iexact Hsems
    iexists W; isplitr
    · ipureintro; exact fun p hp => .inl hp
    iexact HO

end Tile

end Cert.Proof.Gather

end
-- ==== Proof.Step.lean ====
/-
  The beam kernel's step as pure functions over the values it reads: the running maximum and sum of a block of logits, the
  block's eight best columns written into the candidate lanes, the merge of the lanes to the eight best, and the eight results
  read off the lanes at the end.
-/
module

public import proofs.«01_k».proof.Proof.Gen.KernelIdeal.Skeleton

@[expose] public section

set_option maxRecDepth 16384

noncomputable section

namespace Cert.Proof.Beam

open Cert.KernelIdeal Cert.KernelIdeal.Gen
open Idealize.ShloMosaic

variable {F : FTy → Type} [FloatOps F] [Named F]

/-- The value standing for no candidate. -/
def mask : F .f32 := Named.named κ "mask" 0xF149F2CA#32

/-- The number of each lane, and of each column of a block. -/
def lane : IVec S64x128 32 := iota .tc S64x128 32 [1] iota_S64x128_d1_w32
/-- The columns' numbers. -/
def colid : IVec S64x5000 32 := iota .tc S64x5000 32 [1] iota_S64x5000_d1_w32

/-- A column repeated over the lanes. -/
def wide {α : Type} (x : S64x1.Idx → α) : S64x128.Idx → α :=
  broadcastTo S64x128 (shapeCast S64x1 x shapeCasts_S64x1_S64x1) broadcasts_S64x1_S64x128

/-! ## The eight best columns of a block -/

/-- Each row's maximum. -/
def bmax (v : FVec F S64x5000 .f32) : FVec F S64x1 .f32 :=
  shapeCast S64x1 (multiReduction .maximumf [1] S64 v 0xFF800000#32 reduces_S64x5000_S64 (.inl rfl) rfl) shapeCasts_S64_S64x1

/-- The first column at which each row holds its maximum. -/
def bcol (v : FVec F S64x5000 .f32) : IVec S64x1 32 :=
  shapeCast S64x1 (multiReductionI .minsi [1] S64
    (select (cmpf .oeq v (broadcastTo S64x5000 (bmax v) broadcasts_S64x1_S64x5000)) colid (broadcast S64x5000 1073741824#32))
    2147483647#32 reduces_S64x5000_S64 rfl) shapeCasts_S64_S64x1

/-- That column masked. -/
def bkill (v : FVec F S64x5000 .f32) : FVec F S64x5000 .f32 :=
  select (cmpi .eq colid (broadcastTo S64x5000 (bcol v) broadcasts_S64x1_S64x5000)) (broadcast S64x5000 mask) v

/-- The block with its first `n` best columns masked. -/
def bkilled (v : FVec F S64x5000 .f32) : ℕ → FVec F S64x5000 .f32
  | 0 => v
  | n + 1 => bkill (bkilled v n)

/-- The lane the `n`-th best column of the block numbered `jj` in its group goes to. -/
def bsel (jj : BitVec 32) (n : ℕ) : IVec S64x128 1 :=
  cmpi .eq lane (broadcast S64x128 (Scalar.addi (Scalar.addi 8#32 (Scalar.muli 8#32 jj)) (BitVec.ofNat 32 n)))

/-- The candidates' values with the block's first `n` best written in. -/
def candV (jj : BitVec 32) (v : FVec F S64x5000 .f32) (cv : FVec F S64x128 .f32) : ℕ → FVec F S64x128 .f32
  | 0 => cv
  | n + 1 => select (bsel jj n) (wide (bmax (bkilled v n))) (candV jj v cv n)

/-- The candidates' columns with the block's first `n` best written in. -/
def candI (b jj : BitVec 32) (v : FVec F S64x5000 .f32) (ci : IVec S64x128 32) : ℕ → IVec S64x128 32
  | 0 => ci
  | n + 1 => select (bsel jj n) (wide (addi (broadcast S64x1 (Scalar.muli b 5000#32)) (bcol (bkilled v n)))) (candI b jj v ci n)

/-! ## The merge of the lanes -/

/-- Each row's maximum over the lanes. -/
def mmax (w : FVec F S64x128 .f32) : FVec F S64x1 .f32 :=
  shapeCast S64x1 (multiReduction .maximumf [1] S64 w 0xFF800000#32 reduces_S64x128_S64 (.inl rfl) rfl) shapeCasts_S64_S64x1

/-- The first lane that holds it. -/
def mlane (w : FVec F S64x128 .f32) : IVec S64x1 32 :=
  shapeCast S64x1 (multiReductionI .minsi [1] S64
    (select (cmpf .oeq w (broadcastTo S64x128 (mmax w) broadcasts_S64x1_S64x128)) lane (broadcast S64x128 1073741824#32))
    2147483647#32 reduces_S64x128_S64 rfl) shapeCasts_S64_S64x1

/-- The column that lane keeps. -/
def mtok (w : FVec F S64x128 .f32) (ci : IVec S64x128 32) : IVec S64x1 32 :=
  shapeCast S64x1 (multiReductionI .minsi [1] S64
    (select (cmpi .eq lane (broadcastTo S64x128 (mlane w) broadcasts_S64x1_S64x128)) ci (broadcast S64x128 1073741824#32))
    2147483647#32 reduces_S64x128_S64 rfl) shapeCasts_S64_S64x1

/-- That lane masked. -/
def mkill (w : FVec F S64x128 .f32) : FVec F S64x128 .f32 :=
  select (cmpi .eq lane (broadcastTo S64x128 (mlane w) broadcasts_S64x1_S64x128)) (broadcast S64x128 mask) w

/-- The lanes with the first `n` best masked. -/
def mkilled (w : FVec F S64x128 .f32) : ℕ → FVec F S64x128 .f32
  | 0 => w
  | n + 1 => mkill (mkilled w n)

/-- The merged values: the `n` best in lanes `0 … n-1`, the mask in the others. -/
def mergeV (w : FVec F S64x128 .f32) : ℕ → FVec F S64x128 .f32
  | 0 => broadcast S64x128 mask
  | n + 1 => select (cmpi .eq lane (broadcast S64x128 (BitVec.ofNat 32 n))) (wide (mmax (mkilled w n))) (mergeV w n)

/-- The merged columns. -/
def mergeI (w : FVec F S64x128 .f32) (ci : IVec S64x128 32) : ℕ → IVec S64x128 32
  | 0 => broadcast S64x128 0#32
  | n + 1 => select (cmpi .eq lane (broadcast S64x128 (BitVec.ofNat 32 n))) (wide (mtok (mkilled w n) ci)) (mergeI w ci n)

/-! ## The results -/

/-- Each row's number. -/
def rowid : IVec S64x128 32 := iota .tc S64x128 32 [0] iota_S64x128_d0_w32

/-- The largest, and the least, entry of all. -/
def gmax (w : FVec F S64x128 .f32) : F .f32 :=
  extractAt ![0, 0, 0] (shapeCast S1x1x1 (multiReduction .maximumf [1, 2] S1 (shapeCast S1x64x128 w shapeCasts_S64x128_S1x64x128)
    0xFF800000#32 reduces_S1x64x128_S1 (.inl rfl) rfl) shapeCasts_S1_S1x1x1) inpos_S1x1x1_p0_0_0
/-- The minimum over all rows and lanes. -/
def gmin (w : FVec F S64x128 .f32) : F .f32 :=
  extractAt ![0, 0, 0] (shapeCast S1x1x1 (multiReduction .minimumf [1, 2] S1 (shapeCast S1x64x128 w shapeCasts_S64x128_S1x64x128)
    0x7F800000#32 reduces_S1x64x128_S1 (.inl rfl) rfl) shapeCasts_S1_S1x1x1) inpos_S1x1x1_p0_0_0

/-- The least word of those selected. -/
def gminI (sel : IVec S64x128 1) (x : IVec S64x128 32) : BitVec 32 :=
  extractAt ![0, 0, 0] (shapeCast S1x1x1 (multiReductionI .minsi [1, 2] S1
    (shapeCast S1x64x128 (select sel x (broadcast S64x128 1073741824#32)) shapeCasts_S64x128_S1x64x128)
    2147483647#32 reduces_S1x64x128_S1 rfl) shapeCasts_S1_S1x1x1) inpos_S1x1x1_p0_0_0

/-- Where the largest entry is held with the least flat index. -/
def gsel (fl : IVec S64x128 32) (w : FVec F S64x128 .f32) : IVec S64x128 1 :=
  andi (cmpf .oeq w (broadcast S64x128 (gmax w)))
    (cmpi .eq fl (broadcast S64x128 (gminI (cmpf .oeq w (broadcast S64x128 (gmax w))) fl)))

/-- That place masked. -/
def gkill (fl : IVec S64x128 32) (w : FVec F S64x128 .f32) : FVec F S64x128 .f32 :=
  select (gsel fl w) (broadcast S64x128 mask) w

/-- The entries with the first `n` best masked. -/
def gkilled (fl : IVec S64x128 32) (w : FVec F S64x128 .f32) : ℕ → FVec F S64x128 .f32
  | 0 => w
  | n + 1 => gkill fl (gkilled fl w n)

/-- The scores of the candidates: their logits with the hypothesis' score, less the row's log of the sum of exponentials. -/
def adj (m s hyp cv : FVec F S64x128 .f32) : FVec F S64x128 .f32 :=
  subf (addf cv (shapeCast S64x128 hyp shapeCasts_S64x128_S64x128))
    (broadcastTo S64x128 (addf (extractStridedSlice S64x1 ![0, 0] m slices_S64x128_o0_0_S64x1)
      (log (extractStridedSlice S64x1 ![0, 0] s slices_S64x128_o0_0_S64x1))) broadcasts_S64x1_S64x128)

/-- Each candidate's index in the flattened scores. -/
def flat (ci : IVec S64x128 32) : IVec S64x128 32 := addi (muli rowid (broadcast S64x128 100000#32)) ci

/-- A value at lane `n` of the result. -/
def atLane {α : Type} (n : ℕ) (x : α) (o : S1x128.Idx → α) : S1x128.Idx → α :=
  select (cmpi .eq (iota .tc S1x128 32 [1] iota_S1x128_d1_w32) (broadcast S1x128 (BitVec.ofNat 32 n))) (broadcast S1x128 x) o

/-- The hypothesis' score at the selected place. -/
def hypAt (sel : IVec S64x128 1) (hyp : FVec F S64x128 .f32) : F .f32 :=
  gmin (select sel (shapeCast S64x128 hyp shapeCasts_S64x128_S64x128) (broadcast S64x128 (Named.named κ "big" 0x4E800000#32)))

/-- The four results with their first `n` lanes written. -/
def outG (fl : IVec S64x128 32) (w : FVec F S64x128 .f32) : ℕ → FVec F S1x128 .f32
  | 0 => broadcast S1x128 (Scalar.ofBits .f32 0x00000000#32)
  | n + 1 => atLane n (gmax (gkilled fl w n)) (outG fl w n)
/-- The probabilities after some rounds. -/
def outP (fl : IVec S64x128 32) (hyp w : FVec F S64x128 .f32) : ℕ → FVec F S1x128 .f32
  | 0 => broadcast S1x128 (Scalar.ofBits .f32 0x00000000#32)
  | n + 1 => atLane n (Scalar.exp (Scalar.subf (gmax (gkilled fl w n)) (hypAt (gsel fl (gkilled fl w n)) hyp))) (outP fl hyp w n)
/-- The rows after some rounds. -/
def outR (fl : IVec S64x128 32) (w : FVec F S64x128 .f32) : ℕ → IVec S1x128 32
  | 0 => broadcast S1x128 0#32
  | n + 1 => atLane n (gminI (gsel fl (gkilled fl w n)) rowid) (outR fl w n)
/-- The tokens after some rounds. -/
def outT (fl ci : IVec S64x128 32) (w : FVec F S64x128 .f32) : ℕ → IVec S1x128 32
  | 0 => broadcast S1x128 0#32
  | n + 1 => atLane n (gminI (gsel fl (gkilled fl w n)) ci) (outT fl ci w n)

end Cert.Proof.Beam

end
-- ==== Proof.Final.lean ====
/-
  The values the last point computes, named as the kernel names them, are the results' step functions.
-/
module

public import proofs.«01_k».proof.Proof.Step

@[expose] public section

set_option maxRecDepth 16384

noncomputable section

namespace Cert.Proof.Beam

open Cert.KernelIdeal Cert.KernelIdeal.Gen
open Idealize.ShloMosaic

variable {F : FTy → Type} [FloatOps F] [Named F]

/-- The four results from the chain of values the last point's parts hand on: each value is rewritten to the step function it
    is, its arguments already rewritten, the scores after `k` rounds named `wₖ`. -/
theorem final_eq (m s hyp cv : FVec F S64x128 .f32) (ci : IVec S64x128 32)
    {v432 : BitVec 32}
    {v426 : F .f32}
    {v420 : IVec S64x128 1}
    {v409 : F .f32}
    {v403 : IVec S1x128 32}
    {v399 : IVec S1x128 32}
    {v395 : FVec F S1x128 .f32}
    {v389 : FVec F S1x128 .f32}
    {v384 : IVec S1x1x1 32}
    {v379 : BitVec 32}
    {v373 : F .f32}
    {v367 : IVec S64x128 1}
    {v356 : F .f32}
    {v352 : FVec F S64x128 .f32}
    {v350 : IVec S1x128 32}
    {v346 : IVec S1x128 32}
    {v342 : FVec F S1x128 .f32}
    {v336 : FVec F S1x128 .f32}
    {v332 : BitVec 32}
    {v326 : BitVec 32}
    {v320 : F .f32}
    {v314 : IVec S64x128 1}
    {v303 : F .f32}
    {v299 : FVec F S64x128 .f32}
    {v297 : IVec S1x128 32}
    {v293 : IVec S1x128 32}
    {v289 : FVec F S1x128 .f32}
    {v283 : FVec F S1x128 .f32}
    {v279 : BitVec 32}
    {v273 : BitVec 32}
    {v261 : IVec S64x128 1}
    {v246 : FVec F S64x128 .f32}
    {v244 : IVec S1x128 32}
    {v242 : IVec S1x128 1}
    {v240 : IVec S1x128 32}
    {v236 : FVec F S1x128 .f32}
    {v230 : FVec F S1x128 .f32}
    {v220 : BitVec 32}
    {v208 : IVec S64x128 1}
    {v194 : FVec F S1x64x128 .f32}
    {v193 : FVec F S64x128 .f32}
    {v191 : IVec S1x128 32}
    {v187 : IVec S1x128 32}
    {v183 : FVec F S1x128 .f32}
    {v177 : FVec F S1x128 .f32}
    {v147 : IVec S64x128 32}
    {v146 : IVec S64x128 1}
    {v144 : F .f32}
    {v140 : FVec F S64x128 .f32}
    {v138 : IVec S1x128 32}
    {v134 : IVec S1x128 32}
    {v130 : FVec F S1x128 .f32}
    {v124 : FVec F S1x128 .f32}
    {v100 : IVec S64x128 32}
    {v93 : IVec S64x128 1}
    {v91 : F .f32}
    {v87 : FVec F S64x128 .f32}
    {v85 : IVec S1x128 32}
    {v81 : IVec S1x128 32}
    {v77 : FVec F S1x128 .f32}
    {v71 : FVec F S1x128 .f32}
    {v52 : FVec F S1x64x128 .f32}
    {v49 : IVec S64x128 1}
    {v38 : F .f32}
    {v34 : IVec S1x128 32}
    {v33 : IVec S1x128 32}
    {v32 : FVec F S1x128 .f32}
    {v31 : FVec F S1x128 .f32}
    {v30 : IVec S1x128 32}
    {v29 : IVec S64x128 32}
    {v25 : FVec F S64x128 .f32}
    {v21 : FVec F S64x128 .f32}
    {v13 : IVec S64x128 32}
    (h432 : v432 = extractAt ![0, 0, 0] (k1_pay174 (F := F) ci v29 v352 v367) inpos_S1x1x1_p0_0_0)
    (h426 : v426 = k1_pay173 (F := F) v21 v29 v352 v367)
    (h420 : v420 = k1_pay172 (F := F) v29 v352 v367)
    (h409 : v409 = k1_pay171 (F := F) v352 v367)
    (h403 : v403 = k1_pay169 v30 v350 v379)
    (h399 : v399 = k1_pay168 v30 v346 v384)
    (h395 : v395 = k1_pay167 (F := F) v30 v342 v356 v373)
    (h389 : v389 = k1_pay166 (F := F) v30 v336 v356)
    (h384 : v384 = k1_pay165 (F := F) v13 v29 v299 v314)
    (h379 : v379 = extractAt ![0, 0, 0] (k1_pay164 (F := F) ci v29 v299 v314) inpos_S1x1x1_p0_0_0)
    (h373 : v373 = k1_pay163 (F := F) v21 v29 v299 v314)
    (h367 : v367 = k1_pay162 (F := F) v29 v299 v314)
    (h356 : v356 = k1_pay161 (F := F) v299 v314)
    (h352 : v352 = k1_pay160 (F := F) v299 v314)
    (h350 : v350 = k1_pay159 v30 v297 v326)
    (h346 : v346 = k1_pay158 v30 v293 v332)
    (h342 : v342 = k1_pay157 (F := F) v30 v289 v303 v320 5#32)
    (h336 : v336 = k1_pay156 (F := F) v30 v246 v261 v283)
    (h332 : v332 = extractAt ![0, 0, 0] (k1_pay155 (F := F) v13 v29 v246 v261) inpos_S1x1x1_p0_0_0)
    (h326 : v326 = extractAt ![0, 0, 0] (k1_pay154 (F := F) ci v29 v246 v261) inpos_S1x1x1_p0_0_0)
    (h320 : v320 = k1_pay153 (F := F) v21 v29 v246 v261)
    (h314 : v314 = k1_pay152 (F := F) v29 v246 v261)
    (h303 : v303 = k1_pay151 (F := F) v246 v261)
    (h299 : v299 = k1_pay150 (F := F) v246 v261)
    (h297 : v297 = k1_pay149 v30 v244 v273)
    (h293 : v293 = k1_pay148 v30 v240 v279 4#32)
    (h289 : v289 = k1_pay147 (F := F) v21 v29 v30 v193 v208 v236)
    (h283 : v283 = k1_pay146 (F := F) v30 v193 v208 v230)
    (h279 : v279 = extractAt ![0, 0, 0] (k1_pay145 (F := F) v13 v29 v193 v208) inpos_S1x1x1_p0_0_0)
    (h273 : v273 = extractAt ![0, 0, 0] (k1_pay144 (F := F) ci v29 v193 v208) inpos_S1x1x1_p0_0_0)
    (h261 : v261 = k1_pay143 (F := F) v29 v193 v208)
    (h246 : v246 = k1_pay141 (F := F) v193 v208)
    (h244 : v244 = k1_pay140 v191 v220 v242)
    (h242 : v242 = k1_pay139 v30)
    (h240 : v240 = k1_pay138 (F := F) v13 v29 v30 v187 v193 v194)
    (h236 : v236 = k1_pay137 (F := F) v21 v29 v30 v183 v193 v194)
    (h230 : v230 = k1_pay136 (F := F) v30 v177 v194)
    (h220 : v220 = extractAt ![0, 0, 0] (k1_pay135 (F := F) ci v29 v193 v194) inpos_S1x1x1_p0_0_0)
    (h208 : v208 = k1_pay134 (F := F) v29 v193 v194)
    (h194 : v194 = k1_pay132 (F := F) v29 v140 v146 v147)
    (h193 : v193 = k1_pay131 (F := F) v29 v140 v146 v147)
    (h191 : v191 = k1_pay130 (F := F) ci v29 v30 v138 v146 v147)
    (h187 : v187 = k1_pay129 v13 v29 v30 v134 v146 v147)
    (h183 : v183 = k1_pay128 (F := F) v21 v29 v30 v130 v144 v146 v147)
    (h177 : v177 = k1_pay127 (F := F) v30 v124 v144)
    (h147 : v147 = k1_pay125)
    (h146 : v146 = k1_pay124 (F := F) v29 v87 v93 v100)
    (h144 : v144 = k1_pay123 (F := F) v29 v87 v93 v100)
    (h140 : v140 = k1_pay122 (F := F) v29 v87 v93 v100)
    (h138 : v138 = k1_pay121 (F := F) ci v29 v30 v85 v93 v100)
    (h134 : v134 = k1_pay120 v13 v29 v30 v81 v93 v100)
    (h130 : v130 = k1_pay119 (F := F) v21 v29 v30 v77 v91 v93 v100)
    (h124 : v124 = k1_pay118 (F := F) v30 v71 v91)
    (h100 : v100 = k1_pay116 (F := F) v25 v29 v49)
    (h93 : v93 = k1_pay115 (F := F) v25 v49)
    (h91 : v91 = k1_pay114 (F := F) v25 v49)
    (h87 : v87 = k1_pay113 (F := F) v25 v49)
    (h85 : v85 = k1_pay112 (F := F) ci v30 v34 v49)
    (h81 : v81 = k1_pay111 v13 v30 v33 v49)
    (h77 : v77 = k1_pay110 (F := F) v30 v32 v38 v52)
    (h71 : v71 = k1_pay109 (F := F) v30 v31 v38)
    (h52 : v52 = k1_pay108 (F := F) m s hyp cv ci)
    (h49 : v49 = k1_pay107 (F := F) m s hyp cv ci)
    (h38 : v38 = k1_pay106 (F := F) m s hyp cv)
    (h34 : v34 = k1_pay105)
    (h33 : v33 = k1_pay104)
    (h32 : v32 = k1_pay103 (F := F))
    (h31 : v31 = k1_pay102 (F := F))
    (h30 : v30 = iota .tc S1x128 32 [1] iota_S1x128_d1_w32)
    (h29 : v29 = k1_pay101 (F := F) ci)
    (h25 : v25 = k1_pay100 (F := F) m s hyp cv)
    (h21 : v21 = k1_pay99 (F := F) hyp)
    (h13 : v13 = iota .tc S64x128 32 [0] iota_S64x128_d0_w32) :
    k1_pay11 (F := F) v30 v389 v409 = outG (flat ci) (adj m s hyp cv) 8
    ∧ k1_pay12 (F := F) v30 v395 v409 v426 = outP (flat ci) hyp (adj m s hyp cv) 8
    ∧ k1_pay13 v13 v30 v399 v420 = outR (flat ci) (adj m s hyp cv) 8
    ∧ k1_pay14 v30 v403 v432 = outT (flat ci) ci (adj m s hyp cv) 8 := by
  obtain ⟨fl, hfl⟩ : ∃ fl, fl = flat ci := ⟨_, rfl⟩
  obtain ⟨w0, hw0⟩ : ∃ w, w = adj m s hyp cv := ⟨_, rfl⟩
  obtain ⟨w1, hw1⟩ : ∃ w, w = gkill fl w0 := ⟨_, rfl⟩
  obtain ⟨w2, hw2⟩ : ∃ w, w = gkill fl w1 := ⟨_, rfl⟩
  obtain ⟨w3, hw3⟩ : ∃ w, w = gkill fl w2 := ⟨_, rfl⟩
  obtain ⟨w4, hw4⟩ : ∃ w, w = gkill fl w3 := ⟨_, rfl⟩
  obtain ⟨w5, hw5⟩ : ∃ w, w = gkill fl w4 := ⟨_, rfl⟩
  obtain ⟨w6, hw6⟩ : ∃ w, w = gkill fl w5 := ⟨_, rfl⟩
  obtain ⟨w7, hw7⟩ : ∃ w, w = gkill fl w6 := ⟨_, rfl⟩
  obtain ⟨g0, hg0⟩ : ∃ x : FVec F S1x128 .f32, x = (broadcast S1x128 (Scalar.ofBits .f32 0x00000000#32)) := ⟨_, rfl⟩
  obtain ⟨p0, hp0⟩ : ∃ x : FVec F S1x128 .f32, x = (broadcast S1x128 (Scalar.ofBits .f32 0x00000000#32)) := ⟨_, rfl⟩
  obtain ⟨r0, hr0⟩ : ∃ x : IVec S1x128 32, x = (broadcast S1x128 0#32) := ⟨_, rfl⟩
  obtain ⟨t0, ht0⟩ : ∃ x : IVec S1x128 32, x = (broadcast S1x128 0#32) := ⟨_, rfl⟩
  obtain ⟨g1, hg1⟩ : ∃ x, x = atLane 0 (gmax w0) g0 := ⟨_, rfl⟩
  obtain ⟨p1, hp1⟩ : ∃ x, x = atLane 0 (Scalar.exp (Scalar.subf (gmax w0) (hypAt (gsel fl w0) hyp))) p0 := ⟨_, rfl⟩
  obtain ⟨r1, hr1⟩ : ∃ x, x = atLane 0 (gminI (gsel fl w0) rowid) r0 := ⟨_, rfl⟩
  obtain ⟨t1, ht1⟩ : ∃ x, x = atLane 0 (gminI (gsel fl w0) ci) t0 := ⟨_, rfl⟩
  obtain ⟨g2, hg2⟩ : ∃ x, x = atLane 1 (gmax w1) g1 := ⟨_, rfl⟩
  obtain ⟨p2, hp2⟩ : ∃ x, x = atLane 1 (Scalar.exp (Scalar.subf (gmax w1) (hypAt (gsel fl w1) hyp))) p1 := ⟨_, rfl⟩
  obtain ⟨r2, hr2⟩ : ∃ x, x = atLane 1 (gminI (gsel fl w1) rowid) r1 := ⟨_, rfl⟩
  obtain ⟨t2, ht2⟩ : ∃ x, x = atLane 1 (gminI (gsel fl w1) ci) t1 := ⟨_, rfl⟩
  obtain ⟨g3, hg3⟩ : ∃ x, x = atLane 2 (gmax w2) g2 := ⟨_, rfl⟩
  obtain ⟨p3, hp3⟩ : ∃ x, x = atLane 2 (Scalar.exp (Scalar.subf (gmax w2) (hypAt (gsel fl w2) hyp))) p2 := ⟨_, rfl⟩
  obtain ⟨r3, hr3⟩ : ∃ x, x = atLane 2 (gminI (gsel fl w2) rowid) r2 := ⟨_, rfl⟩
  obtain ⟨t3, ht3⟩ : ∃ x, x = atLane 2 (gminI (gsel fl w2) ci) t2 := ⟨_, rfl⟩
  obtain ⟨g4, hg4⟩ : ∃ x, x = atLane 3 (gmax w3) g3 := ⟨_, rfl⟩
  obtain ⟨p4, hp4⟩ : ∃ x, x = atLane 3 (Scalar.exp (Scalar.subf (gmax w3) (hypAt (gsel fl w3) hyp))) p3 := ⟨_, rfl⟩
  obtain ⟨r4, hr4⟩ : ∃ x, x = atLane 3 (gminI (gsel fl w3) rowid) r3 := ⟨_, rfl⟩
  obtain ⟨t4, ht4⟩ : ∃ x, x = atLane 3 (gminI (gsel fl w3) ci) t3 := ⟨_, rfl⟩
  obtain ⟨g5, hg5⟩ : ∃ x, x = atLane 4 (gmax w4) g4 := ⟨_, rfl⟩
  obtain ⟨p5, hp5⟩ : ∃ x, x = atLane 4 (Scalar.exp (Scalar.subf (gmax w4) (hypAt (gsel fl w4) hyp))) p4 := ⟨_, rfl⟩
  obtain ⟨r5, hr5⟩ : ∃ x, x = atLane 4 (gminI (gsel fl w4) rowid) r4 := ⟨_, rfl⟩
  obtain ⟨t5, ht5⟩ : ∃ x, x = atLane 4 (gminI (gsel fl w4) ci) t4 := ⟨_, rfl⟩
  obtain ⟨g6, hg6⟩ : ∃ x, x = atLane 5 (gmax w5) g5 := ⟨_, rfl⟩
  obtain ⟨p6, hp6⟩ : ∃ x, x = atLane 5 (Scalar.exp (Scalar.subf (gmax w5) (hypAt (gsel fl w5) hyp))) p5 := ⟨_, rfl⟩
  obtain ⟨r6, hr6⟩ : ∃ x, x = atLane 5 (gminI (gsel fl w5) rowid) r5 := ⟨_, rfl⟩
  obtain ⟨t6, ht6⟩ : ∃ x, x = atLane 5 (gminI (gsel fl w5) ci) t5 := ⟨_, rfl⟩
  obtain ⟨g7, hg7⟩ : ∃ x, x = atLane 6 (gmax w6) g6 := ⟨_, rfl⟩
  obtain ⟨p7, hp7⟩ : ∃ x, x = atLane 6 (Scalar.exp (Scalar.subf (gmax w6) (hypAt (gsel fl w6) hyp))) p6 := ⟨_, rfl⟩
  obtain ⟨r7, hr7⟩ : ∃ x, x = atLane 6 (gminI (gsel fl w6) rowid) r6 := ⟨_, rfl⟩
  obtain ⟨t7, ht7⟩ : ∃ x, x = atLane 6 (gminI (gsel fl w6) ci) t6 := ⟨_, rfl⟩
  obtain ⟨g8, hg8⟩ : ∃ x, x = atLane 7 (gmax w7) g7 := ⟨_, rfl⟩
  obtain ⟨p8, hp8⟩ : ∃ x, x = atLane 7 (Scalar.exp (Scalar.subf (gmax w7) (hypAt (gsel fl w7) hyp))) p7 := ⟨_, rfl⟩
  obtain ⟨r8, hr8⟩ : ∃ x, x = atLane 7 (gminI (gsel fl w7) rowid) r7 := ⟨_, rfl⟩
  obtain ⟨t8, ht8⟩ : ∃ x, x = atLane 7 (gminI (gsel fl w7) ci) t7 := ⟨_, rfl⟩
  have e13 : v13 = rowid := by rw [h13]; rfl
  have e21 : v21 = (shapeCast S64x128 hyp shapeCasts_S64x128_S64x128) := by rw [h21]; rfl
  have e25 : v25 = w0 := by rw [h25, hw0]; rfl
  have e29 : v29 = fl := by rw [h29, hfl]; rfl
  have e30 : v30 = (iota .tc S1x128 32 [1] iota_S1x128_d1_w32) := by rw [h30]
  have e31 : v31 = g0 := by rw [h31, hg0]; rfl
  have e32 : v32 = p0 := by rw [h32, hp0]; rfl
  have e33 : v33 = r0 := by rw [h33, hr0]; rfl
  have e34 : v34 = t0 := by rw [h34, ht0]; rfl
  have e38 : v38 = (gmax w0) := by rw [h38, hw0]; rfl
  have e49 : v49 = (gsel fl w0) := by rw [h49, hfl, hw0]; rfl
  have e52 : v52 = (shapeCast S1x64x128 (select (gsel fl w0) (shapeCast S64x128 hyp shapeCasts_S64x128_S64x128) (broadcast S64x128 (Named.named κ "big" 0x4E800000#32))) shapeCasts_S64x128_S1x64x128) := by rw [h52, hfl, hw0]; rfl
  have e71 : v71 = g1 := by rw [h71, e30, e31, e38, hg1]; rfl
  have e77 : v77 = p1 := by rw [h77, e30, e32, e38, e52, hp1]; rfl
  have e81 : v81 = r1 := by rw [h81, e13, e30, e33, e49, hr1]; rfl
  have e85 : v85 = t1 := by rw [h85, e30, e34, e49, ht1]; rfl
  have e87 : v87 = w1 := by rw [h87, e25, e49, hw1]; rfl
  have e91 : v91 = (gmax w1) := by rw [h91, e25, e49, hw1]; rfl
  have e93 : v93 = (cmpf .oeq w1 (broadcast S64x128 (gmax w1))) := by rw [h93, e25, e49, hw1]; rfl
  have e100 : v100 = (broadcast S64x128 (gminI (cmpf .oeq w1 (broadcast S64x128 (gmax w1))) fl)) := by rw [h100, e25, e29, e49, hw1]; rfl
  have e124 : v124 = g2 := by rw [h124, e30, e71, e91, hg2]; rfl
  have e130 : v130 = p2 := by rw [h130, e21, e29, e30, e77, e91, e93, e100, hp2]; rfl
  have e134 : v134 = r2 := by rw [h134, e13, e29, e30, e81, e93, e100, hr2]; rfl
  have e138 : v138 = t2 := by rw [h138, e29, e30, e85, e93, e100, ht2]; rfl
  have e140 : v140 = w2 := by rw [h140, e29, e87, e93, e100, hw2]; rfl
  have e144 : v144 = (gmax w2) := by rw [h144, e29, e87, e93, e100, hw2]; rfl
  have e146 : v146 = (cmpf .oeq w2 (broadcast S64x128 (gmax w2))) := by rw [h146, e29, e87, e93, e100, hw2]; rfl
  have e147 : v147 = (broadcast S64x128 1073741824#32) := by rw [h147]; rfl
  have e177 : v177 = g3 := by rw [h177, e30, e124, e144, hg3]; rfl
  have e183 : v183 = p3 := by rw [h183, e21, e29, e30, e130, e144, e146, e147, hp3]; rfl
  have e187 : v187 = r3 := by rw [h187, e13, e29, e30, e134, e146, e147, hr3]; rfl
  have e191 : v191 = t3 := by rw [h191, e29, e30, e138, e146, e147, ht3]; rfl
  have e193 : v193 = w3 := by rw [h193, e29, e140, e146, e147, hw3]; rfl
  have e194 : v194 = (shapeCast S1x64x128 w3 shapeCasts_S64x128_S1x64x128) := by rw [h194, e29, e140, e146, e147, hw3]; rfl
  have e208 : v208 = (gsel fl w3) := by rw [h208, e29, e193, e194]; rfl
  have e220 : v220 = (gminI (gsel fl w3) ci) := by rw [h220, e29, e193, e194]; rfl
  have e230 : v230 = g4 := by rw [h230, e30, e177, e194, hg4]; rfl
  have e236 : v236 = p4 := by rw [h236, e21, e29, e30, e183, e193, e194, hp4]; rfl
  have e240 : v240 = r4 := by rw [h240, e13, e29, e30, e187, e193, e194, hr4]; rfl
  have e242 : v242 = (cmpi .eq (iota .tc S1x128 32 [1] iota_S1x128_d1_w32) (broadcast S1x128 3#32)) := by rw [h242, e30]; rfl
  have e244 : v244 = t4 := by rw [h244, e191, e220, e242, ht4]; rfl
  have e246 : v246 = w4 := by rw [h246, e193, e208, hw4]; rfl
  have e261 : v261 = (gsel fl w4) := by rw [h261, e29, e193, e208, hw4]; rfl
  have e273 : v273 = (gminI (gsel fl w4) ci) := by rw [h273, e29, e193, e208, hw4]; rfl
  have e279 : v279 = (gminI (gsel fl w4) rowid) := by rw [h279, e13, e29, e193, e208, hw4]; rfl
  have e283 : v283 = g5 := by rw [h283, e30, e193, e208, e230, hg5, hw4]; rfl
  have e289 : v289 = p5 := by rw [h289, e21, e29, e30, e193, e208, e236, hp5, hw4]; rfl
  have e293 : v293 = r5 := by rw [h293, e30, e240, e279, hr5]; rfl
  have e297 : v297 = t5 := by rw [h297, e30, e244, e273, ht5]; rfl
  have e299 : v299 = w5 := by rw [h299, e246, e261, hw5]; rfl
  have e303 : v303 = (gmax w5) := by rw [h303, e246, e261, hw5]; rfl
  have e314 : v314 = (gsel fl w5) := by rw [h314, e29, e246, e261, hw5]; rfl
  have e320 : v320 = (hypAt (gsel fl w5) hyp) := by rw [h320, e21, e29, e246, e261, hw5]; rfl
  have e326 : v326 = (gminI (gsel fl w5) ci) := by rw [h326, e29, e246, e261, hw5]; rfl
  have e332 : v332 = (gminI (gsel fl w5) rowid) := by rw [h332, e13, e29, e246, e261, hw5]; rfl
  have e336 : v336 = g6 := by rw [h336, e30, e246, e261, e283, hg6, hw5]; rfl
  have e342 : v342 = p6 := by rw [h342, e30, e289, e303, e320, hp6]; rfl
  have e346 : v346 = r6 := by rw [h346, e30, e293, e332, hr6]; rfl
  have e350 : v350 = t6 := by rw [h350, e30, e297, e326, ht6]; rfl
  have e352 : v352 = w6 := by rw [h352, e299, e314, hw6]; rfl
  have e356 : v356 = (gmax w6) := by rw [h356, e299, e314, hw6]; rfl
  have e367 : v367 = (gsel fl w6) := by rw [h367, e29, e299, e314, hw6]; rfl
  have e373 : v373 = (hypAt (gsel fl w6) hyp) := by rw [h373, e21, e29, e299, e314, hw6]; rfl
  have e379 : v379 = (gminI (gsel fl w6) ci) := by rw [h379, e29, e299, e314, hw6]; rfl
  have e384 : v384 = (shapeCast S1x1x1 (multiReductionI .minsi [1, 2] S1 (shapeCast S1x64x128 (select (gsel fl w6) rowid (broadcast S64x128 1073741824#32)) shapeCasts_S64x128_S1x64x128) 2147483647#32 reduces_S1x64x128_S1 rfl) shapeCasts_S1_S1x1x1) := by rw [h384, e13, e29, e299, e314, hw6]; rfl
  have e389 : v389 = g7 := by rw [h389, e30, e336, e356, hg7]; rfl
  have e395 : v395 = p7 := by rw [h395, e30, e342, e356, e373, hp7]; rfl
  have e399 : v399 = r7 := by rw [h399, e30, e346, e384, hr7]; rfl
  have e403 : v403 = t7 := by rw [h403, e30, e350, e379, ht7]; rfl
  have e409 : v409 = (gmax w7) := by rw [h409, e352, e367, hw7]; rfl
  have e420 : v420 = (gsel fl w7) := by rw [h420, e29, e352, e367, hw7]; rfl
  have e426 : v426 = (hypAt (gsel fl w7) hyp) := by rw [h426, e21, e29, e352, e367, hw7]; rfl
  have e432 : v432 = (gminI (gsel fl w7) ci) := by rw [h432, e29, e352, e367, hw7]; rfl
  have f1 : k1_pay11 (F := F) v30 v389 v409 = g8 := by rw [e30, e389, e409, hg8]; rfl
  have f2 : k1_pay12 (F := F) v30 v395 v409 v426 = p8 := by rw [e30, e395, e409, e426, hp8]; rfl
  have f3 : k1_pay13 v13 v30 v399 v420 = r8 := by rw [e13, e30, e399, e420, hr8]; rfl
  have f4 : k1_pay14 v30 v403 v432 = t8 := by rw [e30, e403, e432, ht8]; rfl
  rw [f1, f2, f3, f4]
  subst hg8 hp8 hr8 ht8 hg7 hp7 hr7 ht7 hg6 hp6 hr6 ht6 hg5 hp5 hr5 ht5 hg4 hp4 hr4 ht4 hg3 hp3 hr3 ht3 hg2 hp2 hr2 ht2 hg1 hp1 hr1 ht1 hg0 hp0 hr0 ht0
  subst hw7 hw6 hw5 hw4 hw3 hw2 hw1 hw0 hfl
  exact ⟨rfl, rfl, rfl, rfl⟩

/-- The first result alone. -/
theorem final_g (m s hyp cv : FVec F S64x128 .f32) (ci : IVec S64x128 32)
    {v432 : BitVec 32}
    {v426 : F .f32}
    {v420 : IVec S64x128 1}
    {v409 : F .f32}
    {v403 : IVec S1x128 32}
    {v399 : IVec S1x128 32}
    {v395 : FVec F S1x128 .f32}
    {v389 : FVec F S1x128 .f32}
    {v384 : IVec S1x1x1 32}
    {v379 : BitVec 32}
    {v373 : F .f32}
    {v367 : IVec S64x128 1}
    {v356 : F .f32}
    {v352 : FVec F S64x128 .f32}
    {v350 : IVec S1x128 32}
    {v346 : IVec S1x128 32}
    {v342 : FVec F S1x128 .f32}
    {v336 : FVec F S1x128 .f32}
    {v332 : BitVec 32}
    {v326 : BitVec 32}
    {v320 : F .f32}
    {v314 : IVec S64x128 1}
    {v303 : F .f32}
    {v299 : FVec F S64x128 .f32}
    {v297 : IVec S1x128 32}
    {v293 : IVec S1x128 32}
    {v289 : FVec F S1x128 .f32}
    {v283 : FVec F S1x128 .f32}
    {v279 : BitVec 32}
    {v273 : BitVec 32}
    {v261 : IVec S64x128 1}
    {v246 : FVec F S64x128 .f32}
    {v244 : IVec S1x128 32}
    {v242 : IVec S1x128 1}
    {v240 : IVec S1x128 32}
    {v236 : FVec F S1x128 .f32}
    {v230 : FVec F S1x128 .f32}
    {v220 : BitVec 32}
    {v208 : IVec S64x128 1}
    {v194 : FVec F S1x64x128 .f32}
    {v193 : FVec F S64x128 .f32}
    {v191 : IVec S1x128 32}
    {v187 : IVec S1x128 32}
    {v183 : FVec F S1x128 .f32}
    {v177 : FVec F S1x128 .f32}
    {v147 : IVec S64x128 32}
    {v146 : IVec S64x128 1}
    {v144 : F .f32}
    {v140 : FVec F S64x128 .f32}
    {v138 : IVec S1x128 32}
    {v134 : IVec S1x128 32}
    {v130 : FVec F S1x128 .f32}
    {v124 : FVec F S1x128 .f32}
    {v100 : IVec S64x128 32}
    {v93 : IVec S64x128 1}
    {v91 : F .f32}
    {v87 : FVec F S64x128 .f32}
    {v85 : IVec S1x128 32}
    {v81 : IVec S1x128 32}
    {v77 : FVec F S1x128 .f32}
    {v71 : FVec F S1x128 .f32}
    {v52 : FVec F S1x64x128 .f32}
    {v49 : IVec S64x128 1}
    {v38 : F .f32}
    {v34 : IVec S1x128 32}
    {v33 : IVec S1x128 32}
    {v32 : FVec F S1x128 .f32}
    {v31 : FVec F S1x128 .f32}
    {v30 : IVec S1x128 32}
    {v29 : IVec S64x128 32}
    {v25 : FVec F S64x128 .f32}
    {v21 : FVec F S64x128 .f32}
    {v13 : IVec S64x128 32}
    (h432 : v432 = extractAt ![0, 0, 0] (k1_pay174 (F := F) ci v29 v352 v367) inpos_S1x1x1_p0_0_0)
    (h426 : v426 = k1_pay173 (F := F) v21 v29 v352 v367)
    (h420 : v420 = k1_pay172 (F := F) v29 v352 v367)
    (h409 : v409 = k1_pay171 (F := F) v352 v367)
    (h403 : v403 = k1_pay169 v30 v350 v379)
    (h399 : v399 = k1_pay168 v30 v346 v384)
    (h395 : v395 = k1_pay167 (F := F) v30 v342 v356 v373)
    (h389 : v389 = k1_pay166 (F := F) v30 v336 v356)
    (h384 : v384 = k1_pay165 (F := F) v13 v29 v299 v314)
    (h379 : v379 = extractAt ![0, 0, 0] (k1_pay164 (F := F) ci v29 v299 v314) inpos_S1x1x1_p0_0_0)
    (h373 : v373 = k1_pay163 (F := F) v21 v29 v299 v314)
    (h367 : v367 = k1_pay162 (F := F) v29 v299 v314)
    (h356 : v356 = k1_pay161 (F := F) v299 v314)
    (h352 : v352 = k1_pay160 (F := F) v299 v314)
    (h350 : v350 = k1_pay159 v30 v297 v326)
    (h346 : v346 = k1_pay158 v30 v293 v332)
    (h342 : v342 = k1_pay157 (F := F) v30 v289 v303 v320 5#32)
    (h336 : v336 = k1_pay156 (F := F) v30 v246 v261 v283)
    (h332 : v332 = extractAt ![0, 0, 0] (k1_pay155 (F := F) v13 v29 v246 v261) inpos_S1x1x1_p0_0_0)
    (h326 : v326 = extractAt ![0, 0, 0] (k1_pay154 (F := F) ci v29 v246 v261) inpos_S1x1x1_p0_0_0)
    (h320 : v320 = k1_pay153 (F := F) v21 v29 v246 v261)
    (h314 : v314 = k1_pay152 (F := F) v29 v246 v261)
    (h303 : v303 = k1_pay151 (F := F) v246 v261)
    (h299 : v299 = k1_pay150 (F := F) v246 v261)
    (h297 : v297 = k1_pay149 v30 v244 v273)
    (h293 : v293 = k1_pay148 v30 v240 v279 4#32)
    (h289 : v289 = k1_pay147 (F := F) v21 v29 v30 v193 v208 v236)
    (h283 : v283 = k1_pay146 (F := F) v30 v193 v208 v230)
    (h279 : v279 = extractAt ![0, 0, 0] (k1_pay145 (F := F) v13 v29 v193 v208) inpos_S1x1x1_p0_0_0)
    (h273 : v273 = extractAt ![0, 0, 0] (k1_pay144 (F := F) ci v29 v193 v208) inpos_S1x1x1_p0_0_0)
    (h261 : v261 = k1_pay143 (F := F) v29 v193 v208)
    (h246 : v246 = k1_pay141 (F := F) v193 v208)
    (h244 : v244 = k1_pay140 v191 v220 v242)
    (h242 : v242 = k1_pay139 v30)
    (h240 : v240 = k1_pay138 (F := F) v13 v29 v30 v187 v193 v194)
    (h236 : v236 = k1_pay137 (F := F) v21 v29 v30 v183 v193 v194)
    (h230 : v230 = k1_pay136 (F := F) v30 v177 v194)
    (h220 : v220 = extractAt ![0, 0, 0] (k1_pay135 (F := F) ci v29 v193 v194) inpos_S1x1x1_p0_0_0)
    (h208 : v208 = k1_pay134 (F := F) v29 v193 v194)
    (h194 : v194 = k1_pay132 (F := F) v29 v140 v146 v147)
    (h193 : v193 = k1_pay131 (F := F) v29 v140 v146 v147)
    (h191 : v191 = k1_pay130 (F := F) ci v29 v30 v138 v146 v147)
    (h187 : v187 = k1_pay129 v13 v29 v30 v134 v146 v147)
    (h183 : v183 = k1_pay128 (F := F) v21 v29 v30 v130 v144 v146 v147)
    (h177 : v177 = k1_pay127 (F := F) v30 v124 v144)
    (h147 : v147 = k1_pay125)
    (h146 : v146 = k1_pay124 (F := F) v29 v87 v93 v100)
    (h144 : v144 = k1_pay123 (F := F) v29 v87 v93 v100)
    (h140 : v140 = k1_pay122 (F := F) v29 v87 v93 v100)
    (h138 : v138 = k1_pay121 (F := F) ci v29 v30 v85 v93 v100)
    (h134 : v134 = k1_pay120 v13 v29 v30 v81 v93 v100)
    (h130 : v130 = k1_pay119 (F := F) v21 v29 v30 v77 v91 v93 v100)
    (h124 : v124 = k1_pay118 (F := F) v30 v71 v91)
    (h100 : v100 = k1_pay116 (F := F) v25 v29 v49)
    (h93 : v93 = k1_pay115 (F := F) v25 v49)
    (h91 : v91 = k1_pay114 (F := F) v25 v49)
    (h87 : v87 = k1_pay113 (F := F) v25 v49)
    (h85 : v85 = k1_pay112 (F := F) ci v30 v34 v49)
    (h81 : v81 = k1_pay111 v13 v30 v33 v49)
    (h77 : v77 = k1_pay110 (F := F) v30 v32 v38 v52)
    (h71 : v71 = k1_pay109 (F := F) v30 v31 v38)
    (h52 : v52 = k1_pay108 (F := F) m s hyp cv ci)
    (h49 : v49 = k1_pay107 (F := F) m s hyp cv ci)
    (h38 : v38 = k1_pay106 (F := F) m s hyp cv)
    (h34 : v34 = k1_pay105)
    (h33 : v33 = k1_pay104)
    (h32 : v32 = k1_pay103 (F := F))
    (h31 : v31 = k1_pay102 (F := F))
    (h30 : v30 = iota .tc S1x128 32 [1] iota_S1x128_d1_w32)
    (h29 : v29 = k1_pay101 (F := F) ci)
    (h25 : v25 = k1_pay100 (F := F) m s hyp cv)
    (h21 : v21 = k1_pay99 (F := F) hyp)
    (h13 : v13 = iota .tc S64x128 32 [0] iota_S64x128_d0_w32) :
    k1_pay11 (F := F) v30 v389 v409 = outG (flat ci) (adj m s hyp cv) 8 :=
  (final_eq m s hyp cv ci h432 h426 h420 h409 h403 h399 h395 h389 h384 h379 h373 h367 h356 h352 h350 h346 h342 h336 h332 h326 h320 h314 h303 h299 h297 h293 h289 h283 h279 h273 h261 h246 h244 h242 h240 h236 h230 h220 h208 h194 h193 h191 h187 h183 h177 h147 h146 h144 h140 h138 h134 h130 h124 h100 h93 h91 h87 h85 h81 h77 h71 h52 h49 h38 h34 h33 h32 h31 h30 h29 h25 h21 h13).1

/-- The second result alone. -/
theorem final_p (m s hyp cv : FVec F S64x128 .f32) (ci : IVec S64x128 32)
    {v432 : BitVec 32}
    {v426 : F .f32}
    {v420 : IVec S64x128 1}
    {v409 : F .f32}
    {v403 : IVec S1x128 32}
    {v399 : IVec S1x128 32}
    {v395 : FVec F S1x128 .f32}
    {v389 : FVec F S1x128 .f32}
    {v384 : IVec S1x1x1 32}
    {v379 : BitVec 32}
    {v373 : F .f32}
    {v367 : IVec S64x128 1}
    {v356 : F .f32}
    {v352 : FVec F S64x128 .f32}
    {v350 : IVec S1x128 32}
    {v346 : IVec S1x128 32}
    {v342 : FVec F S1x128 .f32}
    {v336 : FVec F S1x128 .f32}
    {v332 : BitVec 32}
    {v326 : BitVec 32}
    {v320 : F .f32}
    {v314 : IVec S64x128 1}
    {v303 : F .f32}
    {v299 : FVec F S64x128 .f32}
    {v297 : IVec S1x128 32}
    {v293 : IVec S1x128 32}
    {v289 : FVec F S1x128 .f32}
    {v283 : FVec F S1x128 .f32}
    {v279 : BitVec 32}
    {v273 : BitVec 32}
    {v261 : IVec S64x128 1}
    {v246 : FVec F S64x128 .f32}
    {v244 : IVec S1x128 32}
    {v242 : IVec S1x128 1}
    {v240 : IVec S1x128 32}
    {v236 : FVec F S1x128 .f32}
    {v230 : FVec F S1x128 .f32}
    {v220 : BitVec 32}
    {v208 : IVec S64x128 1}
    {v194 : FVec F S1x64x128 .f32}
    {v193 : FVec F S64x128 .f32}
    {v191 : IVec S1x128 32}
    {v187 : IVec S1x128 32}
    {v183 : FVec F S1x128 .f32}
    {v177 : FVec F S1x128 .f32}
    {v147 : IVec S64x128 32}
    {v146 : IVec S64x128 1}
    {v144 : F .f32}
    {v140 : FVec F S64x128 .f32}
    {v138 : IVec S1x128 32}
    {v134 : IVec S1x128 32}
    {v130 : FVec F S1x128 .f32}
    {v124 : FVec F S1x128 .f32}
    {v100 : IVec S64x128 32}
    {v93 : IVec S64x128 1}
    {v91 : F .f32}
    {v87 : FVec F S64x128 .f32}
    {v85 : IVec S1x128 32}
    {v81 : IVec S1x128 32}
    {v77 : FVec F S1x128 .f32}
    {v71 : FVec F S1x128 .f32}
    {v52 : FVec F S1x64x128 .f32}
    {v49 : IVec S64x128 1}
    {v38 : F .f32}
    {v34 : IVec S1x128 32}
    {v33 : IVec S1x128 32}
    {v32 : FVec F S1x128 .f32}
    {v31 : FVec F S1x128 .f32}
    {v30 : IVec S1x128 32}
    {v29 : IVec S64x128 32}
    {v25 : FVec F S64x128 .f32}
    {v21 : FVec F S64x128 .f32}
    {v13 : IVec S64x128 32}
    (h432 : v432 = extractAt ![0, 0, 0] (k1_pay174 (F := F) ci v29 v352 v367) inpos_S1x1x1_p0_0_0)
    (h426 : v426 = k1_pay173 (F := F) v21 v29 v352 v367)
    (h420 : v420 = k1_pay172 (F := F) v29 v352 v367)
    (h409 : v409 = k1_pay171 (F := F) v352 v367)
    (h403 : v403 = k1_pay169 v30 v350 v379)
    (h399 : v399 = k1_pay168 v30 v346 v384)
    (h395 : v395 = k1_pay167 (F := F) v30 v342 v356 v373)
    (h389 : v389 = k1_pay166 (F := F) v30 v336 v356)
    (h384 : v384 = k1_pay165 (F := F) v13 v29 v299 v314)
    (h379 : v379 = extractAt ![0, 0, 0] (k1_pay164 (F := F) ci v29 v299 v314) inpos_S1x1x1_p0_0_0)
    (h373 : v373 = k1_pay163 (F := F) v21 v29 v299 v314)
    (h367 : v367 = k1_pay162 (F := F) v29 v299 v314)
    (h356 : v356 = k1_pay161 (F := F) v299 v314)
    (h352 : v352 = k1_pay160 (F := F) v299 v314)
    (h350 : v350 = k1_pay159 v30 v297 v326)
    (h346 : v346 = k1_pay158 v30 v293 v332)
    (h342 : v342 = k1_pay157 (F := F) v30 v289 v303 v320 5#32)
    (h336 : v336 = k1_pay156 (F := F) v30 v246 v261 v283)
    (h332 : v332 = extractAt ![0, 0, 0] (k1_pay155 (F := F) v13 v29 v246 v261) inpos_S1x1x1_p0_0_0)
    (h326 : v326 = extractAt ![0, 0, 0] (k1_pay154 (F := F) ci v29 v246 v261) inpos_S1x1x1_p0_0_0)
    (h320 : v320 = k1_pay153 (F := F) v21 v29 v246 v261)
    (h314 : v314 = k1_pay152 (F := F) v29 v246 v261)
    (h303 : v303 = k1_pay151 (F := F) v246 v261)
    (h299 : v299 = k1_pay150 (F := F) v246 v261)
    (h297 : v297 = k1_pay149 v30 v244 v273)
    (h293 : v293 = k1_pay148 v30 v240 v279 4#32)
    (h289 : v289 = k1_pay147 (F := F) v21 v29 v30 v193 v208 v236)
    (h283 : v283 = k1_pay146 (F := F) v30 v193 v208 v230)
    (h279 : v279 = extractAt ![0, 0, 0] (k1_pay145 (F := F) v13 v29 v193 v208) inpos_S1x1x1_p0_0_0)
    (h273 : v273 = extractAt ![0, 0, 0] (k1_pay144 (F := F) ci v29 v193 v208) inpos_S1x1x1_p0_0_0)
    (h261 : v261 = k1_pay143 (F := F) v29 v193 v208)
    (h246 : v246 = k1_pay141 (F := F) v193 v208)
    (h244 : v244 = k1_pay140 v191 v220 v242)
    (h242 : v242 = k1_pay139 v30)
    (h240 : v240 = k1_pay138 (F := F) v13 v29 v30 v187 v193 v194)
    (h236 : v236 = k1_pay137 (F := F) v21 v29 v30 v183 v193 v194)
    (h230 : v230 = k1_pay136 (F := F) v30 v177 v194)
    (h220 : v220 = extractAt ![0, 0, 0] (k1_pay135 (F := F) ci v29 v193 v194) inpos_S1x1x1_p0_0_0)
    (h208 : v208 = k1_pay134 (F := F) v29 v193 v194)
    (h194 : v194 = k1_pay132 (F := F) v29 v140 v146 v147)
    (h193 : v193 = k1_pay131 (F := F) v29 v140 v146 v147)
    (h191 : v191 = k1_pay130 (F := F) ci v29 v30 v138 v146 v147)
    (h187 : v187 = k1_pay129 v13 v29 v30 v134 v146 v147)
    (h183 : v183 = k1_pay128 (F := F) v21 v29 v30 v130 v144 v146 v147)
    (h177 : v177 = k1_pay127 (F := F) v30 v124 v144)
    (h147 : v147 = k1_pay125)
    (h146 : v146 = k1_pay124 (F := F) v29 v87 v93 v100)
    (h144 : v144 = k1_pay123 (F := F) v29 v87 v93 v100)
    (h140 : v140 = k1_pay122 (F := F) v29 v87 v93 v100)
    (h138 : v138 = k1_pay121 (F := F) ci v29 v30 v85 v93 v100)
    (h134 : v134 = k1_pay120 v13 v29 v30 v81 v93 v100)
    (h130 : v130 = k1_pay119 (F := F) v21 v29 v30 v77 v91 v93 v100)
    (h124 : v124 = k1_pay118 (F := F) v30 v71 v91)
    (h100 : v100 = k1_pay116 (F := F) v25 v29 v49)
    (h93 : v93 = k1_pay115 (F := F) v25 v49)
    (h91 : v91 = k1_pay114 (F := F) v25 v49)
    (h87 : v87 = k1_pay113 (F := F) v25 v49)
    (h85 : v85 = k1_pay112 (F := F) ci v30 v34 v49)
    (h81 : v81 = k1_pay111 v13 v30 v33 v49)
    (h77 : v77 = k1_pay110 (F := F) v30 v32 v38 v52)
    (h71 : v71 = k1_pay109 (F := F) v30 v31 v38)
    (h52 : v52 = k1_pay108 (F := F) m s hyp cv ci)
    (h49 : v49 = k1_pay107 (F := F) m s hyp cv ci)
    (h38 : v38 = k1_pay106 (F := F) m s hyp cv)
    (h34 : v34 = k1_pay105)
    (h33 : v33 = k1_pay104)
    (h32 : v32 = k1_pay103 (F := F))
    (h31 : v31 = k1_pay102 (F := F))
    (h30 : v30 = iota .tc S1x128 32 [1] iota_S1x128_d1_w32)
    (h29 : v29 = k1_pay101 (F := F) ci)
    (h25 : v25 = k1_pay100 (F := F) m s hyp cv)
    (h21 : v21 = k1_pay99 (F := F) hyp)
    (h13 : v13 = iota .tc S64x128 32 [0] iota_S64x128_d0_w32) :
    k1_pay12 (F := F) v30 v395 v409 v426 = outP (flat ci) hyp (adj m s hyp cv) 8 :=
  (final_eq m s hyp cv ci h432 h426 h420 h409 h403 h399 h395 h389 h384 h379 h373 h367 h356 h352 h350 h346 h342 h336 h332 h326 h320 h314 h303 h299 h297 h293 h289 h283 h279 h273 h261 h246 h244 h242 h240 h236 h230 h220 h208 h194 h193 h191 h187 h183 h177 h147 h146 h144 h140 h138 h134 h130 h124 h100 h93 h91 h87 h85 h81 h77 h71 h52 h49 h38 h34 h33 h32 h31 h30 h29 h25 h21 h13).2.1

/-- The third result alone. -/
theorem final_r (m s hyp cv : FVec F S64x128 .f32) (ci : IVec S64x128 32)
    {v432 : BitVec 32}
    {v426 : F .f32}
    {v420 : IVec S64x128 1}
    {v409 : F .f32}
    {v403 : IVec S1x128 32}
    {v399 : IVec S1x128 32}
    {v395 : FVec F S1x128 .f32}
    {v389 : FVec F S1x128 .f32}
    {v384 : IVec S1x1x1 32}
    {v379 : BitVec 32}
    {v373 : F .f32}
    {v367 : IVec S64x128 1}
    {v356 : F .f32}
    {v352 : FVec F S64x128 .f32}
    {v350 : IVec S1x128 32}
    {v346 : IVec S1x128 32}
    {v342 : FVec F S1x128 .f32}
    {v336 : FVec F S1x128 .f32}
    {v332 : BitVec 32}
    {v326 : BitVec 32}
    {v320 : F .f32}
    {v314 : IVec S64x128 1}
    {v303 : F .f32}
    {v299 : FVec F S64x128 .f32}
    {v297 : IVec S1x128 32}
    {v293 : IVec S1x128 32}
    {v289 : FVec F S1x128 .f32}
    {v283 : FVec F S1x128 .f32}
    {v279 : BitVec 32}
    {v273 : BitVec 32}
    {v261 : IVec S64x128 1}
    {v246 : FVec F S64x128 .f32}
    {v244 : IVec S1x128 32}
    {v242 : IVec S1x128 1}
    {v240 : IVec S1x128 32}
    {v236 : FVec F S1x128 .f32}
    {v230 : FVec F S1x128 .f32}
    {v220 : BitVec 32}
    {v208 : IVec S64x128 1}
    {v194 : FVec F S1x64x128 .f32}
    {v193 : FVec F S64x128 .f32}
    {v191 : IVec S1x128 32}
    {v187 : IVec S1x128 32}
    {v183 : FVec F S1x128 .f32}
    {v177 : FVec F S1x128 .f32}
    {v147 : IVec S64x128 32}
    {v146 : IVec S64x128 1}
    {v144 : F .f32}
    {v140 : FVec F S64x128 .f32}
    {v138 : IVec S1x128 32}
    {v134 : IVec S1x128 32}
    {v130 : FVec F S1x128 .f32}
    {v124 : FVec F S1x128 .f32}
    {v100 : IVec S64x128 32}
    {v93 : IVec S64x128 1}
    {v91 : F .f32}
    {v87 : FVec F S64x128 .f32}
    {v85 : IVec S1x128 32}
    {v81 : IVec S1x128 32}
    {v77 : FVec F S1x128 .f32}
    {v71 : FVec F S1x128 .f32}
    {v52 : FVec F S1x64x128 .f32}
    {v49 : IVec S64x128 1}
    {v38 : F .f32}
    {v34 : IVec S1x128 32}
    {v33 : IVec S1x128 32}
    {v32 : FVec F S1x128 .f32}
    {v31 : FVec F S1x128 .f32}
    {v30 : IVec S1x128 32}
    {v29 : IVec S64x128 32}
    {v25 : FVec F S64x128 .f32}
    {v21 : FVec F S64x128 .f32}
    {v13 : IVec S64x128 32}
    (h432 : v432 = extractAt ![0, 0, 0] (k1_pay174 (F := F) ci v29 v352 v367) inpos_S1x1x1_p0_0_0)
    (h426 : v426 = k1_pay173 (F := F) v21 v29 v352 v367)
    (h420 : v420 = k1_pay172 (F := F) v29 v352 v367)
    (h409 : v409 = k1_pay171 (F := F) v352 v367)
    (h403 : v403 = k1_pay169 v30 v350 v379)
    (h399 : v399 = k1_pay168 v30 v346 v384)
    (h395 : v395 = k1_pay167 (F := F) v30 v342 v356 v373)
    (h389 : v389 = k1_pay166 (F := F) v30 v336 v356)
    (h384 : v384 = k1_pay165 (F := F) v13 v29 v299 v314)
    (h379 : v379 = extractAt ![0, 0, 0] (k1_pay164 (F := F) ci v29 v299 v314) inpos_S1x1x1_p0_0_0)
    (h373 : v373 = k1_pay163 (F := F) v21 v29 v299 v314)
    (h367 : v367 = k1_pay162 (F := F) v29 v299 v314)
    (h356 : v356 = k1_pay161 (F := F) v299 v314)
    (h352 : v352 = k1_pay160 (F := F) v299 v314)
    (h350 : v350 = k1_pay159 v30 v297 v326)
    (h346 : v346 = k1_pay158 v30 v293 v332)
    (h342 : v342 = k1_pay157 (F := F) v30 v289 v303 v320 5#32)
    (h336 : v336 = k1_pay156 (F := F) v30 v246 v261 v283)
    (h332 : v332 = extractAt ![0, 0, 0] (k1_pay155 (F := F) v13 v29 v246 v261) inpos_S1x1x1_p0_0_0)
    (h326 : v326 = extractAt ![0, 0, 0] (k1_pay154 (F := F) ci v29 v246 v261) inpos_S1x1x1_p0_0_0)
    (h320 : v320 = k1_pay153 (F := F) v21 v29 v246 v261)
    (h314 : v314 = k1_pay152 (F := F) v29 v246 v261)
    (h303 : v303 = k1_pay151 (F := F) v246 v261)
    (h299 : v299 = k1_pay150 (F := F) v246 v261)
    (h297 : v297 = k1_pay149 v30 v244 v273)
    (h293 : v293 = k1_pay148 v30 v240 v279 4#32)
    (h289 : v289 = k1_pay147 (F := F) v21 v29 v30 v193 v208 v236)
    (h283 : v283 = k1_pay146 (F := F) v30 v193 v208 v230)
    (h279 : v279 = extractAt ![0, 0, 0] (k1_pay145 (F := F) v13 v29 v193 v208) inpos_S1x1x1_p0_0_0)
    (h273 : v273 = extractAt ![0, 0, 0] (k1_pay144 (F := F) ci v29 v193 v208) inpos_S1x1x1_p0_0_0)
    (h261 : v261 = k1_pay143 (F := F) v29 v193 v208)
    (h246 : v246 = k1_pay141 (F := F) v193 v208)
    (h244 : v244 = k1_pay140 v191 v220 v242)
    (h242 : v242 = k1_pay139 v30)
    (h240 : v240 = k1_pay138 (F := F) v13 v29 v30 v187 v193 v194)
    (h236 : v236 = k1_pay137 (F := F) v21 v29 v30 v183 v193 v194)
    (h230 : v230 = k1_pay136 (F := F) v30 v177 v194)
    (h220 : v220 = extractAt ![0, 0, 0] (k1_pay135 (F := F) ci v29 v193 v194) inpos_S1x1x1_p0_0_0)
    (h208 : v208 = k1_pay134 (F := F) v29 v193 v194)
    (h194 : v194 = k1_pay132 (F := F) v29 v140 v146 v147)
    (h193 : v193 = k1_pay131 (F := F) v29 v140 v146 v147)
    (h191 : v191 = k1_pay130 (F := F) ci v29 v30 v138 v146 v147)
    (h187 : v187 = k1_pay129 v13 v29 v30 v134 v146 v147)
    (h183 : v183 = k1_pay128 (F := F) v21 v29 v30 v130 v144 v146 v147)
    (h177 : v177 = k1_pay127 (F := F) v30 v124 v144)
    (h147 : v147 = k1_pay125)
    (h146 : v146 = k1_pay124 (F := F) v29 v87 v93 v100)
    (h144 : v144 = k1_pay123 (F := F) v29 v87 v93 v100)
    (h140 : v140 = k1_pay122 (F := F) v29 v87 v93 v100)
    (h138 : v138 = k1_pay121 (F := F) ci v29 v30 v85 v93 v100)
    (h134 : v134 = k1_pay120 v13 v29 v30 v81 v93 v100)
    (h130 : v130 = k1_pay119 (F := F) v21 v29 v30 v77 v91 v93 v100)
    (h124 : v124 = k1_pay118 (F := F) v30 v71 v91)
    (h100 : v100 = k1_pay116 (F := F) v25 v29 v49)
    (h93 : v93 = k1_pay115 (F := F) v25 v49)
    (h91 : v91 = k1_pay114 (F := F) v25 v49)
    (h87 : v87 = k1_pay113 (F := F) v25 v49)
    (h85 : v85 = k1_pay112 (F := F) ci v30 v34 v49)
    (h81 : v81 = k1_pay111 v13 v30 v33 v49)
    (h77 : v77 = k1_pay110 (F := F) v30 v32 v38 v52)
    (h71 : v71 = k1_pay109 (F := F) v30 v31 v38)
    (h52 : v52 = k1_pay108 (F := F) m s hyp cv ci)
    (h49 : v49 = k1_pay107 (F := F) m s hyp cv ci)
    (h38 : v38 = k1_pay106 (F := F) m s hyp cv)
    (h34 : v34 = k1_pay105)
    (h33 : v33 = k1_pay104)
    (h32 : v32 = k1_pay103 (F := F))
    (h31 : v31 = k1_pay102 (F := F))
    (h30 : v30 = iota .tc S1x128 32 [1] iota_S1x128_d1_w32)
    (h29 : v29 = k1_pay101 (F := F) ci)
    (h25 : v25 = k1_pay100 (F := F) m s hyp cv)
    (h21 : v21 = k1_pay99 (F := F) hyp)
    (h13 : v13 = iota .tc S64x128 32 [0] iota_S64x128_d0_w32) :
    k1_pay13 v13 v30 v399 v420 = outR (flat ci) (adj m s hyp cv) 8 :=
  (final_eq m s hyp cv ci h432 h426 h420 h409 h403 h399 h395 h389 h384 h379 h373 h367 h356 h352 h350 h346 h342 h336 h332 h326 h320 h314 h303 h299 h297 h293 h289 h283 h279 h273 h261 h246 h244 h242 h240 h236 h230 h220 h208 h194 h193 h191 h187 h183 h177 h147 h146 h144 h140 h138 h134 h130 h124 h100 h93 h91 h87 h85 h81 h77 h71 h52 h49 h38 h34 h33 h32 h31 h30 h29 h25 h21 h13).2.2.1

/-- The fourth result alone. -/
theorem final_t (m s hyp cv : FVec F S64x128 .f32) (ci : IVec S64x128 32)
    {v432 : BitVec 32}
    {v426 : F .f32}
    {v420 : IVec S64x128 1}
    {v409 : F .f32}
    {v403 : IVec S1x128 32}
    {v399 : IVec S1x128 32}
    {v395 : FVec F S1x128 .f32}
    {v389 : FVec F S1x128 .f32}
    {v384 : IVec S1x1x1 32}
    {v379 : BitVec 32}
    {v373 : F .f32}
    {v367 : IVec S64x128 1}
    {v356 : F .f32}
    {v352 : FVec F S64x128 .f32}
    {v350 : IVec S1x128 32}
    {v346 : IVec S1x128 32}
    {v342 : FVec F S1x128 .f32}
    {v336 : FVec F S1x128 .f32}
    {v332 : BitVec 32}
    {v326 : BitVec 32}
    {v320 : F .f32}
    {v314 : IVec S64x128 1}
    {v303 : F .f32}
    {v299 : FVec F S64x128 .f32}
    {v297 : IVec S1x128 32}
    {v293 : IVec S1x128 32}
    {v289 : FVec F S1x128 .f32}
    {v283 : FVec F S1x128 .f32}
    {v279 : BitVec 32}
    {v273 : BitVec 32}
    {v261 : IVec S64x128 1}
    {v246 : FVec F S64x128 .f32}
    {v244 : IVec S1x128 32}
    {v242 : IVec S1x128 1}
    {v240 : IVec S1x128 32}
    {v236 : FVec F S1x128 .f32}
    {v230 : FVec F S1x128 .f32}
    {v220 : BitVec 32}
    {v208 : IVec S64x128 1}
    {v194 : FVec F S1x64x128 .f32}
    {v193 : FVec F S64x128 .f32}
    {v191 : IVec S1x128 32}
    {v187 : IVec S1x128 32}
    {v183 : FVec F S1x128 .f32}
    {v177 : FVec F S1x128 .f32}
    {v147 : IVec S64x128 32}
    {v146 : IVec S64x128 1}
    {v144 : F .f32}
    {v140 : FVec F S64x128 .f32}
    {v138 : IVec S1x128 32}
    {v134 : IVec S1x128 32}
    {v130 : FVec F S1x128 .f32}
    {v124 : FVec F S1x128 .f32}
    {v100 : IVec S64x128 32}
    {v93 : IVec S64x128 1}
    {v91 : F .f32}
    {v87 : FVec F S64x128 .f32}
    {v85 : IVec S1x128 32}
    {v81 : IVec S1x128 32}
    {v77 : FVec F S1x128 .f32}
    {v71 : FVec F S1x128 .f32}
    {v52 : FVec F S1x64x128 .f32}
    {v49 : IVec S64x128 1}
    {v38 : F .f32}
    {v34 : IVec S1x128 32}
    {v33 : IVec S1x128 32}
    {v32 : FVec F S1x128 .f32}
    {v31 : FVec F S1x128 .f32}
    {v30 : IVec S1x128 32}
    {v29 : IVec S64x128 32}
    {v25 : FVec F S64x128 .f32}
    {v21 : FVec F S64x128 .f32}
    {v13 : IVec S64x128 32}
    (h432 : v432 = extractAt ![0, 0, 0] (k1_pay174 (F := F) ci v29 v352 v367) inpos_S1x1x1_p0_0_0)
    (h426 : v426 = k1_pay173 (F := F) v21 v29 v352 v367)
    (h420 : v420 = k1_pay172 (F := F) v29 v352 v367)
    (h409 : v409 = k1_pay171 (F := F) v352 v367)
    (h403 : v403 = k1_pay169 v30 v350 v379)
    (h399 : v399 = k1_pay168 v30 v346 v384)
    (h395 : v395 = k1_pay167 (F := F) v30 v342 v356 v373)
    (h389 : v389 = k1_pay166 (F := F) v30 v336 v356)
    (h384 : v384 = k1_pay165 (F := F) v13 v29 v299 v314)
    (h379 : v379 = extractAt ![0, 0, 0] (k1_pay164 (F := F) ci v29 v299 v314) inpos_S1x1x1_p0_0_0)
    (h373 : v373 = k1_pay163 (F := F) v21 v29 v299 v314)
    (h367 : v367 = k1_pay162 (F := F) v29 v299 v314)
    (h356 : v356 = k1_pay161 (F := F) v299 v314)
    (h352 : v352 = k1_pay160 (F := F) v299 v314)
    (h350 : v350 = k1_pay159 v30 v297 v326)
    (h346 : v346 = k1_pay158 v30 v293 v332)
    (h342 : v342 = k1_pay157 (F := F) v30 v289 v303 v320 5#32)
    (h336 : v336 = k1_pay156 (F := F) v30 v246 v261 v283)
    (h332 : v332 = extractAt ![0, 0, 0] (k1_pay155 (F := F) v13 v29 v246 v261) inpos_S1x1x1_p0_0_0)
    (h326 : v326 = extractAt ![0, 0, 0] (k1_pay154 (F := F) ci v29 v246 v261) inpos_S1x1x1_p0_0_0)
    (h320 : v320 = k1_pay153 (F := F) v21 v29 v246 v261)
    (h314 : v314 = k1_pay152 (F := F) v29 v246 v261)
    (h303 : v303 = k1_pay151 (F := F) v246 v261)
    (h299 : v299 = k1_pay150 (F := F) v246 v261)
    (h297 : v297 = k1_pay149 v30 v244 v273)
    (h293 : v293 = k1_pay148 v30 v240 v279 4#32)
    (h289 : v289 = k1_pay147 (F := F) v21 v29 v30 v193 v208 v236)
    (h283 : v283 = k1_pay146 (F := F) v30 v193 v208 v230)
    (h279 : v279 = extractAt ![0, 0, 0] (k1_pay145 (F := F) v13 v29 v193 v208) inpos_S1x1x1_p0_0_0)
    (h273 : v273 = extractAt ![0, 0, 0] (k1_pay144 (F := F) ci v29 v193 v208) inpos_S1x1x1_p0_0_0)
    (h261 : v261 = k1_pay143 (F := F) v29 v193 v208)
    (h246 : v246 = k1_pay141 (F := F) v193 v208)
    (h244 : v244 = k1_pay140 v191 v220 v242)
    (h242 : v242 = k1_pay139 v30)
    (h240 : v240 = k1_pay138 (F := F) v13 v29 v30 v187 v193 v194)
    (h236 : v236 = k1_pay137 (F := F) v21 v29 v30 v183 v193 v194)
    (h230 : v230 = k1_pay136 (F := F) v30 v177 v194)
    (h220 : v220 = extractAt ![0, 0, 0] (k1_pay135 (F := F) ci v29 v193 v194) inpos_S1x1x1_p0_0_0)
    (h208 : v208 = k1_pay134 (F := F) v29 v193 v194)
    (h194 : v194 = k1_pay132 (F := F) v29 v140 v146 v147)
    (h193 : v193 = k1_pay131 (F := F) v29 v140 v146 v147)
    (h191 : v191 = k1_pay130 (F := F) ci v29 v30 v138 v146 v147)
    (h187 : v187 = k1_pay129 v13 v29 v30 v134 v146 v147)
    (h183 : v183 = k1_pay128 (F := F) v21 v29 v30 v130 v144 v146 v147)
    (h177 : v177 = k1_pay127 (F := F) v30 v124 v144)
    (h147 : v147 = k1_pay125)
    (h146 : v146 = k1_pay124 (F := F) v29 v87 v93 v100)
    (h144 : v144 = k1_pay123 (F := F) v29 v87 v93 v100)
    (h140 : v140 = k1_pay122 (F := F) v29 v87 v93 v100)
    (h138 : v138 = k1_pay121 (F := F) ci v29 v30 v85 v93 v100)
    (h134 : v134 = k1_pay120 v13 v29 v30 v81 v93 v100)
    (h130 : v130 = k1_pay119 (F := F) v21 v29 v30 v77 v91 v93 v100)
    (h124 : v124 = k1_pay118 (F := F) v30 v71 v91)
    (h100 : v100 = k1_pay116 (F := F) v25 v29 v49)
    (h93 : v93 = k1_pay115 (F := F) v25 v49)
    (h91 : v91 = k1_pay114 (F := F) v25 v49)
    (h87 : v87 = k1_pay113 (F := F) v25 v49)
    (h85 : v85 = k1_pay112 (F := F) ci v30 v34 v49)
    (h81 : v81 = k1_pay111 v13 v30 v33 v49)
    (h77 : v77 = k1_pay110 (F := F) v30 v32 v38 v52)
    (h71 : v71 = k1_pay109 (F := F) v30 v31 v38)
    (h52 : v52 = k1_pay108 (F := F) m s hyp cv ci)
    (h49 : v49 = k1_pay107 (F := F) m s hyp cv ci)
    (h38 : v38 = k1_pay106 (F := F) m s hyp cv)
    (h34 : v34 = k1_pay105)
    (h33 : v33 = k1_pay104)
    (h32 : v32 = k1_pay103 (F := F))
    (h31 : v31 = k1_pay102 (F := F))
    (h30 : v30 = iota .tc S1x128 32 [1] iota_S1x128_d1_w32)
    (h29 : v29 = k1_pay101 (F := F) ci)
    (h25 : v25 = k1_pay100 (F := F) m s hyp cv)
    (h21 : v21 = k1_pay99 (F := F) hyp)
    (h13 : v13 = iota .tc S64x128 32 [0] iota_S64x128_d0_w32) :
    k1_pay14 v30 v403 v432 = outT (flat ci) ci (adj m s hyp cv) 8 :=
  (final_eq m s hyp cv ci h432 h426 h420 h409 h403 h399 h395 h389 h384 h379 h373 h367 h356 h352 h350 h346 h342 h336 h332 h326 h320 h314 h303 h299 h297 h293 h289 h283 h279 h273 h261 h246 h244 h242 h240 h236 h230 h220 h208 h194 h193 h191 h187 h183 h177 h147 h146 h144 h140 h138 h134 h130 h124 h100 h93 h91 h87 h85 h81 h77 h71 h52 h49 h38 h34 h33 h32 h31 h30 h29 h25 h21 h13).2.2.2

end Cert.Proof.Beam

end
-- ==== Proof.Body.lean ====
/-
  One point of the beam kernel, by case: the first point, a point in the middle of a group of blocks, the last point of a group,
  and the last point of the grid. Each run goes from every buffer whole at given contents to every buffer at the contents the
  step functions say.
-/
module

public import proofs.«01_k».proof.Proof.ScTile
public import proofs.«01_k».proof.Proof.Final
public import Idealize.ShloMosaic.Lib.VecWindow
public import Idealize.ShloMosaic.Lib.Tactic

@[expose] public section

set_option maxRecDepth 16384

noncomputable section

namespace Cert.Proof.Beam

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Gather (UU)

variable {F : FTy → Type} [FloatOps F] [Named F]

local notation "𝕄" => MT nD τ sig (HIx 1) (Elt F) ℕ UU ℕ

/-- The type of the contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- Memref `M`'s buffer on core `c`, held whole at contents the memref reads as `X`. -/
def own (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)

/-- The word of the point before `i`, and its place in its group of fifteen. -/
abbrev blkw (i : grid1.Coords) : BitVec 32 := Scalar.subi (BitVec.ofNat 32 (i 0).val) 1#32
/-- The number of the consumed block among the fifteen between merges, as the kernel computes it. -/
abbrev jjw (i : grid1.Coords) : BitVec 32 := Scalar.remsi (blkw i) 15#32

/-- The conditions the kernel branches on that it does not name. -/
abbrev condFirst (i : grid1.Coords) : Prop := Scalar.cmpi .ne (Scalar.extui (Scalar.cmpi .eq (BitVec.ofNat 32 (i 0).val) 0#32)) 0#32 = 1#1
abbrev condMerge (i : grid1.Coords) : Prop := Scalar.cmpi .ne (Scalar.extui (Scalar.cmpi .eq (jjw i) 14#32)) 0#32 = 1#1
abbrev condKeep (i : grid1.Coords) : Prop := Scalar.cmpi .ne (Scalar.extui (Scalar.cmpi .ne (jjw i) 14#32)) 0#32 = 1#1

/-- The joint state from the gathered rows `e`, the weights and the encoder's rows. -/
def joint (e : FVec F S128x512 .f32) (m0 m1 wq : FVec F S512x512 .f32) (enc : FVec F S64x512 .f32) (bp : FVec F S1x512 .f32) : FVec F S64x512 .f32 :=
  k1_pay15 (VecWindow.window (s := S128x512) e ![0, 0] S64x512.size inb_S128x512_S64x512_0_0)
    (VecWindow.window (s := S128x512) e ![64, 0] S64x512.size inb_S128x512_S64x512_64_0) m0 m1 wq enc bp

/-- The logits with the block of point `i` written in its slot. -/
def putBlk (i : grid1.Coords) (L : FVec F S2x64x5000 .f32) (J : FVec F S64x512 .f32) (w : FVec F S5000x512 .f32) (b : FVec F S1x5000x1 .f32) : FVec F S2x64x5000 .f32 :=
  VecWindow.put (s := S2x64x5000) L (k1_off1 i) S1x64x5000.size (k1_pay4 J w b)

/-- The block of the point before, read off its slot. -/
def getBlk (i : grid1.Coords) (c3 : k1_cond3 i = 1#1) (L : FVec F S2x64x5000 .f32) : FVec F S1x64x5000 .f32 :=
  VecWindow.window (s := S2x64x5000) L (k1_off2 i) S1x64x5000.size (k1_off2_inb i c3)

/-- A vector stored as it is. -/
def keepV (x : FVec F S64x128 .f32) : FVec F S64x128 .f32 := shapeCast S64x128 x shapeCasts_S64x128_S64x128
/-- Lanes of words stored whole, as the kernel stores them. -/
def keepI (x : IVec S64x128 32) : IVec S64x128 32 := shapeCast S64x128 x shapeCasts_S64x128_S64x128

/-- Lanes loaded after a whole store of them are what was stored. -/
theorem readCov_lanes {e : EltTy} (M : Memref sig .tc .vmem S64x128 e) (X : S64x128.Idx → Elt F e) :
    M.view.readCov [⟨Rect.unit (s := S64x128) ![0, 0] S64x128.size inb_S64x128_S64x128_0_0, X⟩]
      (Rect.unit (s := S64x128) ![0, 0] S64x128.size inb_S64x128_S64x128_0_0).toLoadRect = X :=
  View.readCov_full M.view inb_S64x128_S64x128_0_0 inb_S64x128_S64x128_0_0 X []

/-- The slot written at a point is not the one read. -/
theorem off_apart (i : grid1.Coords) : k1_off2 i 0 + S1x64x5000.size 0 ≤ k1_off1 i 0 ∨ k1_off1 i 0 + S1x64x5000.size 0 ≤ k1_off2 i 0 := by
  revert i; decide +kernel

/-- The block read after the point's own block is written is the one read before. -/
theorem getBlk_put (i : grid1.Coords) (c3 : k1_cond3 i = 1#1) (L : FVec F S2x64x5000 .f32) (J : FVec F S64x512 .f32) (w : FVec F S5000x512 .f32) (b : FVec F S1x5000x1 .f32) :
    getBlk i c3 (putBlk i L J w b) = getBlk i c3 L :=
  VecWindow.window_put_of_disjoint (s := S2x64x5000) L (k1_off1 i) S1x64x5000.size (k1_off2 i) S1x64x5000.size (k1_off2_inb i c3) _ 0 (off_apart i)

/-- The first point: the joint state and the empty candidates, and the first block of logits. -/
theorem runFirst (c : Dev nD) (i : grid1.Coords)
    (c1 : condFirst i) (c2 : k1_cond2 i = 1#1) (c3 : ¬ k1_cond3 i = 1#1) (c6 : ¬ k1_cond6 i = 1#1)
    (M1 : Memref sig .tc .vmem S128x512 .f32) (h1 : M1.IsWhole)
    (M2 : Memref sig .tc .vmem S64x512 .f32) (h2 : M2.IsWhole)
    (M3 : Memref sig .tc .vmem S64x128 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x512 .f32) (h6 : M6.IsWhole)
    (M7 : Memref sig .tc .vmem S1x512 .f32) (h7 : M7.IsWhole)
    (M8 : Memref sig .tc .vmem S5000x512 .f32) (h8 : M8.IsWhole)
    (M9 : Memref sig .tc .vmem S1x5000x1 .f32) (h9 : M9.IsWhole)
    (M10 : Memref sig .tc .vmem S1x128 .f32) (h10 : M10.IsWhole)
    (M11 : Memref sig .tc .vmem S1x128 .f32) (h11 : M11.IsWhole)
    (M12 : Memref sig .tc .vmem S1x128 .i32) (h12 : M12.IsWhole)
    (M13 : Memref sig .tc .vmem S1x128 .i32) (h13 : M13.IsWhole)
    (M14 : Memref sig .tc .vmem S64x512 .f32) (h14 : M14.IsWhole)
    (M15 : Memref sig .tc .vmem S64x128 .f32) (h15 : M15.IsWhole)
    (M16 : Memref sig .tc .vmem S64x128 .f32) (h16 : M16.IsWhole)
    (M17 : Memref sig .tc .vmem S64x128 .f32) (h17 : M17.IsWhole)
    (M18 : Memref sig .tc .vmem S64x128 .i32) (h18 : M18.IsWhole)
    (M19 : Memref sig .tc .vmem S2x64x5000 .f32) (h19 : M19.IsWhole)
    (e : FVec F S128x512 .f32) (enc : FVec F S64x512 .f32) (hyp : FVec F S64x128 .f32) (m0 : FVec F S512x512 .f32) (m1 : FVec F S512x512 .f32) (wq : FVec F S512x512 .f32) (bp : FVec F S1x512 .f32) (wj : FVec F S5000x512 .f32) (bj : FVec F S1x5000x1 .f32) (o1 : FVec F S1x128 .f32) (o2 : FVec F S1x128 .f32) (o3 : IVec S1x128 32) (o4 : IVec S1x128 32) (J : FVec F S64x512 .f32) (m : FVec F S64x128 .f32) (s : FVec F S64x128 .f32) (cv : FVec F S64x128 .f32) (ci : IVec S64x128 32) (L : FVec F S2x64x5000 .f32)
    (E : Set ℕ) (Q : PUnit → sProp 𝕄) :
    iprop(own c M1 e ∗ own c M2 enc ∗ own c M3 hyp ∗ own c M4 m0 ∗ own c M5 m1 ∗ own c M6 wq ∗ own c M7 bp ∗ own c M8 wj ∗ own c M9 bj ∗ own c M10 o1 ∗ own c M11 o2 ∗ own c M12 o3 ∗ own c M13 o4 ∗ own c M14 J ∗ own c M15 m ∗ own c M16 s ∗ own c M17 cv ∗ own c M18 ci ∗ own c M19 L
      ∗ (iprop(own c M1 e ∗ own c M2 enc ∗ own c M3 hyp ∗ own c M4 m0 ∗ own c M5 m1 ∗ own c M6 wq ∗ own c M7 bp ∗ own c M8 wj ∗ own c M9 bj ∗ own c M10 o1 ∗ own c M11 o2 ∗ own c M12 o3 ∗ own c M13 o4 ∗ own c M14 (joint e m0 m1 wq enc bp) ∗ own c M15 k1_pay16 ∗ own c M16 (k1_pay1 k1_pay17) ∗ own c M17 k1_pay2 ∗ own c M18 k1_pay3 ∗ own c M19 (putBlk i L (joint e m0 m1 wq enc bp) wj bj)) -∗ Q ⟨⟩))
    ⊢ wp frame (wpE (defs₀ (F := F)) Variants.none c none) E (cc1__body (F := F) i M1 h1 M2 h2 M3 h3 M4 h4 M5 h5 M6 h6 M7 h7 M8 h8 M9 h9 M10 h10 M11 h11 M12 h12 M13 h13 M14 h14 M15 h15 M16 h16 M17 h17 M18 h18 M19 h19) Q := by
  unfold own
  iintro ⟨⟨%f1, %g1, H1⟩, ⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%f15, %g15, H15⟩, ⟨%f16, %g16, H16⟩, ⟨%f17, %g17, H17⟩, ⟨%f18, %g18, H18⟩, ⟨%f19, %g19, H19⟩, Hk⟩
  subst g1 g2 g3 g4 g5 g6 g7 g8 g9 g10 g11 g12 g13 g14 g15 g16 g17 g18 g19
  sl_exec_parts
  sl_step
  iapply Hk
  isplitl [H1]
  · iexists _; isplitr; swap; (· iexact H1); ipureintro
    rfl
  isplitl [H2]
  · iexists _; isplitr; swap; (· iexact H2); ipureintro
    rfl
  isplitl [H3]
  · iexists _; isplitr; swap; (· iexact H3); ipureintro
    rfl
  isplitl [H4]
  · iexists _; isplitr; swap; (· iexact H4); ipureintro
    rfl
  isplitl [H5]
  · iexists _; isplitr; swap; (· iexact H5); ipureintro
    rfl
  isplitl [H6]
  · iexists _; isplitr; swap; (· iexact H6); ipureintro
    rfl
  isplitl [H7]
  · iexists _; isplitr; swap; (· iexact H7); ipureintro
    rfl
  isplitl [H8]
  · iexists _; isplitr; swap; (· iexact H8); ipureintro
    rfl
  isplitl [H9]
  · iexists _; isplitr; swap; (· iexact H9); ipureintro
    rfl
  isplitl [H10]
  · iexists _; isplitr; swap; (· iexact H10); ipureintro
    rfl
  isplitl [H11]
  · iexists _; isplitr; swap; (· iexact H11); ipureintro
    rfl
  isplitl [H12]
  · iexists _; isplitr; swap; (· iexact H12); ipureintro
    rfl
  isplitl [H13]
  · iexists _; isplitr; swap; (· iexact H13); ipureintro
    rfl
  isplitl [H14]
  · iexists _; isplitr; swap; (· iexact H14); ipureintro
    refine (View.read_writes_full _ _ _ _ _).trans ?_
    unfold joint
    rw [← View.readAt_full M4.view f4 inb_S512x512_S512x512_0_0, ← View.readAt_full M5.view f5 inb_S512x512_S512x512_0_0,
      ← View.readAt_full M6.view f6 inb_S512x512_S512x512_0_0, ← View.readAt_full M2.view f2 inb_S64x512_S64x512_0_0,
      ← View.readAt_full M7.view f7 inb_S1x512_S1x512_0_0]
    rfl
  isplitl [H15]
  · iexists _; isplitr; swap; (· iexact H15); ipureintro
    exact (View.read_writes_full _ _ _ _ _).trans rfl
  isplitl [H16]
  · iexists _; isplitr; swap; (· iexact H16); ipureintro
    exact (View.read_writes_full _ _ _ _ _).trans rfl
  isplitl [H17]
  · iexists _; isplitr; swap; (· iexact H17); ipureintro
    exact (View.read_writes_full _ _ _ _ _).trans rfl
  isplitl [H18]
  · iexists _; isplitr; swap; (· iexact H18); ipureintro
    exact (View.read_writes_full _ _ _ _ _).trans rfl
  · iexists _; isplitr; swap; (· iexact H19); ipureintro
    refine (View.read_writes_cons_put _ _ _ _ _ rfl).trans ?_
    unfold putBlk
    refine congrArg (VecWindow.put (s := S2x64x5000) _ (k1_off1 i) S1x64x5000.size) ?_
    refine congr (congr (congrArg k1_pay4 ?_) (View.readAt_full M8.view f8 inb_S5000x512_S5000x512_0_0)) (View.readAt_full M9.view f9 inb_S1x5000x1_S1x5000x1_0_0_0)
    refine (View.readCov_full M14.view inb_S64x512_S64x512_0_0 inb_S64x512_S64x512_0_0 _ []).trans ?_
    unfold joint
    rw [← View.readAt_full M4.view f4 inb_S512x512_S512x512_0_0, ← View.readAt_full M5.view f5 inb_S512x512_S512x512_0_0,
      ← View.readAt_full M6.view f6 inb_S512x512_S512x512_0_0, ← View.readAt_full M2.view f2 inb_S64x512_S64x512_0_0,
      ← View.readAt_full M7.view f7 inb_S1x512_S1x512_0_0]
    rfl

/-- A point in the middle of a group: the block of the point before is consumed, its best columns kept in the lanes of its own. -/
theorem runKeep (c : Dev nD) (i : grid1.Coords)
    (c1 : ¬ condFirst i) (c2 : k1_cond2 i = 1#1) (c3 : k1_cond3 i = 1#1) (c4 : ¬ condMerge i) (c5 : condKeep i) (c6 : ¬ k1_cond6 i = 1#1)
    (M1 : Memref sig .tc .vmem S128x512 .f32) (h1 : M1.IsWhole)
    (M2 : Memref sig .tc .vmem S64x512 .f32) (h2 : M2.IsWhole)
    (M3 : Memref sig .tc .vmem S64x128 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x512 .f32) (h6 : M6.IsWhole)
    (M7 : Memref sig .tc .vmem S1x512 .f32) (h7 : M7.IsWhole)
    (M8 : Memref sig .tc .vmem S5000x512 .f32) (h8 : M8.IsWhole)
    (M9 : Memref sig .tc .vmem S1x5000x1 .f32) (h9 : M9.IsWhole)
    (M10 : Memref sig .tc .vmem S1x128 .f32) (h10 : M10.IsWhole)
    (M11 : Memref sig .tc .vmem S1x128 .f32) (h11 : M11.IsWhole)
    (M12 : Memref sig .tc .vmem S1x128 .i32) (h12 : M12.IsWhole)
    (M13 : Memref sig .tc .vmem S1x128 .i32) (h13 : M13.IsWhole)
    (M14 : Memref sig .tc .vmem S64x512 .f32) (h14 : M14.IsWhole)
    (M15 : Memref sig .tc .vmem S64x128 .f32) (h15 : M15.IsWhole)
    (M16 : Memref sig .tc .vmem S64x128 .f32) (h16 : M16.IsWhole)
    (M17 : Memref sig .tc .vmem S64x128 .f32) (h17 : M17.IsWhole)
    (M18 : Memref sig .tc .vmem S64x128 .i32) (h18 : M18.IsWhole)
    (M19 : Memref sig .tc .vmem S2x64x5000 .f32) (h19 : M19.IsWhole)
    (e : FVec F S128x512 .f32) (enc : FVec F S64x512 .f32) (hyp : FVec F S64x128 .f32) (m0 : FVec F S512x512 .f32) (m1 : FVec F S512x512 .f32) (wq : FVec F S512x512 .f32) (bp : FVec F S1x512 .f32) (wj : FVec F S5000x512 .f32) (bj : FVec F S1x5000x1 .f32) (o1 : FVec F S1x128 .f32) (o2 : FVec F S1x128 .f32) (o3 : IVec S1x128 32) (o4 : IVec S1x128 32) (J : FVec F S64x512 .f32) (m : FVec F S64x128 .f32) (s : FVec F S64x128 .f32) (cv : FVec F S64x128 .f32) (ci : IVec S64x128 32) (L : FVec F S2x64x5000 .f32)
    (E : Set ℕ) (Q : PUnit → sProp 𝕄) :
    iprop(own c M1 e ∗ own c M2 enc ∗ own c M3 hyp ∗ own c M4 m0 ∗ own c M5 m1 ∗ own c M6 wq ∗ own c M7 bp ∗ own c M8 wj ∗ own c M9 bj ∗ own c M10 o1 ∗ own c M11 o2 ∗ own c M12 o3 ∗ own c M13 o4 ∗ own c M14 J ∗ own c M15 m ∗ own c M16 s ∗ own c M17 cv ∗ own c M18 ci ∗ own c M19 L
      ∗ (iprop(own c M1 e ∗ own c M2 enc ∗ own c M3 hyp ∗ own c M4 m0 ∗ own c M5 m1 ∗ own c M6 wq ∗ own c M7 bp ∗ own c M8 wj ∗ own c M9 bj ∗ own c M10 o1 ∗ own c M11 o2 ∗ own c M12 o3 ∗ own c M13 o4 ∗ own c M14 J ∗ own c M15 (k1_pay58 (getBlk i c3 L) m) ∗ own c M16 (k1_pay59 (getBlk i c3 L) m s) ∗ own c M17 (keepV (candV (jjw i) (k1_pay54 (getBlk i c3 L)) cv 8)) ∗ own c M18 (keepI (candI (blkw i) (jjw i) (k1_pay54 (getBlk i c3 L)) ci 8)) ∗ own c M19 (putBlk i L J wj bj)) -∗ Q ⟨⟩))
    ⊢ wp frame (wpE (defs₀ (F := F)) Variants.none c none) E (cc1__body (F := F) i M1 h1 M2 h2 M3 h3 M4 h4 M5 h5 M6 h6 M7 h7 M8 h8 M9 h9 M10 h10 M11 h11 M12 h12 M13 h13 M14 h14 M15 h15 M16 h16 M17 h17 M18 h18 M19 h19) Q := by
  unfold own
  iintro ⟨⟨%f1, %g1, H1⟩, ⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%f15, %g15, H15⟩, ⟨%f16, %g16, H16⟩, ⟨%f17, %g17, H17⟩, ⟨%f18, %g18, H18⟩, ⟨%f19, %g19, H19⟩, Hk⟩
  subst g1 g2 g3 g4 g5 g6 g7 g8 g9 g10 g11 g12 g13 g14 g15 g16 g17 g18 g19
  have e19 : getBlk i c3 (putBlk i (M19.view.read (Elt F) f19) (M14.view.read (Elt F) f14) (M8.view.read (Elt F) f8) (M9.view.read (Elt F) f9))
      = M19.view.readAt (Elt F) (Rect.unit (s := S2x64x5000) (k1_off2 i) S1x64x5000.size (k1_off2_inb i c3)).toLoadRect
        (M19.view.writes (Elt F) f19 [⟨Rect.unit (s := S2x64x5000) (k1_off1 i) S1x64x5000.size (k1_off1_inb i c2),
          k1_pay4 (M14.view.readAt (Elt F) (Rect.unit (s := S64x512) ![0, 0] S64x512.size inb_S64x512_S64x512_0_0).toLoadRect f14)
            (M8.view.readAt (Elt F) (Rect.unit (s := S5000x512) ![0, 0] S5000x512.size inb_S5000x512_S5000x512_0_0).toLoadRect f8)
            (M9.view.readAt (Elt F) (Rect.unit (s := S1x5000x1) ![0, 0, 0] S1x5000x1.size inb_S1x5000x1_S1x5000x1_0_0_0).toLoadRect f9)⟩]) := by
    rw [View.readAt_full M14.view f14, View.readAt_full M8.view f8, View.readAt_full M9.view f9,
      View.readAt_unit M19.view _ (k1_off2_inb i c3) rfl (k1_off2_inb i c3), View.read_writes_cons_put M19.view f19 (k1_off1_inb i c2) _ [] rfl]
    rfl
  sl_exec_parts
  sl_step
  iapply Hk
  isplitl [H1]
  · iexists _; isplitr; swap; (· iexact H1); ipureintro
    rfl
  isplitl [H2]
  · iexists _; isplitr; swap; (· iexact H2); ipureintro
    rfl
  isplitl [H3]
  · iexists _; isplitr; swap; (· iexact H3); ipureintro
    rfl
  isplitl [H4]
  · iexists _; isplitr; swap; (· iexact H4); ipureintro
    rfl
  isplitl [H5]
  · iexists _; isplitr; swap; (· iexact H5); ipureintro
    rfl
  isplitl [H6]
  · iexists _; isplitr; swap; (· iexact H6); ipureintro
    rfl
  isplitl [H7]
  · iexists _; isplitr; swap; (· iexact H7); ipureintro
    rfl
  isplitl [H8]
  · iexists _; isplitr; swap; (· iexact H8); ipureintro
    rfl
  isplitl [H9]
  · iexists _; isplitr; swap; (· iexact H9); ipureintro
    rfl
  isplitl [H10]
  · iexists _; isplitr; swap; (· iexact H10); ipureintro
    rfl
  isplitl [H11]
  · iexists _; isplitr; swap; (· iexact H11); ipureintro
    rfl
  isplitl [H12]
  · iexists _; isplitr; swap; (· iexact H12); ipureintro
    rfl
  isplitl [H13]
  · iexists _; isplitr; swap; (· iexact H13); ipureintro
    rfl
  isplitl [H14]
  · iexists _; isplitr; swap; (· iexact H14); ipureintro
    rfl
  isplitl [H15]
  · iexists _; isplitr; swap; (· iexact H15); ipureintro
    refine (View.read_writes_full _ _ _ _ _).trans ?_
    rw [← getBlk_put i c3 _ (M14.view.read (Elt F) f14) (M8.view.read (Elt F) f8) (M9.view.read (Elt F) f9), e19, ← View.readAt_full M15.view f15 inb_S64x128_S64x128_0_0]
    rfl
  isplitl [H16]
  · iexists _; isplitr; swap; (· iexact H16); ipureintro
    refine (View.read_writes_full _ _ _ _ _).trans ?_
    rw [← getBlk_put i c3 _ (M14.view.read (Elt F) f14) (M8.view.read (Elt F) f8) (M9.view.read (Elt F) f9), e19, ← View.readAt_full M15.view f15 inb_S64x128_S64x128_0_0, ← View.readAt_full M16.view f16 inb_S64x128_S64x128_0_0]
    rfl
  isplitl [H17]
  · iexists _; isplitr; swap; (· iexact H17); ipureintro
    refine (View.read_writes_full _ _ _ _ _).trans ?_
    rw [← getBlk_put i c3 _ (M14.view.read (Elt F) f14) (M8.view.read (Elt F) f8) (M9.view.read (Elt F) f9), e19, ← View.readAt_full M17.view f17 inb_S64x128_S64x128_0_0]
    rfl
  isplitl [H18]
  · iexists _; isplitr; swap; (· iexact H18); ipureintro
    refine (View.read_writes_full _ _ _ _ _).trans ?_
    rw [← getBlk_put i c3 _ (M14.view.read (Elt F) f14) (M8.view.read (Elt F) f8) (M9.view.read (Elt F) f9), e19, ← View.readAt_full M18.view f18 inb_S64x128_S64x128_0_0]
    rfl
  · iexists _; isplitr; swap; (· iexact H19); ipureintro
    refine (View.read_writes_cons_put _ _ _ _ _ rfl).trans ?_
    unfold putBlk
    rw [← View.readAt_full M14.view f14 inb_S64x512_S64x512_0_0, ← View.readAt_full M8.view f8 inb_S5000x512_S5000x512_0_0, ← View.readAt_full M9.view f9 inb_S1x5000x1_S1x5000x1_0_0_0]
    rfl

/-- The last point of a group: the lanes, the group's last block written in, are merged to the eight best. -/
theorem runMerge (c : Dev nD) (i : grid1.Coords)
    (c1 : ¬ condFirst i) (c2 : k1_cond2 i = 1#1) (c3 : k1_cond3 i = 1#1) (c4 : condMerge i) (c5 : ¬ condKeep i) (c6 : ¬ k1_cond6 i = 1#1)
    (M1 : Memref sig .tc .vmem S128x512 .f32) (h1 : M1.IsWhole)
    (M2 : Memref sig .tc .vmem S64x512 .f32) (h2 : M2.IsWhole)
    (M3 : Memref sig .tc .vmem S64x128 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x512 .f32) (h6 : M6.IsWhole)
    (M7 : Memref sig .tc .vmem S1x512 .f32) (h7 : M7.IsWhole)
    (M8 : Memref sig .tc .vmem S5000x512 .f32) (h8 : M8.IsWhole)
    (M9 : Memref sig .tc .vmem S1x5000x1 .f32) (h9 : M9.IsWhole)
    (M10 : Memref sig .tc .vmem S1x128 .f32) (h10 : M10.IsWhole)
    (M11 : Memref sig .tc .vmem S1x128 .f32) (h11 : M11.IsWhole)
    (M12 : Memref sig .tc .vmem S1x128 .i32) (h12 : M12.IsWhole)
    (M13 : Memref sig .tc .vmem S1x128 .i32) (h13 : M13.IsWhole)
    (M14 : Memref sig .tc .vmem S64x512 .f32) (h14 : M14.IsWhole)
    (M15 : Memref sig .tc .vmem S64x128 .f32) (h15 : M15.IsWhole)
    (M16 : Memref sig .tc .vmem S64x128 .f32) (h16 : M16.IsWhole)
    (M17 : Memref sig .tc .vmem S64x128 .f32) (h17 : M17.IsWhole)
    (M18 : Memref sig .tc .vmem S64x128 .i32) (h18 : M18.IsWhole)
    (M19 : Memref sig .tc .vmem S2x64x5000 .f32) (h19 : M19.IsWhole)
    (e : FVec F S128x512 .f32) (enc : FVec F S64x512 .f32) (hyp : FVec F S64x128 .f32) (m0 : FVec F S512x512 .f32) (m1 : FVec F S512x512 .f32) (wq : FVec F S512x512 .f32) (bp : FVec F S1x512 .f32) (wj : FVec F S5000x512 .f32) (bj : FVec F S1x5000x1 .f32) (o1 : FVec F S1x128 .f32) (o2 : FVec F S1x128 .f32) (o3 : IVec S1x128 32) (o4 : IVec S1x128 32) (J : FVec F S64x512 .f32) (m : FVec F S64x128 .f32) (s : FVec F S64x128 .f32) (cv : FVec F S64x128 .f32) (ci : IVec S64x128 32) (L : FVec F S2x64x5000 .f32)
    (E : Set ℕ) (Q : PUnit → sProp 𝕄) :
    iprop(own c M1 e ∗ own c M2 enc ∗ own c M3 hyp ∗ own c M4 m0 ∗ own c M5 m1 ∗ own c M6 wq ∗ own c M7 bp ∗ own c M8 wj ∗ own c M9 bj ∗ own c M10 o1 ∗ own c M11 o2 ∗ own c M12 o3 ∗ own c M13 o4 ∗ own c M14 J ∗ own c M15 m ∗ own c M16 s ∗ own c M17 cv ∗ own c M18 ci ∗ own c M19 L
      ∗ (iprop(own c M1 e ∗ own c M2 enc ∗ own c M3 hyp ∗ own c M4 m0 ∗ own c M5 m1 ∗ own c M6 wq ∗ own c M7 bp ∗ own c M8 wj ∗ own c M9 bj ∗ own c M10 o1 ∗ own c M11 o2 ∗ own c M12 o3 ∗ own c M13 o4 ∗ own c M14 J ∗ own c M15 (k1_pay58 (getBlk i c3 L) m) ∗ own c M16 (k1_pay59 (getBlk i c3 L) m s) ∗ own c M17 (keepV (mergeV (candV (jjw i) (k1_pay54 (getBlk i c3 L)) cv 8) 8)) ∗ own c M18 (keepI (mergeI (candV (jjw i) (k1_pay54 (getBlk i c3 L)) cv 8) (candI (blkw i) (jjw i) (k1_pay54 (getBlk i c3 L)) ci 8) 8)) ∗ own c M19 (putBlk i L J wj bj)) -∗ Q ⟨⟩))
    ⊢ wp frame (wpE (defs₀ (F := F)) Variants.none c none) E (cc1__body (F := F) i M1 h1 M2 h2 M3 h3 M4 h4 M5 h5 M6 h6 M7 h7 M8 h8 M9 h9 M10 h10 M11 h11 M12 h12 M13 h13 M14 h14 M15 h15 M16 h16 M17 h17 M18 h18 M19 h19) Q := by
  unfold own
  iintro ⟨⟨%f1, %g1, H1⟩, ⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%f15, %g15, H15⟩, ⟨%f16, %g16, H16⟩, ⟨%f17, %g17, H17⟩, ⟨%f18, %g18, H18⟩, ⟨%f19, %g19, H19⟩, Hk⟩
  subst g1 g2 g3 g4 g5 g6 g7 g8 g9 g10 g11 g12 g13 g14 g15 g16 g17 g18 g19
  have e19 : getBlk i c3 (putBlk i (M19.view.read (Elt F) f19) (M14.view.read (Elt F) f14) (M8.view.read (Elt F) f8) (M9.view.read (Elt F) f9))
      = M19.view.readAt (Elt F) (Rect.unit (s := S2x64x5000) (k1_off2 i) S1x64x5000.size (k1_off2_inb i c3)).toLoadRect
        (M19.view.writes (Elt F) f19 [⟨Rect.unit (s := S2x64x5000) (k1_off1 i) S1x64x5000.size (k1_off1_inb i c2),
          k1_pay4 (M14.view.readAt (Elt F) (Rect.unit (s := S64x512) ![0, 0] S64x512.size inb_S64x512_S64x512_0_0).toLoadRect f14)
            (M8.view.readAt (Elt F) (Rect.unit (s := S5000x512) ![0, 0] S5000x512.size inb_S5000x512_S5000x512_0_0).toLoadRect f8)
            (M9.view.readAt (Elt F) (Rect.unit (s := S1x5000x1) ![0, 0, 0] S1x5000x1.size inb_S1x5000x1_S1x5000x1_0_0_0).toLoadRect f9)⟩]) := by
    rw [View.readAt_full M14.view f14, View.readAt_full M8.view f8, View.readAt_full M9.view f9,
      View.readAt_unit M19.view _ (k1_off2_inb i c3) rfl (k1_off2_inb i c3), View.read_writes_cons_put M19.view f19 (k1_off1_inb i c2) _ [] rfl]
    rfl
  sl_exec_parts
  sl_step
  iapply Hk
  isplitl [H1]
  · iexists _; isplitr; swap; (· iexact H1); ipureintro
    rfl
  isplitl [H2]
  · iexists _; isplitr; swap; (· iexact H2); ipureintro
    rfl
  isplitl [H3]
  · iexists _; isplitr; swap; (· iexact H3); ipureintro
    rfl
  isplitl [H4]
  · iexists _; isplitr; swap; (· iexact H4); ipureintro
    rfl
  isplitl [H5]
  · iexists _; isplitr; swap; (· iexact H5); ipureintro
    rfl
  isplitl [H6]
  · iexists _; isplitr; swap; (· iexact H6); ipureintro
    rfl
  isplitl [H7]
  · iexists _; isplitr; swap; (· iexact H7); ipureintro
    rfl
  isplitl [H8]
  · iexists _; isplitr; swap; (· iexact H8); ipureintro
    rfl
  isplitl [H9]
  · iexists _; isplitr; swap; (· iexact H9); ipureintro
    rfl
  isplitl [H10]
  · iexists _; isplitr; swap; (· iexact H10); ipureintro
    rfl
  isplitl [H11]
  · iexists _; isplitr; swap; (· iexact H11); ipureintro
    rfl
  isplitl [H12]
  · iexists _; isplitr; swap; (· iexact H12); ipureintro
    rfl
  isplitl [H13]
  · iexists _; isplitr; swap; (· iexact H13); ipureintro
    rfl
  isplitl [H14]
  · iexists _; isplitr; swap; (· iexact H14); ipureintro
    rfl
  isplitl [H15]
  · iexists _; isplitr; swap; (· iexact H15); ipureintro
    refine (View.read_writes_full _ _ _ _ _).trans ?_
    rw [← getBlk_put i c3 _ (M14.view.read (Elt F) f14) (M8.view.read (Elt F) f8) (M9.view.read (Elt F) f9), e19, ← View.readAt_full M15.view f15 inb_S64x128_S64x128_0_0]
    rfl
  isplitl [H16]
  · iexists _; isplitr; swap; (· iexact H16); ipureintro
    refine (View.read_writes_full _ _ _ _ _).trans ?_
    rw [← getBlk_put i c3 _ (M14.view.read (Elt F) f14) (M8.view.read (Elt F) f8) (M9.view.read (Elt F) f9), e19, ← View.readAt_full M15.view f15 inb_S64x128_S64x128_0_0, ← View.readAt_full M16.view f16 inb_S64x128_S64x128_0_0]
    rfl
  isplitl [H17]
  · iexists _; isplitr; swap; (· iexact H17); ipureintro
    refine (View.read_writes_full _ _ _ _ _).trans ?_
    rw [← getBlk_put i c3 _ (M14.view.read (Elt F) f14) (M8.view.read (Elt F) f8) (M9.view.read (Elt F) f9), e19, ← View.readAt_full M17.view f17 inb_S64x128_S64x128_0_0]
    rfl
  isplitl [H18]
  · iexists _; isplitr; swap; (· iexact H18); ipureintro
    refine (View.read_writes_full _ _ _ _ _).trans ?_
    rw [← getBlk_put i c3 _ (M14.view.read (Elt F) f14) (M8.view.read (Elt F) f8) (M9.view.read (Elt F) f9), e19, ← View.readAt_full M17.view f17 inb_S64x128_S64x128_0_0, ← View.readAt_full M18.view f18 inb_S64x128_S64x128_0_0]
    rfl
  · iexists _; isplitr; swap; (· iexact H19); ipureintro
    refine (View.read_writes_cons_put _ _ _ _ _ rfl).trans ?_
    unfold putBlk
    rw [← View.readAt_full M14.view f14 inb_S64x512_S64x512_0_0, ← View.readAt_full M8.view f8 inb_S5000x512_S5000x512_0_0, ← View.readAt_full M9.view f9 inb_S1x5000x1_S1x5000x1_0_0_0]
    rfl

/-- The last point of the grid: the last block is consumed and the results are read off the lanes. -/
theorem runLast (c : Dev nD) (i : grid1.Coords)
    (c1 : ¬ condFirst i) (c2 : ¬ k1_cond2 i = 1#1) (c3 : k1_cond3 i = 1#1) (c4 : ¬ condMerge i) (c5 : condKeep i) (c6 : k1_cond6 i = 1#1)
    (M1 : Memref sig .tc .vmem S128x512 .f32) (h1 : M1.IsWhole)
    (M2 : Memref sig .tc .vmem S64x512 .f32) (h2 : M2.IsWhole)
    (M3 : Memref sig .tc .vmem S64x128 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x512 .f32) (h6 : M6.IsWhole)
    (M7 : Memref sig .tc .vmem S1x512 .f32) (h7 : M7.IsWhole)
    (M8 : Memref sig .tc .vmem S5000x512 .f32) (h8 : M8.IsWhole)
    (M9 : Memref sig .tc .vmem S1x5000x1 .f32) (h9 : M9.IsWhole)
    (M10 : Memref sig .tc .vmem S1x128 .f32) (h10 : M10.IsWhole)
    (M11 : Memref sig .tc .vmem S1x128 .f32) (h11 : M11.IsWhole)
    (M12 : Memref sig .tc .vmem S1x128 .i32) (h12 : M12.IsWhole)
    (M13 : Memref sig .tc .vmem S1x128 .i32) (h13 : M13.IsWhole)
    (M14 : Memref sig .tc .vmem S64x512 .f32) (h14 : M14.IsWhole)
    (M15 : Memref sig .tc .vmem S64x128 .f32) (h15 : M15.IsWhole)
    (M16 : Memref sig .tc .vmem S64x128 .f32) (h16 : M16.IsWhole)
    (M17 : Memref sig .tc .vmem S64x128 .f32) (h17 : M17.IsWhole)
    (M18 : Memref sig .tc .vmem S64x128 .i32) (h18 : M18.IsWhole)
    (M19 : Memref sig .tc .vmem S2x64x5000 .f32) (h19 : M19.IsWhole)
    (e : FVec F S128x512 .f32) (enc : FVec F S64x512 .f32) (hyp : FVec F S64x128 .f32) (m0 : FVec F S512x512 .f32) (m1 : FVec F S512x512 .f32) (wq : FVec F S512x512 .f32) (bp : FVec F S1x512 .f32) (wj : FVec F S5000x512 .f32) (bj : FVec F S1x5000x1 .f32) (o1 : FVec F S1x128 .f32) (o2 : FVec F S1x128 .f32) (o3 : IVec S1x128 32) (o4 : IVec S1x128 32) (J : FVec F S64x512 .f32) (m : FVec F S64x128 .f32) (s : FVec F S64x128 .f32) (cv : FVec F S64x128 .f32) (ci : IVec S64x128 32) (L : FVec F S2x64x5000 .f32)
    (E : Set ℕ) (Q : PUnit → sProp 𝕄) :
    iprop(own c M1 e ∗ own c M2 enc ∗ own c M3 hyp ∗ own c M4 m0 ∗ own c M5 m1 ∗ own c M6 wq ∗ own c M7 bp ∗ own c M8 wj ∗ own c M9 bj ∗ own c M10 o1 ∗ own c M11 o2 ∗ own c M12 o3 ∗ own c M13 o4 ∗ own c M14 J ∗ own c M15 m ∗ own c M16 s ∗ own c M17 cv ∗ own c M18 ci ∗ own c M19 L
      ∗ (iprop(own c M1 e ∗ own c M2 enc ∗ own c M3 hyp ∗ own c M4 m0 ∗ own c M5 m1 ∗ own c M6 wq ∗ own c M7 bp ∗ own c M8 wj ∗ own c M9 bj ∗ own c M10 (outG (flat (keepI (candI (blkw i) (jjw i) (k1_pay54 (getBlk i c3 L)) ci 8))) (adj (k1_pay58 (getBlk i c3 L) m) (k1_pay59 (getBlk i c3 L) m s) hyp (keepV (candV (jjw i) (k1_pay54 (getBlk i c3 L)) cv 8))) 8) ∗ own c M11 (outP (flat (keepI (candI (blkw i) (jjw i) (k1_pay54 (getBlk i c3 L)) ci 8))) hyp (adj (k1_pay58 (getBlk i c3 L) m) (k1_pay59 (getBlk i c3 L) m s) hyp (keepV (candV (jjw i) (k1_pay54 (getBlk i c3 L)) cv 8))) 8) ∗ own c M12 (outR (flat (keepI (candI (blkw i) (jjw i) (k1_pay54 (getBlk i c3 L)) ci 8))) (adj (k1_pay58 (getBlk i c3 L) m) (k1_pay59 (getBlk i c3 L) m s) hyp (keepV (candV (jjw i) (k1_pay54 (getBlk i c3 L)) cv 8))) 8) ∗ own c M13 (outT (flat (keepI (candI (blkw i) (jjw i) (k1_pay54 (getBlk i c3 L)) ci 8))) (keepI (candI (blkw i) (jjw i) (k1_pay54 (getBlk i c3 L)) ci 8)) (adj (k1_pay58 (getBlk i c3 L) m) (k1_pay59 (getBlk i c3 L) m s) hyp (keepV (candV (jjw i) (k1_pay54 (getBlk i c3 L)) cv 8))) 8) ∗ own c M14 J ∗ own c M15 (k1_pay58 (getBlk i c3 L) m) ∗ own c M16 (k1_pay59 (getBlk i c3 L) m s) ∗ own c M17 (keepV (candV (jjw i) (k1_pay54 (getBlk i c3 L)) cv 8)) ∗ own c M18 (keepI (candI (blkw i) (jjw i) (k1_pay54 (getBlk i c3 L)) ci 8)) ∗ own c M19 L) -∗ Q ⟨⟩))
    ⊢ wp frame (wpE (defs₀ (F := F)) Variants.none c none) E (cc1__body (F := F) i M1 h1 M2 h2 M3 h3 M4 h4 M5 h5 M6 h6 M7 h7 M8 h8 M9 h9 M10 h10 M11 h11 M12 h12 M13 h13 M14 h14 M15 h15 M16 h16 M17 h17 M18 h18 M19 h19) Q := by
  unfold own
  iintro ⟨⟨%f1, %g1, H1⟩, ⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%f15, %g15, H15⟩, ⟨%f16, %g16, H16⟩, ⟨%f17, %g17, H17⟩, ⟨%f18, %g18, H18⟩, ⟨%f19, %g19, H19⟩, Hk⟩
  subst g1 g2 g3 g4 g5 g6 g7 g8 g9 g10 g11 g12 g13 g14 g15 g16 g17 g18 g19
  have e19 : M19.view.readAt (Elt F) (Rect.unit (s := S2x64x5000) (k1_off2 i) S1x64x5000.size (k1_off2_inb i c3)).toLoadRect f19
      = getBlk i c3 (M19.view.read (Elt F) f19) := rfl
  have r15 := readCov_lanes (F := F) M15 (k1_pay58 (M19.view.readAt (Elt F) (Rect.unit (s := S2x64x5000) (k1_off2 i) S1x64x5000.size (k1_off2_inb i c3)).toLoadRect f19) (M15.view.readAt (Elt F) (Rect.unit (s := S64x128) ![0, 0] S64x128.size inb_S64x128_S64x128_0_0).toLoadRect f15))
  have r16 := readCov_lanes (F := F) M16 (k1_pay59 (M19.view.readAt (Elt F) (Rect.unit (s := S2x64x5000) (k1_off2 i) S1x64x5000.size (k1_off2_inb i c3)).toLoadRect f19) (M15.view.readAt (Elt F) (Rect.unit (s := S64x128) ![0, 0] S64x128.size inb_S64x128_S64x128_0_0).toLoadRect f15) (M16.view.readAt (Elt F) (Rect.unit (s := S64x128) ![0, 0] S64x128.size inb_S64x128_S64x128_0_0).toLoadRect f16))
  have r17 := readCov_lanes (F := F) M17 (keepV (candV (jjw i) (k1_pay54 (M19.view.readAt (Elt F) (Rect.unit (s := S2x64x5000) (k1_off2 i) S1x64x5000.size (k1_off2_inb i c3)).toLoadRect f19)) (M17.view.readAt (Elt F) (Rect.unit (s := S64x128) ![0, 0] S64x128.size inb_S64x128_S64x128_0_0).toLoadRect f17) 8))
  have r18 := readCov_lanes (F := F) M18 (keepI (candI (blkw i) (jjw i) (k1_pay54 (M19.view.readAt (Elt F) (Rect.unit (s := S2x64x5000) (k1_off2 i) S1x64x5000.size (k1_off2_inb i c3)).toLoadRect f19)) (M18.view.readAt (Elt F) (Rect.unit (s := S64x128) ![0, 0] S64x128.size inb_S64x128_S64x128_0_0).toLoadRect f18) 8))
  sl_exec_parts
  sl_step
  iapply Hk
  isplitl [H1]
  · iexists _; isplitr; swap; (· iexact H1); ipureintro
    rfl
  isplitl [H2]
  · iexists _; isplitr; swap; (· iexact H2); ipureintro
    rfl
  isplitl [H3]
  · iexists _; isplitr; swap; (· iexact H3); ipureintro
    rfl
  isplitl [H4]
  · iexists _; isplitr; swap; (· iexact H4); ipureintro
    rfl
  isplitl [H5]
  · iexists _; isplitr; swap; (· iexact H5); ipureintro
    rfl
  isplitl [H6]
  · iexists _; isplitr; swap; (· iexact H6); ipureintro
    rfl
  isplitl [H7]
  · iexists _; isplitr; swap; (· iexact H7); ipureintro
    rfl
  isplitl [H8]
  · iexists _; isplitr; swap; (· iexact H8); ipureintro
    rfl
  isplitl [H9]
  · iexists _; isplitr; swap; (· iexact H9); ipureintro
    rfl
  isplitl [H10]
  · iexists _; isplitr; swap; (· iexact H10); ipureintro
    refine (View.read_writes_full _ _ _ _ _).trans ?_
    rw [← e19, ← View.readAt_full M15.view f15 inb_S64x128_S64x128_0_0, ← View.readAt_full M16.view f16 inb_S64x128_S64x128_0_0, ← View.readAt_full M17.view f17 inb_S64x128_S64x128_0_0, ← View.readAt_full M18.view f18 inb_S64x128_S64x128_0_0, ← View.readAt_full M3.view f3 inb_S64x128_S64x128_0_0]
    apply final_g
    all_goals rfl
  isplitl [H11]
  · iexists _; isplitr; swap; (· iexact H11); ipureintro
    refine (View.read_writes_full _ _ _ _ _).trans ?_
    rw [← e19, ← View.readAt_full M15.view f15 inb_S64x128_S64x128_0_0, ← View.readAt_full M16.view f16 inb_S64x128_S64x128_0_0, ← View.readAt_full M17.view f17 inb_S64x128_S64x128_0_0, ← View.readAt_full M18.view f18 inb_S64x128_S64x128_0_0, ← View.readAt_full M3.view f3 inb_S64x128_S64x128_0_0]
    apply final_p
    all_goals rfl
  isplitl [H12]
  · iexists _; isplitr; swap; (· iexact H12); ipureintro
    refine (View.read_writes_full _ _ _ _ _).trans ?_
    rw [← e19, ← View.readAt_full M15.view f15 inb_S64x128_S64x128_0_0, ← View.readAt_full M16.view f16 inb_S64x128_S64x128_0_0, ← View.readAt_full M17.view f17 inb_S64x128_S64x128_0_0, ← View.readAt_full M18.view f18 inb_S64x128_S64x128_0_0, ← View.readAt_full M3.view f3 inb_S64x128_S64x128_0_0]
    apply final_r
    all_goals rfl
  isplitl [H13]
  · iexists _; isplitr; swap; (· iexact H13); ipureintro
    refine (View.read_writes_full _ _ _ _ _).trans ?_
    rw [← e19, ← View.readAt_full M15.view f15 inb_S64x128_S64x128_0_0, ← View.readAt_full M16.view f16 inb_S64x128_S64x128_0_0, ← View.readAt_full M17.view f17 inb_S64x128_S64x128_0_0, ← View.readAt_full M18.view f18 inb_S64x128_S64x128_0_0, ← View.readAt_full M3.view f3 inb_S64x128_S64x128_0_0]
    apply final_t
    all_goals rfl
  isplitl [H14]
  · iexists _; isplitr; swap; (· iexact H14); ipureintro
    rfl
  isplitl [H15]
  · iexists _; isplitr; swap; (· iexact H15); ipureintro
    refine (View.read_writes_full _ _ _ _ _).trans ?_
    rw [← e19, ← View.readAt_full M15.view f15 inb_S64x128_S64x128_0_0]
    rfl
  isplitl [H16]
  · iexists _; isplitr; swap; (· iexact H16); ipureintro
    refine (View.read_writes_full _ _ _ _ _).trans ?_
    rw [← e19, ← View.readAt_full M15.view f15 inb_S64x128_S64x128_0_0, ← View.readAt_full M16.view f16 inb_S64x128_S64x128_0_0]
    rfl
  isplitl [H17]
  · iexists _; isplitr; swap; (· iexact H17); ipureintro
    refine (View.read_writes_full _ _ _ _ _).trans ?_
    rw [← e19, ← View.readAt_full M17.view f17 inb_S64x128_S64x128_0_0]
    rfl
  isplitl [H18]
  · iexists _; isplitr; swap; (· iexact H18); ipureintro
    refine (View.read_writes_full _ _ _ _ _).trans ?_
    rw [← e19, ← View.readAt_full M18.view f18 inb_S64x128_S64x128_0_0]
    rfl
  · iexists _; isplitr; swap; (· iexact H19); ipureintro
    rfl

end Cert.Proof.Beam

end
-- ==== Proof.ScLaunch.lean ====
/-
  The SparseCore call as one step of @main: what its handshakes carry, its tasks' obligation, and the call from the whole
  row numbers, table and result to the result gathered.

  The pay record is stated over the contents the row numbers `I`, the table `E` and the result `O0` have when the call
  starts; each task is handed its block of the row numbers, its share of the table and its block of the result.
-/
module

public import proofs.«01_k».proof.Proof.ScTile
public import proofs.«01_k».proof.Proof.Gen.KernelIdeal.Launch
public import Idealize.ShloMosaic.Lib.Pipeline.RegionArraysS

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eV" => (Memref.whole Cert.KernelIdeal.main_arg3_scv : Memref Cert.KernelIdeal.sig Kind.scVector Space.hbm Cert.KernelIdeal.S100000x512 EltTy.f32)
local notation "iV" => (Memref.whole Cert.KernelIdeal.main_v26_scv : Memref Cert.KernelIdeal.sig Kind.scVector Space.hbm Cert.KernelIdeal.S128 EltTy.i32)
local notation "oV" => (Memref.whole Cert.KernelIdeal.main_v27_scv : Memref Cert.KernelIdeal.sig Kind.scVector Space.hbm Cert.KernelIdeal.S128x512 EltTy.f32)
local notation "sV" => (Memref.whole Cert.KernelIdeal.cc0_scratch0 : Memref Cert.KernelIdeal.sig Kind.scVector Space.vmem Cert.KernelIdeal.S8 EltTy.i32)
local notation "rV" => (Memref.whole Cert.KernelIdeal.cc0_scratch1 : Memref Cert.KernelIdeal.sig Kind.scVector Space.vmem Cert.KernelIdeal.S8x512 EltTy.f32)

/-- The program's definitions. -/
abbrev D [FloatOps F] [Named F] : Defs nD τ sig (Elt F) (ΛP (F := F)) := Pipeline.defs pcfgs defs₀
/-- The variants of the program's loops. -/
abbrev 𝒱 : Variants := 𝒱₀.lift
/-- The variant the launch starts from. -/
abbrev v₀ : 𝒱.V := Sum.inl none

/-- The handshake's semaphores are distinct and declared where they must be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshake's part of the ghost state. -/
def EH : Emb UH (MT nD τ sig (HIx 1) (Elt F) ℕ UU ℕ) := (Emb.inl : Emb UH (UH × UP)).trans embL
/-- The pipelined call's part of the ghost state. -/
def EP : Emb UP (MT nD τ sig (HIx 1) (Elt F) ℕ UU ℕ) := (Emb.inr : Emb UP (UH × UP)).trans embL

/-- This part lies in the whole. -/
instance EH_landsIn : (EH (F := F)).LandsIn (upEmb : UEmb _ 𝕄) := by unfold EH; infer_instance
/-- This part lies in the whole. -/
instance EP_landsIn : (EP (F := F)).LandsIn (upEmb : UEmb _ 𝕄) := by unfold EP; infer_instance

variable (I : (d : Dev nD) → Buf (Elt F) (iLoc d)) (E : (d : Dev nD) → Buf (Elt F) (eLoc d)) (O0 : (d : Dev nD) → Buf (Elt F) (oLoc d))
variable (hids : ∀ (d : Dev nD) (j : S128.Idx), (I d j : BitVec 32).toNat < 100000)

/-! ## What the handshakes carry -/

/-- The task of core `c` and subcore `i`. -/
abbrev taskOf (c : Fin ((K (F := F)).nCore 0)) (i : Fin ((K (F := F)).nSub 0)) : Fin 32 :=
  ⟨2 * i.val + c.val, by have h0 : c.val < 2 := c.isLt; have h1 : i.val < 16 := i.isLt; omega⟩

/-- Each SparseCore is handed its tasks' operands, and hands back its tasks' operands with the result gathered. -/
def P : (K (F := F)).Pay (nD := nD) (Val := Elt F) (Name := ℕ) (U := UU) where
  st := fun q d c => match q with | 0 => bigSep Finset.univ fun i : Fin ((K (F := F)).nSub 0) => taskRes d (I d) (E d) (O0 d) (taskOf c i)
  dn := fun q d c => match q with | 0 => bigSep Finset.univ fun i : Fin ((K (F := F)).nSub 0) => taskRes d (I d) (E d) (gathered (I d) (E d) (hids d)) (taskOf c i)
  go := fun q d c i => match q with | 0 => taskRes d (I d) (E d) (O0 d) (taskOf c i)
  td := fun q d c i => match q with | 0 => taskRes d (I d) (E d) (gathered (I d) (E d) (hids d)) (taskOf c i)
  x := fun _ _ => iprop(emp)

/-- What the call hands over can be stored. -/
instance P_storable : (P (F := F) I E O0 hids).IsStorable where
  st q d c := match q with
    | 0 => (inferInstance : BI.Storable (upEmb : UEmb _ 𝕄)
      (bigSep Finset.univ fun i : Fin ((K (F := F)).nSub 0) => taskRes d (I d) (E d) (O0 d) (taskOf c i)))
  dn q d c := match q with
    | 0 => (inferInstance : BI.Storable (upEmb : UEmb _ 𝕄)
      (bigSep Finset.univ fun i : Fin ((K (F := F)).nSub 0) => taskRes d (I d) (E d) (gathered (I d) (E d) (hids d)) (taskOf c i)))
  go q d c i := match q with
    | 0 => (inferInstance : BI.Storable (upEmb : UEmb _ 𝕄) (taskRes d (I d) (E d) (O0 d) (taskOf c i)))
  td q d c i := match q with
    | 0 => (inferInstance : BI.Storable (upEmb : UEmb _ 𝕄) (taskRes d (I d) (E d) (gathered (I d) (E d) (hids d)) (taskOf c i)))

/-! ## The tasks' obligation -/

/-- A task's coordinates from its core and its subcore. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F] [Named F]

/-- A subcore's program is the kernel at its coordinates. -/
theorem defs₀_vector (c : Fin τ.nSC) (s : Fin τ.nSub) :
    defs₀ (F := F) (.scVector c s) 0 ()
      = SparseCore.onTile hcore0 hsub0 (fun c s => cc0_k (coordsV c s)
          eV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] [Named F] in
/-- A weaker bound on what a task waits on. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task runs from what it is handed to what it gives back. -/
theorem tileObl : (K (F := F)).TileObl (D (F := F)) 𝒱 (P I E O0 hids) v₀ 0 := by
  intro d c i O W hO _ _
  simp only [show (P I E O0 hids).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (I d) (E d) (O0 d) facts (hids d) O W hO).trans (wp_mono frame _ _ fun _ => waits_weaken)

omit [FloatOps F] [Named F] in
/-- A SparseCore's operands are its tasks'. -/
theorem vecSplit : (K (F := F)).VecSplit' (P I E O0 hids) 0 := by
  intro d c
  show (bigSep Finset.univ fun i : Fin ((K (F := F)).nSub 0) => taskRes d (I d) (E d) (O0 d) (taskOf c i)) ⊢ |={Set.univ}=> iprop(
      (bigSep Finset.univ fun i : Fin ((K (F := F)).nSub 0) => taskRes d (I d) (E d) (O0 d) (taskOf c i))
      ∗ ((bigSep Finset.univ fun i : Fin ((K (F := F)).nSub 0) => taskRes d (I d) (E d) (gathered (I d) (E d) (hids d)) (taskOf c i))
          -∗ (bigSep Finset.univ fun i : Fin ((K (F := F)).nSub 0) => taskRes d (I d) (E d) (gathered (I d) (E d) (hids d)) (taskOf c i))))
  iintro H; imodintro
  isplitl [H]; · iexact H
  iintro H; iexact H

/-! ## The launch element -/

/-- The pipelined call's ghost state at the start. -/
def uP : UP := initOf (Pipeline.cells (nD := nD) (τ := τ) cfgs cellOf_inj) (Pipeline.launchToks (nD := nD) (τ := τ) cfgs cellOf_inj)

/-- The ghost state at the start. -/
def u₀ : UU := ((initOf (K (F := F)).hsCells (K (F := F)).hsToks, uP), 1)

/-- What the pipelined call needs of the launch on device `d`: its staging cells' ghost state and duty tokens. -/
abbrev G (d : Dev nD) : sProp 𝕄 := iprop(Pipeline.cellsGhost cfgs (EP (F := F)) 0 d ∗ Pipeline.toksInit cfgs (EP (F := F)) 0 d)

omit [FloatOps F] [Named F] in
/-- Nothing, any number of times, is nothing. -/
theorem sep_emps {T : Type} (s : Finset T) : (bigSep s fun _ => iprop(emp)) = (iprop(emp) : sProp 𝕄) := bigSep_emp_const s

omit [FloatOps F] [Named F] in
/-- The pipelined call's needs, device by device. -/
theorem G_intro : iprop((bigSep Finset.univ fun c : Dev nD => bigSep Finset.univ fun p : Fin 1 => Pipeline.cellsGhost cfgs (EP (F := F)) p c)
      ∗ (bigSep Finset.univ fun c : Dev nD => bigSep Finset.univ fun p : Fin 1 => (Pipeline.toksInit cfgs (EP (F := F)) p c : sProp 𝕄)))
    ⊢ bigSep Finset.univ fun d : Dev nD => G (F := F) d := by
  show _ ⊢ bigSep Finset.univ fun d : Dev nD => iprop(Pipeline.cellsGhost cfgs (EP (F := F)) 0 d ∗ Pipeline.toksInit cfgs (EP (F := F)) 0 d)
  rw [bigSep_sep']
  exact Idealize.SL.BI.sep_mono (Entails.of_eq (bigSep_congr fun _ _ => bigSep_univ_of_subsingleton (0 : Fin 1)))
    (Entails.of_eq (bigSep_congr fun _ _ => bigSep_univ_of_subsingleton (0 : Fin 1)))

/-- The ghost state at the start, divided. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P I E O0 hids).x q thr) := by
  unfold u₀
  iintro Hu
  ihave H := (ownU_pair (initOf (K (F := F)).hsCells (K (F := F)).hsToks, uP) (1 : Counters)) $$ Hu
  icases H with ⟨H, -⟩
  ihave H := (own_pair_emb embL (initOf (K (F := F)).hsCells (K (F := F)).hsToks) uP) $$ H
  icases H with ⟨HH, HP⟩
  ihave HP := (Entails.of_eq (show (BI.own ((Emb.inr.trans embL) uP) : sProp 𝕄) = BI.own ((EP (F := F)) (initOf (Pipeline.cells (nD := nD) (τ := τ) cfgs cellOf_inj)
    (Pipeline.launchToks (nD := nD) (τ := τ) cfgs cellOf_inj))) from rfl)) $$ HP
  imod (Pipeline.fund_ghost cfgs (EP (F := F)) cellOf_inj) $$ HP with ⟨HG, HT⟩
  imodintro
  isplitl [HH]; · iexact HH
  isplitl [HG HT]
  · iapply G_intro
    isplitl [HG]; · iexact HG
    iexact HT
  rw [show (bigSep Finset.univ fun thr : Thread nD τ => bigSep Finset.univ fun q : Fin 1 => (P (F := F) I E O0 hids).x q thr) = bigSep Finset.univ fun _ => iprop(emp) from
    bigSep_congr fun _ _ => bigSep_univ_of_subsingleton (0 : Fin 1), sep_emps]
  iempintro

/-! ## The whole buffers are the tasks' operands -/

omit [FloatOps F] [Named F] in
/-- Two tasks' row numbers are apart. -/
theorem iSet_disjoint (w w' : ℕ) (h : w ≠ w') : Disjoint (iSet w) (iSet w') :=
  Finset.disjoint_filter.mpr fun _ _ h1 h2 => h (h1.symm.trans h2)
omit [FloatOps F] [Named F] in
/-- Two tasks' rows are apart. -/
theorem oSet_disjoint (w w' : ℕ) (h : w ≠ w') : Disjoint (oSet w) (oSet w') :=
  Finset.disjoint_filter.mpr fun _ _ h1 h2 => h (h1.symm.trans h2)
omit [FloatOps F] [Named F] in
/-- The tasks' row numbers are all the row numbers. -/
theorem iSet_cover : (Finset.univ : Finset (Fin 32)).biUnion (fun w => iSet w.val) = Finset.univ := by
  ext j
  have hj : (j 0).val < 128 := (j 0).isLt
  simp only [Finset.mem_biUnion, Finset.mem_univ, true_and, iff_true]
  exact ⟨⟨(j 0).val / 8, by omega⟩, Finset.mem_filter.mpr ⟨Finset.mem_univ _, rfl⟩⟩
omit [FloatOps F] [Named F] in
/-- The tasks' rows are all the rows. -/
theorem oSet_cover : (Finset.univ : Finset (Fin 32)).biUnion (fun w => oSet w.val) = Finset.univ := by
  ext j
  have hj : (j 0).val < 128 := (j 0).isLt
  simp only [Finset.mem_biUnion, Finset.mem_univ, true_and, iff_true]
  exact ⟨⟨(j 0).val / 8, by omega⟩, Finset.mem_filter.mpr ⟨Finset.mem_univ _, rfl⟩⟩

omit [FloatOps F] [Named F] in
/-- The thirty-two tasks' operands are the three buffers whole. -/
theorem tasks_whole (d : Dev nD) (A : Buf (Elt F) (iLoc d)) (B : Buf (Elt F) (eLoc d)) (R : Buf (Elt F) (oLoc d)) :
    (bigSep Finset.univ fun w : Fin 32 => taskRes d A B R w)
      = (iprop((iLoc d ↦{fullShare} A) ∗ (eLoc d ↦{fullShare} B) ∗ (oLoc d ↦{fullShare} R)) : sProp 𝕄) := by
  have hi : (iLoc d ↦{fullShare} A : sProp 𝕄) = bigSep Finset.univ fun w : Fin 32 => iLoc d ↦[iSet w.val]{fullShare} A := by
    rw [← pointsTo_biUnion Finset.univ (ℓ := iLoc d) (fun w : Fin 32 => iSet w.val) (fun a _ b _ h => iSet_disjoint _ _ fun e => h (Fin.ext e)), iSet_cover]
    try rfl
  have ho : (oLoc d ↦{fullShare} R : sProp 𝕄) = bigSep Finset.univ fun w : Fin 32 => oLoc d ↦[oSet w.val]{fullShare} R := by
    rw [← pointsTo_biUnion Finset.univ (ℓ := oLoc d) (fun w : Fin 32 => oSet w.val) (fun a _ b _ h => oSet_disjoint _ _ fun e => h (Fin.ext e)), oSet_cover]
    try rfl
  have he : (eLoc d ↦{fullShare} B : sProp 𝕄) = bigSep Finset.univ fun w : Fin 32 => eLoc d ↦{ShareLeaves.leaf 5 fullShare w} B :=
    ShareLeaves.pointsTo_leaves Finset.univ B 5 fullShare
  rw [hi, ho, he]
  simp only [taskRes]
  rw [bigSep_sep', bigSep_sep']

omit [FloatOps F] [Named F] in
/-- The two SparseCores' tasks are the thirty-two tasks. -/
theorem cores_tasks (Φ : Fin 32 → sProp 𝕄) :
    (bigSep Finset.univ fun c : Fin ((K (F := F)).nCore 0) => bigSep Finset.univ fun i : Fin ((K (F := F)).nSub 0) => Φ (taskOf (F := F) c i))
      = bigSep Finset.univ Φ := by
  rw [bigSep_univ_comm]
  rw [← bigSep_univ_prod (fun p : Fin ((K (F := F)).nSub 0) × Fin ((K (F := F)).nCore 0) => Φ (taskOf (F := F) p.2 p.1))]
  rw [bigSep_univ_equiv (finProdFinEquiv : Fin 16 × Fin 2 ≃ Fin (16 * 2)) Φ]
  refine bigSep_congr fun p _ => congrArg Φ (Fin.ext ?_)
  show 2 * p.1.val + p.2.val = p.2.val + 2 * p.1.val
  omega

/-- The call, from the three buffers whole: the result ends gathered, the other two as they were. -/
theorem wp_gather (κ : GSem nD τ sig → ℕ) (d : Dev nD) (Φ : PUnit → sProp 𝕄) :
    iprop((K (F := F)).ctx EH (P I E O0 hids) κ ∗ (K (F := F)).tcSt EH d 0
        ∗ ((iLoc d ↦{fullShare} I d) ∗ (eLoc d ↦{fullShare} E d) ∗ (oLoc d ↦{fullShare} O0 d))
        ∗ (((K (F := F)).tcSt EH d 1 ∗ (iLoc d ↦{fullShare} I d) ∗ (eLoc d ↦{fullShare} E d) ∗ (oLoc d ↦{fullShare} gathered (I d) (E d) (hids d))) -∗ Φ ⟨⟩))
      ⊢ wp frame (wpE ((K (F := F)).defs (D (F := F))) 𝒱 (SparseCore.T d) none) Set.univ ((K (F := F)).run d 0) Φ := by
  iintro ⟨#Hctx, Hst, H, Hk⟩
  iapply ((K (F := F)).wp_run (D (F := F)) 𝒱 (EH := EH) (P := P I E O0 hids) κ d 0)
  isplitr; · iexact Hctx
  isplitl [Hst]; · iexact Hst
  isplitl [H]
  · rw [show (bigSep Finset.univ fun c : Fin ((K (F := F)).nCore 0) => (P I E O0 hids).st 0 d c)
        = (iprop((iLoc d ↦{fullShare} I d) ∗ (eLoc d ↦{fullShare} E d) ∗ (oLoc d ↦{fullShare} O0 d)) : sProp 𝕄) from
      (cores_tasks (F := F) (fun w => taskRes d (I d) (E d) (O0 d) w)).trans (tasks_whole d _ _ _)]
    iexact H
  rw [show (bigSep Finset.univ fun c : Fin ((K (F := F)).nCore 0) => (P I E O0 hids).dn 0 d c)
        = (iprop((iLoc d ↦{fullShare} I d) ∗ (eLoc d ↦{fullShare} E d) ∗ (oLoc d ↦{fullShare} gathered (I d) (E d) (hids d))) : sProp 𝕄) from
      (cores_tasks (F := F) (fun w => taskRes d (I d) (E d) (gathered (I d) (E d) (hids d)) w)).trans (tasks_whole d _ _ _)]
  iintro H
  iapply Hk; iexact H

end Cert.Proof.Gather

end
-- ==== Proof.Region.lean ====
/-
  The beam kernel as one region of the program: what its windows read at each point, what its scratch holds between points, and
  each point's obligation from the body's four runs.
-/
module

public import proofs.«01_k».proof.Proof.Body
public import proofs.«01_k».proof.Proof.ScLaunch
public import proofs.«01_k».proof.Proof.Gen.KernelIdeal.Points
public import proofs.«01_k».proof.Proof.Gen.KernelIdeal.Launch

@[expose] public section

set_option maxRecDepth 16384

noncomputable section

namespace Cert.Proof.Beam

open Cert.KernelIdeal Cert.KernelIdeal.Gen

open Idealize.ShloMosaic
open Idealize.ShloMosaic.TcCoe Idealize.ShloMosaic.Tactic
open Idealize.ShloMosaic.Pipeline (Dat BodyObligation)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Gather (UU)

variable {F : FTy → Type} [FloatOps F] [Named F]

local notation "𝕄" => MT nD τ sig (HIx 1) (Elt F) ℕ UU ℕ

/-! ## What the windows read -/

/-- What window 0 reads at point `t`, the device's buffers at `V`. -/
noncomputable def winE (V : Valuation τ sig (Elt F)) (t : Fin grid1.N) : FVec F S128x512 .f32 :=
  ((win1 0).blk t).view.read (Elt F) (V (Proc.devRef .tc (Pipeline.arrRef spec1 0)))
/-- What window 1 reads at point `t`, the device's buffers at `V`. -/
noncomputable def winEnc (V : Valuation τ sig (Elt F)) (t : Fin grid1.N) : FVec F S64x512 .f32 :=
  ((win1 1).blk t).view.read (Elt F) (V (Proc.devRef .tc (Pipeline.arrRef spec1 1)))
/-- What window 2 reads at point `t`, the device's buffers at `V`. -/
noncomputable def winHyp (V : Valuation τ sig (Elt F)) (t : Fin grid1.N) : FVec F S64x128 .f32 :=
  ((win1 2).blk t).view.read (Elt F) (V (Proc.devRef .tc (Pipeline.arrRef spec1 2)))
/-- What window 3 reads at point `t`, the device's buffers at `V`. -/
noncomputable def winM0 (V : Valuation τ sig (Elt F)) (t : Fin grid1.N) : FVec F S512x512 .f32 :=
  ((win1 3).blk t).view.read (Elt F) (V (Proc.devRef .tc (Pipeline.arrRef spec1 3)))
/-- What window 4 reads at point `t`, the device's buffers at `V`. -/
noncomputable def winM1 (V : Valuation τ sig (Elt F)) (t : Fin grid1.N) : FVec F S512x512 .f32 :=
  ((win1 4).blk t).view.read (Elt F) (V (Proc.devRef .tc (Pipeline.arrRef spec1 4)))
/-- What window 5 reads at point `t`, the device's buffers at `V`. -/
noncomputable def winWq (V : Valuation τ sig (Elt F)) (t : Fin grid1.N) : FVec F S512x512 .f32 :=
  ((win1 5).blk t).view.read (Elt F) (V (Proc.devRef .tc (Pipeline.arrRef spec1 5)))
/-- What window 6 reads at point `t`, the device's buffers at `V`. -/
noncomputable def winBp (V : Valuation τ sig (Elt F)) (t : Fin grid1.N) : FVec F S1x512 .f32 :=
  ((win1 6).blk t).view.read (Elt F) (V (Proc.devRef .tc (Pipeline.arrRef spec1 6)))
/-- What window 7 reads at point `t`, the device's buffers at `V`. -/
noncomputable def winWj (V : Valuation τ sig (Elt F)) (t : Fin grid1.N) : FVec F S5000x512 .f32 :=
  ((win1 7).blk t).view.read (Elt F) (V (Proc.devRef .tc (Pipeline.arrRef spec1 7)))
/-- What window 8 reads at point `t`, the device's buffers at `V`. -/
noncomputable def winBj (V : Valuation τ sig (Elt F)) (t : Fin grid1.N) : FVec F S1x5000x1 .f32 :=
  ((win1 8).blk t).view.read (Elt F) (V (Proc.devRef .tc (Pipeline.arrRef spec1 8)))

/-! ## What the scratch holds -/

/-- The grid has a first point. -/
theorem zero_lt : 0 < grid1.N := by decide
/-- The grid's point `n`, and its coordinates. -/
abbrev pnt (n : ℕ) (h : n < grid1.N) : Fin grid1.N := ⟨n, h⟩
/-- The coordinates of the grid's point `n`. -/
abbrev crd (n : ℕ) (h : n < grid1.N) : grid1.Coords := grid1.coords ⟨n, h⟩

/-- The joint state, made at the first point. -/
def jointV (V : Valuation τ sig (Elt F)) : FVec F S64x512 .f32 :=
  joint (winE V ⟨0, zero_lt⟩) (winM0 V ⟨0, zero_lt⟩) (winM1 V ⟨0, zero_lt⟩) (winWq V ⟨0, zero_lt⟩) (winEnc V ⟨0, zero_lt⟩) (winBp V ⟨0, zero_lt⟩)

/-- The logits made at point `n`. -/
def logit (V : Valuation τ sig (Elt F)) (n : ℕ) (h : n < grid1.N) : FVec F S1x64x5000 .f32 := k1_pay4 (jointV V) (winWj V ⟨n, h⟩) (winBj V ⟨n, h⟩)

/-- What is kept of the logits: the running maximum and sum, and the best columns with their values. -/
structure St (F : FTy → Type) where
  m : FVec F S64x128 .f32
  s : FVec F S64x128 .f32
  cv : FVec F S64x128 .f32
  ci : IVec S64x128 32

/-- The state the first point makes. -/
def st0 : St F := ⟨k1_pay16, k1_pay1 k1_pay17, k1_pay2, k1_pay3⟩

/-- Point `i` consumes the block `B` before it. -/
def consume (i : grid1.Coords) (B : FVec F S1x64x5000 .f32) (x : St F) : St F :=
  ⟨k1_pay58 B x.m, k1_pay59 B x.m x.s, keepV (candV (jjw i) (k1_pay54 B) x.cv 8), keepI (candI (blkw i) (jjw i) (k1_pay54 B) x.ci 8)⟩
/-- The lanes merged. -/
def merged (B : FVec F S1x64x5000 .f32) (i : grid1.Coords) (x : St F) : St F :=
  ⟨k1_pay58 B x.m, k1_pay59 B x.m x.s, keepV (mergeV (candV (jjw i) (k1_pay54 B) x.cv 8) 8),
    keepI (mergeI (candV (jjw i) (k1_pay54 B) x.cv 8) (candI (blkw i) (jjw i) (k1_pay54 B) x.ci 8) 8)⟩

/-- What is kept after the first `n` blocks. -/
def st (V : Valuation τ sig (Elt F)) : (n : ℕ) → n < grid1.N → St F
  | 0, _ => st0
  | n + 1, h => if n + 1 = 15 then merged (logit V n (Nat.lt_of_succ_lt h)) (crd (n + 1) h) (st V n (Nat.lt_of_succ_lt h))
    else consume (crd (n + 1) h) (logit V n (Nat.lt_of_succ_lt h)) (st V n (Nat.lt_of_succ_lt h))

/-- The grid has a point 20. -/
theorem twenty_lt : 20 < grid1.N := by decide
/-- The columns' adjusted values and their places, at the end. -/
def flE (V : Valuation τ sig (Elt F)) : IVec S64x128 32 := flat (st V 20 twenty_lt).ci
/-- The scores of the candidates, at the end. -/
def wE (V : Valuation τ sig (Elt F)) : FVec F S64x128 .f32 :=
  adj (st V 20 twenty_lt).m (st V 20 twenty_lt).s (winHyp V ⟨20, twenty_lt⟩) (st V 20 twenty_lt).cv
/-- The four results. -/
def out1 (V : Valuation τ sig (Elt F)) : FVec F S1x128 .f32 := outG (flE V) (wE V) 8
/-- The result of this number. -/
def out2 (V : Valuation τ sig (Elt F)) : FVec F S1x128 .f32 := outP (flE V) (winHyp V ⟨20, twenty_lt⟩) (wE V) 8
/-- The result of this number. -/
def out3 (V : Valuation τ sig (Elt F)) : IVec S1x128 32 := outR (flE V) (wE V) 8
/-- The result of this number. -/
def out4 (V : Valuation τ sig (Elt F)) : IVec S1x128 32 := outT (flE V) (st V 20 twenty_lt).ci (wE V) 8

/-- The scratch buffer of this number. -/
abbrev sc0 : Memref sig .tc .vmem S64x512 .f32 := Memref.whole cc1_scratch0
/-- The scratch buffer of this number. -/
abbrev sc1 : Memref sig .tc .vmem S64x128 .f32 := Memref.whole cc1_scratch1
/-- The scratch buffer of this number. -/
abbrev sc2 : Memref sig .tc .vmem S64x128 .f32 := Memref.whole cc1_scratch2
/-- The scratch buffer of this number. -/
abbrev sc3 : Memref sig .tc .vmem S64x128 .f32 := Memref.whole cc1_scratch3
/-- The scratch buffer of this number. -/
abbrev sc4 : Memref sig .tc .vmem S64x128 .i32 := Memref.whole cc1_scratch4
/-- The scratch buffer of this number. -/
abbrev sc5 : Memref sig .tc .vmem S2x64x5000 .f32 := Memref.whole cc1_scratch5

/-- The scratch at any contents. -/
def scAny (c : Dev nD) : sProp 𝕄 :=
  iprop((∃ X, own (F := F) c sc0 X) ∗ (∃ X, own (F := F) c sc1 X) ∗ (∃ X, own (F := F) c sc2 X) ∗ (∃ X, own (F := F) c sc3 X) ∗ (∃ X, own (F := F) c sc4 X) ∗ (∃ X, own (F := F) c sc5 X))

/-- The logits hold the block of point `n` where point `n + 1` reads it. -/
def hasBlk (V : Valuation τ sig (Elt F)) (n : ℕ) (h : n < grid1.N) (L : FVec F S2x64x5000 .f32) : Prop :=
  ∀ (h' : n + 1 < grid1.N) (c3 : k1_cond3 (crd (n + 1) h') = 1#1), getBlk (crd (n + 1) h') c3 L = logit V n h

/-- The scratch before point `n`. -/
def scr (V : Valuation τ sig (Elt F)) (c : Dev nD) : (n : ℕ) → n ≤ grid1.N → sProp 𝕄
  | 0, _ => scAny c
  | n + 1, h => iprop(own c sc0 (jointV V) ∗ own c sc1 (st V n h).m ∗ own c sc2 (st V n h).s ∗ own c sc3 (st V n h).cv ∗ own c sc4 (st V n h).ci
      ∗ ∃ L, ⌜hasBlk V n h L⌝ ∗ own c sc5 L)

/-- The region's proof data. -/
def dat (V : Dev nD → Valuation τ sig (Elt F)) (c : Dev nD) : Dat τ (Elt F) (HIx 1) ℕ UU ℕ cfg1 c where
  A w := V c (Proc.devRef .tc (Pipeline.arrRef spec1 w))
  after w t := match w with
    | ⟨0, _⟩ => winE (V c) t
    | ⟨1, _⟩ => winEnc (V c) t
    | ⟨2, _⟩ => winHyp (V c) t
    | ⟨3, _⟩ => winM0 (V c) t
    | ⟨4, _⟩ => winM1 (V c) t
    | ⟨5, _⟩ => winWq (V c) t
    | ⟨6, _⟩ => winBp (V c) t
    | ⟨7, _⟩ => winWj (V c) t
    | ⟨8, _⟩ => winBj (V c) t
    | ⟨9, _⟩ => out1 (V c)
    | ⟨10, _⟩ => out2 (V c)
    | ⟨11, _⟩ => out3 (V c)
    | ⟨12, _⟩ => out4 (V c)
  Φ t := scr (V c) c t.val (Nat.le_of_lt_succ t.isLt)
  q _ := fullShare
  owed _ := 0

/-! ## The points, by case -/

/-- What the conditions are at the first point. -/
theorem at_first : ∀ t : Fin grid1.N, t.val = 0 →
    condFirst (grid1.coords t) ∧ k1_cond2 (grid1.coords t) = 1#1 ∧ ¬ k1_cond3 (grid1.coords t) = 1#1 ∧ ¬ k1_cond6 (grid1.coords t) = 1#1 := by decide +kernel
/-- What the conditions are between the first point and the last. -/
theorem at_mid : ∀ t : Fin grid1.N, t.val ≠ 0 → t.val ≠ 20 →
    ¬ condFirst (grid1.coords t) ∧ k1_cond2 (grid1.coords t) = 1#1 ∧ k1_cond3 (grid1.coords t) = 1#1 ∧ ¬ k1_cond6 (grid1.coords t) = 1#1 := by decide +kernel
/-- What the conditions are at the last point. -/
theorem at_last : ∀ t : Fin grid1.N, t.val = 20 →
    ¬ condFirst (grid1.coords t) ∧ ¬ k1_cond2 (grid1.coords t) = 1#1 ∧ k1_cond3 (grid1.coords t) = 1#1 ∧ k1_cond6 (grid1.coords t) = 1#1 := by decide +kernel
/-- At point 15 the candidates are merged. -/
theorem at_merge : ∀ t : Fin grid1.N, t.val = 15 → condMerge (grid1.coords t) ∧ ¬ condKeep (grid1.coords t) := by decide +kernel
/-- At the other points that consume a block they are kept. -/
theorem at_keep : ∀ t : Fin grid1.N, t.val ≠ 0 → t.val ≠ 15 → ¬ condMerge (grid1.coords t) ∧ condKeep (grid1.coords t) := by decide +kernel
/-- A point consumes the slot the point before it wrote. -/
theorem off_next : ∀ (t : Fin grid1.N) (h : t.val + 1 < grid1.N), k1_off2 (crd (t.val + 1) h) = k1_off1 (grid1.coords t) := by decide +kernel

/-- What was put at an offset is read at the same offset. -/
theorem window_put_at {s : Shape} {α : Type} (x : s.Idx → α) (off off' size : Fin s.rank → ℕ) (inb : ∀ a, off' a + size a ≤ s.size a) (e : off' = off)
    (w : ((a : Fin s.rank) → Fin (size a)) → α) : VecWindow.window (VecWindow.put x off size w) off' size inb = w := by
  subst e; exact VecWindow.window_put_same x off' size inb w

/-- The block a point writes is the one the next point reads. -/
theorem hasBlk_put (V : Valuation τ sig (Elt F)) (n : ℕ) (h : n < grid1.N) (L : FVec F S2x64x5000 .f32) :
    hasBlk V n h (putBlk (crd n h) L (jointV V) (winWj V ⟨n, h⟩) (winBj V ⟨n, h⟩)) := fun h' c3 =>
  window_put_at (s := S2x64x5000) L (k1_off1 (crd n h)) (k1_off2 (crd (n + 1) h')) S1x64x5000.size (k1_off2_inb _ c3) (off_next ⟨n, h⟩ h') _

/-- Owning a whole memref, in the two forms. -/
theorem own_eq (c : Dev nD) {sp : Space} {S : Shape} {e : EltTy} (M : Memref sig .tc sp S e) (h : M.IsWhole) (X : S.Idx → Elt F e) :
    (own c M X : sProp 𝕄) = owns (c : Thread nD τ) M fullShare X := by
  unfold own owns; rw [h.set_eq_univ]

/-- What operand 0 holds when a point begins: its window. -/
theorem before_0 (V : Dev nD → Valuation τ sig (Elt F)) (c : Dev nD) (t : Fin cfg1.N) (d) : (dat V c).before 0 t d = winE (V c) t :=
  (dat V c).before_in_eq_fetched 0 rfl (fun _ => rfl) (fun _ _ _ => rfl) (fun _ => rfl) t d
/-- What operand 1 holds when a point begins: its window. -/
theorem before_1 (V : Dev nD → Valuation τ sig (Elt F)) (c : Dev nD) (t : Fin cfg1.N) (d) : (dat V c).before 1 t d = winEnc (V c) t :=
  (dat V c).before_in_eq_fetched 1 rfl (fun _ => rfl) (fun _ _ _ => rfl) (fun _ => rfl) t d
/-- What operand 2 holds when a point begins: its window. -/
theorem before_2 (V : Dev nD → Valuation τ sig (Elt F)) (c : Dev nD) (t : Fin cfg1.N) (d) : (dat V c).before 2 t d = winHyp (V c) t :=
  (dat V c).before_in_eq_fetched 2 rfl (fun _ => rfl) (fun _ _ _ => rfl) (fun _ => rfl) t d
/-- What operand 3 holds when a point begins: its window. -/
theorem before_3 (V : Dev nD → Valuation τ sig (Elt F)) (c : Dev nD) (t : Fin cfg1.N) (d) : (dat V c).before 3 t d = winM0 (V c) t :=
  (dat V c).before_in_eq_fetched 3 rfl (fun _ => rfl) (fun _ _ _ => rfl) (fun _ => rfl) t d
/-- What operand 4 holds when a point begins: its window. -/
theorem before_4 (V : Dev nD → Valuation τ sig (Elt F)) (c : Dev nD) (t : Fin cfg1.N) (d) : (dat V c).before 4 t d = winM1 (V c) t :=
  (dat V c).before_in_eq_fetched 4 rfl (fun _ => rfl) (fun _ _ _ => rfl) (fun _ => rfl) t d
/-- What operand 5 holds when a point begins: its window. -/
theorem before_5 (V : Dev nD → Valuation τ sig (Elt F)) (c : Dev nD) (t : Fin cfg1.N) (d) : (dat V c).before 5 t d = winWq (V c) t :=
  (dat V c).before_in_eq_fetched 5 rfl (fun _ => rfl) (fun _ _ _ => rfl) (fun _ => rfl) t d
/-- What operand 6 holds when a point begins: its window. -/
theorem before_6 (V : Dev nD → Valuation τ sig (Elt F)) (c : Dev nD) (t : Fin cfg1.N) (d) : (dat V c).before 6 t d = winBp (V c) t :=
  (dat V c).before_in_eq_fetched 6 rfl (fun _ => rfl) (fun _ _ _ => rfl) (fun _ => rfl) t d
/-- What operand 7 holds when a point begins: its window. -/
theorem before_7 (V : Dev nD → Valuation τ sig (Elt F)) (c : Dev nD) (t : Fin cfg1.N) (d) : (dat V c).before 7 t d = winWj (V c) t :=
  (dat V c).before_in_eq_fetched 7 rfl (fun _ => rfl) (fun _ _ _ => rfl) (fun _ => rfl) t d
/-- What operand 8 holds when a point begins: its window. -/
theorem before_8 (V : Dev nD → Valuation τ sig (Elt F)) (c : Dev nD) (t : Fin cfg1.N) (d) : (dat V c).before 8 t d = winBj (V c) t :=
  (dat V c).before_in_eq_fetched 8 rfl (fun _ => rfl) (fun _ _ _ => rfl) (fun _ => rfl) t d

/-! ## Each point's obligation -/

/-- What a point is given of operand 0. -/
theorem in_0 (V : Dev nD → Valuation τ sig (Elt F)) (c : Dev nD) (t : Fin cfg1.N) (d) :
    (owns (c : Thread nD τ) (st1_0 t) fullShare ((dat V c).before 0 t d) : sProp 𝕄) = own c (st1_0 t) (winE (V c) t) := by
  rw [before_0]; exact (own_eq c (st1_0 t) (hstage1_0 ((cfg1.slots t 0).cast nbuf1_0)) _).symm
/-- What a point leaves of operand 0. -/
theorem leaves_0 (V : Dev nD → Valuation τ sig (Elt F)) (c : Dev nD) (t : Fin cfg1.N) :
    ((dat V c).leavesExact 0 t : sProp 𝕄) = own c (st1_0 t) (winE (V c) t) := by
  exact (own_eq c (st1_0 t) (hstage1_0 ((cfg1.slots t 0).cast nbuf1_0)) _).symm
/-- What a point is given of operand 1. -/
theorem in_1 (V : Dev nD → Valuation τ sig (Elt F)) (c : Dev nD) (t : Fin cfg1.N) (d) :
    (owns (c : Thread nD τ) (st1_1 t) fullShare ((dat V c).before 1 t d) : sProp 𝕄) = own c (st1_1 t) (winEnc (V c) t) := by
  rw [before_1]; exact (own_eq c (st1_1 t) (hstage1_1 ((cfg1.slots t 1).cast nbuf1_1)) _).symm
/-- What a point leaves of operand 1. -/
theorem leaves_1 (V : Dev nD → Valuation τ sig (Elt F)) (c : Dev nD) (t : Fin cfg1.N) :
    ((dat V c).leavesExact 1 t : sProp 𝕄) = own c (st1_1 t) (winEnc (V c) t) := by
  exact (own_eq c (st1_1 t) (hstage1_1 ((cfg1.slots t 1).cast nbuf1_1)) _).symm
/-- What a point is given of operand 2. -/
theorem in_2 (V : Dev nD → Valuation τ sig (Elt F)) (c : Dev nD) (t : Fin cfg1.N) (d) :
    (owns (c : Thread nD τ) (st1_2 t) fullShare ((dat V c).before 2 t d) : sProp 𝕄) = own c (st1_2 t) (winHyp (V c) t) := by
  rw [before_2]; exact (own_eq c (st1_2 t) (hstage1_2 ((cfg1.slots t 2).cast nbuf1_2)) _).symm
/-- What a point leaves of operand 2. -/
theorem leaves_2 (V : Dev nD → Valuation τ sig (Elt F)) (c : Dev nD) (t : Fin cfg1.N) :
    ((dat V c).leavesExact 2 t : sProp 𝕄) = own c (st1_2 t) (winHyp (V c) t) := by
  exact (own_eq c (st1_2 t) (hstage1_2 ((cfg1.slots t 2).cast nbuf1_2)) _).symm
/-- What a point is given of operand 3. -/
theorem in_3 (V : Dev nD → Valuation τ sig (Elt F)) (c : Dev nD) (t : Fin cfg1.N) (d) :
    (owns (c : Thread nD τ) (st1_3 t) fullShare ((dat V c).before 3 t d) : sProp 𝕄) = own c (st1_3 t) (winM0 (V c) t) := by
  rw [before_3]; exact (own_eq c (st1_3 t) (hstage1_3 ((cfg1.slots t 3).cast nbuf1_3)) _).symm
/-- What a point leaves of operand 3. -/
theorem leaves_3 (V : Dev nD → Valuation τ sig (Elt F)) (c : Dev nD) (t : Fin cfg1.N) :
    ((dat V c).leavesExact 3 t : sProp 𝕄) = own c (st1_3 t) (winM0 (V c) t) := by
  exact (own_eq c (st1_3 t) (hstage1_3 ((cfg1.slots t 3).cast nbuf1_3)) _).symm
/-- What a point is given of operand 4. -/
theorem in_4 (V : Dev nD → Valuation τ sig (Elt F)) (c : Dev nD) (t : Fin cfg1.N) (d) :
    (owns (c : Thread nD τ) (st1_4 t) fullShare ((dat V c).before 4 t d) : sProp 𝕄) = own c (st1_4 t) (winM1 (V c) t) := by
  rw [before_4]; exact (own_eq c (st1_4 t) (hstage1_4 ((cfg1.slots t 4).cast nbuf1_4)) _).symm
/-- What a point leaves of operand 4. -/
theorem leaves_4 (V : Dev nD → Valuation τ sig (Elt F)) (c : Dev nD) (t : Fin cfg1.N) :
    ((dat V c).leavesExact 4 t : sProp 𝕄) = own c (st1_4 t) (winM1 (V c) t) := by
  exact (own_eq c (st1_4 t) (hstage1_4 ((cfg1.slots t 4).cast nbuf1_4)) _).symm
/-- What a point is given of operand 5. -/
theorem in_5 (V : Dev nD → Valuation τ sig (Elt F)) (c : Dev nD) (t : Fin cfg1.N) (d) :
    (owns (c : Thread nD τ) (st1_5 t) fullShare ((dat V c).before 5 t d) : sProp 𝕄) = own c (st1_5 t) (winWq (V c) t) := by
  rw [before_5]; exact (own_eq c (st1_5 t) (hstage1_5 ((cfg1.slots t 5).cast nbuf1_5)) _).symm
/-- What a point leaves of operand 5. -/
theorem leaves_5 (V : Dev nD → Valuation τ sig (Elt F)) (c : Dev nD) (t : Fin cfg1.N) :
    ((dat V c).leavesExact 5 t : sProp 𝕄) = own c (st1_5 t) (winWq (V c) t) := by
  exact (own_eq c (st1_5 t) (hstage1_5 ((cfg1.slots t 5).cast nbuf1_5)) _).symm
/-- What a point is given of operand 6. -/
theorem in_6 (V : Dev nD → Valuation τ sig (Elt F)) (c : Dev nD) (t : Fin cfg1.N) (d) :
    (owns (c : Thread nD τ) (st1_6 t) fullShare ((dat V c).before 6 t d) : sProp 𝕄) = own c (st1_6 t) (winBp (V c) t) := by
  rw [before_6]; exact (own_eq c (st1_6 t) (hstage1_6 ((cfg1.slots t 6).cast nbuf1_6)) _).symm
/-- What a point leaves of operand 6. -/
theorem leaves_6 (V : Dev nD → Valuation τ sig (Elt F)) (c : Dev nD) (t : Fin cfg1.N) :
    ((dat V c).leavesExact 6 t : sProp 𝕄) = own c (st1_6 t) (winBp (V c) t) := by
  exact (own_eq c (st1_6 t) (hstage1_6 ((cfg1.slots t 6).cast nbuf1_6)) _).symm
/-- What a point is given of operand 7. -/
theorem in_7 (V : Dev nD → Valuation τ sig (Elt F)) (c : Dev nD) (t : Fin cfg1.N) (d) :
    (owns (c : Thread nD τ) (st1_7 t) fullShare ((dat V c).before 7 t d) : sProp 𝕄) = own c (st1_7 t) (winWj (V c) t) := by
  rw [before_7]; exact (own_eq c (st1_7 t) (hstage1_7 ((cfg1.slots t 7).cast nbuf1_7)) _).symm
/-- What a point leaves of operand 7. -/
theorem leaves_7 (V : Dev nD → Valuation τ sig (Elt F)) (c : Dev nD) (t : Fin cfg1.N) :
    ((dat V c).leavesExact 7 t : sProp 𝕄) = own c (st1_7 t) (winWj (V c) t) := by
  exact (own_eq c (st1_7 t) (hstage1_7 ((cfg1.slots t 7).cast nbuf1_7)) _).symm
/-- What a point is given of operand 8. -/
theorem in_8 (V : Dev nD → Valuation τ sig (Elt F)) (c : Dev nD) (t : Fin cfg1.N) (d) :
    (owns (c : Thread nD τ) (st1_8 t) fullShare ((dat V c).before 8 t d) : sProp 𝕄) = own c (st1_8 t) (winBj (V c) t) := by
  rw [before_8]; exact (own_eq c (st1_8 t) (hstage1_8 ((cfg1.slots t 8).cast nbuf1_8)) _).symm
/-- What a point leaves of operand 8. -/
theorem leaves_8 (V : Dev nD → Valuation τ sig (Elt F)) (c : Dev nD) (t : Fin cfg1.N) :
    ((dat V c).leavesExact 8 t : sProp 𝕄) = own c (st1_8 t) (winBj (V c) t) := by
  exact (own_eq c (st1_8 t) (hstage1_8 ((cfg1.slots t 8).cast nbuf1_8)) _).symm
/-- What a point is given of operand 9. -/
theorem in_9 (V : Dev nD → Valuation τ sig (Elt F)) (c : Dev nD) (t : Fin cfg1.N) (d) :
    (owns (c : Thread nD τ) (st1_9 t) fullShare ((dat V c).before 9 t d) : sProp 𝕄) = own c (st1_9 t) ((dat V c).before 9 t d) :=
  (own_eq c (st1_9 t) (hstage1_9 ((cfg1.slots t 9).cast nbuf1_9)) _).symm
/-- What a point leaves of operand 9. -/
theorem leaves_9 (V : Dev nD → Valuation τ sig (Elt F)) (c : Dev nD) (t : Fin cfg1.N) (h : ¬ k1_cond6 (grid1.coords t) = 1#1) (ht : t.val ≠ 20) :
    ((dat V c).leavesExact 9 t : sProp 𝕄) = iprop(∃ d, own c (st1_9 t) ((dat V c).before 9 t d)) := by
  have hi : cfg1.idle 9 (cfg1.grid.coords t) = true := by
    show (!(k1_cond6 (grid1.coords t) == 1#1)) = true
    simpa using h
  have hf : (cfg1.win 9).flush t = false := by
    have hb : t.val < 21 := t.isLt
    rw [← Bool.not_eq_true, flush1_9]; omega
  unfold Dat.leavesExact
  rw [hi, hf]
  simp only [← in_9]
/-- What the last point leaves of operand 9: a result. -/
theorem last_9 (V : Dev nD → Valuation τ sig (Elt F)) (c : Dev nD) (t : Fin cfg1.N) (h : k1_cond6 (grid1.coords t) = 1#1) :
    ((dat V c).leavesExact 9 t : sProp 𝕄) = own c (st1_9 t) (out1 (V c)) := by
  have hi : cfg1.idle 9 (cfg1.grid.coords t) = false := by
    show (!(k1_cond6 (grid1.coords t) == 1#1)) = false
    simpa using h
  unfold Dat.leavesExact
  rw [hi]
  exact (own_eq c (st1_9 t) (hstage1_9 ((cfg1.slots t 9).cast nbuf1_9)) _).symm
/-- What a point is given of operand 10. -/
theorem in_10 (V : Dev nD → Valuation τ sig (Elt F)) (c : Dev nD) (t : Fin cfg1.N) (d) :
    (owns (c : Thread nD τ) (st1_10 t) fullShare ((dat V c).before 10 t d) : sProp 𝕄) = own c (st1_10 t) ((dat V c).before 10 t d) :=
  (own_eq c (st1_10 t) (hstage1_10 ((cfg1.slots t 10).cast nbuf1_10)) _).symm
/-- What a point leaves of operand 10. -/
theorem leaves_10 (V : Dev nD → Valuation τ sig (Elt F)) (c : Dev nD) (t : Fin cfg1.N) (h : ¬ k1_cond6 (grid1.coords t) = 1#1) (ht : t.val ≠ 20) :
    ((dat V c).leavesExact 10 t : sProp 𝕄) = iprop(∃ d, own c (st1_10 t) ((dat V c).before 10 t d)) := by
  have hi : cfg1.idle 10 (cfg1.grid.coords t) = true := by
    show (!(k1_cond6 (grid1.coords t) == 1#1)) = true
    simpa using h
  have hf : (cfg1.win 10).flush t = false := by
    have hb : t.val < 21 := t.isLt
    rw [← Bool.not_eq_true, flush1_10]; omega
  unfold Dat.leavesExact
  rw [hi, hf]
  simp only [← in_10]
/-- What the last point leaves of operand 10: a result. -/
theorem last_10 (V : Dev nD → Valuation τ sig (Elt F)) (c : Dev nD) (t : Fin cfg1.N) (h : k1_cond6 (grid1.coords t) = 1#1) :
    ((dat V c).leavesExact 10 t : sProp 𝕄) = own c (st1_10 t) (out2 (V c)) := by
  have hi : cfg1.idle 10 (cfg1.grid.coords t) = false := by
    show (!(k1_cond6 (grid1.coords t) == 1#1)) = false
    simpa using h
  unfold Dat.leavesExact
  rw [hi]
  exact (own_eq c (st1_10 t) (hstage1_10 ((cfg1.slots t 10).cast nbuf1_10)) _).symm
/-- What a point is given of operand 11. -/
theorem in_11 (V : Dev nD → Valuation τ sig (Elt F)) (c : Dev nD) (t : Fin cfg1.N) (d) :
    (owns (c : Thread nD τ) (st1_11 t) fullShare ((dat V c).before 11 t d) : sProp 𝕄) = own c (st1_11 t) ((dat V c).before 11 t d) :=
  (own_eq c (st1_11 t) (hstage1_11 ((cfg1.slots t 11).cast nbuf1_11)) _).symm
/-- What a point leaves of operand 11. -/
theorem leaves_11 (V : Dev nD → Valuation τ sig (Elt F)) (c : Dev nD) (t : Fin cfg1.N) (h : ¬ k1_cond6 (grid1.coords t) = 1#1) (ht : t.val ≠ 20) :
    ((dat V c).leavesExact 11 t : sProp 𝕄) = iprop(∃ d, own c (st1_11 t) ((dat V c).before 11 t d)) := by
  have hi : cfg1.idle 11 (cfg1.grid.coords t) = true := by
    show (!(k1_cond6 (grid1.coords t) == 1#1)) = true
    simpa using h
  have hf : (cfg1.win 11).flush t = false := by
    have hb : t.val < 21 := t.isLt
    rw [← Bool.not_eq_true, flush1_11]; omega
  unfold Dat.leavesExact
  rw [hi, hf]
  simp only [← in_11]
/-- What the last point leaves of operand 11: a result. -/
theorem last_11 (V : Dev nD → Valuation τ sig (Elt F)) (c : Dev nD) (t : Fin cfg1.N) (h : k1_cond6 (grid1.coords t) = 1#1) :
    ((dat V c).leavesExact 11 t : sProp 𝕄) = own c (st1_11 t) (out3 (V c)) := by
  have hi : cfg1.idle 11 (cfg1.grid.coords t) = false := by
    show (!(k1_cond6 (grid1.coords t) == 1#1)) = false
    simpa using h
  unfold Dat.leavesExact
  rw [hi]
  exact (own_eq c (st1_11 t) (hstage1_11 ((cfg1.slots t 11).cast nbuf1_11)) _).symm
/-- What a point is given of operand 12. -/
theorem in_12 (V : Dev nD → Valuation τ sig (Elt F)) (c : Dev nD) (t : Fin cfg1.N) (d) :
    (owns (c : Thread nD τ) (st1_12 t) fullShare ((dat V c).before 12 t d) : sProp 𝕄) = own c (st1_12 t) ((dat V c).before 12 t d) :=
  (own_eq c (st1_12 t) (hstage1_12 ((cfg1.slots t 12).cast nbuf1_12)) _).symm
/-- What a point leaves of operand 12. -/
theorem leaves_12 (V : Dev nD → Valuation τ sig (Elt F)) (c : Dev nD) (t : Fin cfg1.N) (h : ¬ k1_cond6 (grid1.coords t) = 1#1) (ht : t.val ≠ 20) :
    ((dat V c).leavesExact 12 t : sProp 𝕄) = iprop(∃ d, own c (st1_12 t) ((dat V c).before 12 t d)) := by
  have hi : cfg1.idle 12 (cfg1.grid.coords t) = true := by
    show (!(k1_cond6 (grid1.coords t) == 1#1)) = true
    simpa using h
  have hf : (cfg1.win 12).flush t = false := by
    have hb : t.val < 21 := t.isLt
    rw [← Bool.not_eq_true, flush1_12]; omega
  unfold Dat.leavesExact
  rw [hi, hf]
  simp only [← in_12]
/-- What the last point leaves of operand 12: a result. -/
theorem last_12 (V : Dev nD → Valuation τ sig (Elt F)) (c : Dev nD) (t : Fin cfg1.N) (h : k1_cond6 (grid1.coords t) = 1#1) :
    ((dat V c).leavesExact 12 t : sProp 𝕄) = own c (st1_12 t) (out4 (V c)) := by
  have hi : cfg1.idle 12 (cfg1.grid.coords t) = false := by
    show (!(k1_cond6 (grid1.coords t) == 1#1)) = false
    simpa using h
  unfold Dat.leavesExact
  rw [hi]
  exact (own_eq c (st1_12 t) (hstage1_12 ((cfg1.slots t 12).cast nbuf1_12)) _).symm
/-- The first point. -/
theorem obl_first (V : Dev nD → Valuation τ sig (Elt F)) (c : Dev nD) (n : ℕ) (hn : n < grid1.N) (h0 : n = 0) :
    iprop((dat V c).Φ (Fin.castSucc (n := cfg1.N) ⟨n, hn⟩) ∗ (dat V c).owesAt none (Fin.castSucc (n := cfg1.N) ⟨n, hn⟩)
        ∗ bigSep Finset.univ fun w : Fin cfg1.W => iprop(∃ d, owns (c : Thread nD τ) ((cfg1.win w).stage (cfg1.slots ⟨n, hn⟩ w)) fullShare ((dat V c).before w ⟨n, hn⟩ d)))
      ⊢ wp frame (wpE (defs₀ (F := F)) Variants.none c none) Set.univ (bodyAt1 (F := F) ⟨n, hn⟩) fun _ =>
          iprop((dat V c).Φ (Fin.succ (n := cfg1.N) ⟨n, hn⟩) ∗ (dat V c).owesAt none (Fin.succ (n := cfg1.N) ⟨n, hn⟩)
            ∗ bigSep Finset.univ fun w : Fin cfg1.W => (dat V c).leavesExact w ⟨n, hn⟩) := by
  subst h0
  obtain ⟨c1, c2, c3, c6⟩ := at_first (⟨0, hn⟩ : Fin cfg1.N) rfl
  have ht : (⟨0, hn⟩ : Fin cfg1.N).val ≠ 20 := (by decide : (0 : ℕ) ≠ 20)
  rw [bigSep_W1, bigSep_W1, leaves_0 V c (⟨0, hn⟩ : Fin cfg1.N), leaves_1 V c (⟨0, hn⟩ : Fin cfg1.N), leaves_2 V c (⟨0, hn⟩ : Fin cfg1.N), leaves_3 V c (⟨0, hn⟩ : Fin cfg1.N), leaves_4 V c (⟨0, hn⟩ : Fin cfg1.N), leaves_5 V c (⟨0, hn⟩ : Fin cfg1.N), leaves_6 V c (⟨0, hn⟩ : Fin cfg1.N), leaves_7 V c (⟨0, hn⟩ : Fin cfg1.N), leaves_8 V c (⟨0, hn⟩ : Fin cfg1.N),
    leaves_9 V c (⟨0, hn⟩ : Fin cfg1.N) c6 ht, leaves_10 V c (⟨0, hn⟩ : Fin cfg1.N) c6 ht, leaves_11 V c (⟨0, hn⟩ : Fin cfg1.N) c6 ht, leaves_12 V c (⟨0, hn⟩ : Fin cfg1.N) c6 ht]
  iintro ⟨HΦ, HO, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩⟩
  ihave H1 := (Entails.of_eq (in_0 V c (⟨0, hn⟩ : Fin cfg1.N) d0)) $$ H1
  ihave H2 := (Entails.of_eq (in_1 V c (⟨0, hn⟩ : Fin cfg1.N) d1)) $$ H2
  ihave H3 := (Entails.of_eq (in_2 V c (⟨0, hn⟩ : Fin cfg1.N) d2)) $$ H3
  ihave H4 := (Entails.of_eq (in_3 V c (⟨0, hn⟩ : Fin cfg1.N) d3)) $$ H4
  ihave H5 := (Entails.of_eq (in_4 V c (⟨0, hn⟩ : Fin cfg1.N) d4)) $$ H5
  ihave H6 := (Entails.of_eq (in_5 V c (⟨0, hn⟩ : Fin cfg1.N) d5)) $$ H6
  ihave H7 := (Entails.of_eq (in_6 V c (⟨0, hn⟩ : Fin cfg1.N) d6)) $$ H7
  ihave H8 := (Entails.of_eq (in_7 V c (⟨0, hn⟩ : Fin cfg1.N) d7)) $$ H8
  ihave H9 := (Entails.of_eq (in_8 V c (⟨0, hn⟩ : Fin cfg1.N) d8)) $$ H9
  ihave H10 := (Entails.of_eq (in_9 V c (⟨0, hn⟩ : Fin cfg1.N) d9)) $$ H10
  ihave H11 := (Entails.of_eq (in_10 V c (⟨0, hn⟩ : Fin cfg1.N) d10)) $$ H11
  ihave H12 := (Entails.of_eq (in_11 V c (⟨0, hn⟩ : Fin cfg1.N) d11)) $$ H12
  ihave H13 := (Entails.of_eq (in_12 V c (⟨0, hn⟩ : Fin cfg1.N) d12)) $$ H13
  ihave HΦ := (Entails.of_eq (show ((dat V c).Φ (Fin.castSucc (⟨0, hn⟩ : Fin cfg1.N)) : sProp 𝕄) = scAny c from rfl)) $$ HΦ
  unfold scAny
  icases HΦ with ⟨⟨%x14, H14⟩, ⟨%x15, H15⟩, ⟨%x16, H16⟩, ⟨%x17, H17⟩, ⟨%x18, H18⟩, ⟨%x19, H19⟩⟩
  iapply (runFirst c (grid1.coords (⟨0, hn⟩ : Fin cfg1.N)) c1 c2 c3 c6
    _ (hstage1_0 _) _ (hstage1_1 _) _ (hstage1_2 _) _ (hstage1_3 _) _ (hstage1_4 _) _ (hstage1_5 _) _ (hstage1_6 _) _ (hstage1_7 _) _ (hstage1_8 _) _ (hstage1_9 _) _ (hstage1_10 _) _ (hstage1_11 _) _ (hstage1_12 _)
    sc0 (Memref.isWhole_whole _) sc1 (Memref.isWhole_whole _) sc2 (Memref.isWhole_whole _) sc3 (Memref.isWhole_whole _) sc4 (Memref.isWhole_whole _) sc5 (Memref.isWhole_whole _)
    _ _ _ _ _ _ _ _ _ _ _ _ _ _ _ _ _ _ _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  isplitl [H14 H15 H16 H17 H18 H19]
  · iapply (Entails.of_eq (show (iprop(own c sc0 (jointV (V c)) ∗ own c sc1 (st (V c) 0 hn).m ∗ own c sc2 (st (V c) 0 hn).s ∗ own c sc3 (st (V c) 0 hn).cv
      ∗ own c sc4 (st (V c) 0 hn).ci ∗ ∃ L, ⌜hasBlk (V c) 0 hn L⌝ ∗ own c sc5 L) : sProp 𝕄) = (dat V c).Φ (Fin.succ (⟨0, hn⟩ : Fin cfg1.N)) from rfl))
    isplitl [H14]; · iexact H14
    isplitl [H15]; · iexact H15
    isplitl [H16]; · iexact H16
    isplitl [H17]; · iexact H17
    isplitl [H18]; · iexact H18
    iexists _; isplitr; swap; (· iexact H19); ipureintro
    exact hasBlk_put (V c) 0 hn _
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iexists _; iexact H13

/-- A point in the middle of a group. -/
theorem obl_keep (V : Dev nD → Valuation τ sig (Elt F)) (c : Dev nD) (n : ℕ) (hn : n + 1 < grid1.N) (ht : n + 1 ≠ 20) (h15 : n + 1 ≠ 15) :
    iprop((dat V c).Φ (Fin.castSucc (n := cfg1.N) ⟨n + 1, hn⟩) ∗ (dat V c).owesAt none (Fin.castSucc (n := cfg1.N) ⟨n + 1, hn⟩)
        ∗ bigSep Finset.univ fun w : Fin cfg1.W => iprop(∃ d, owns (c : Thread nD τ) ((cfg1.win w).stage (cfg1.slots ⟨n + 1, hn⟩ w)) fullShare ((dat V c).before w ⟨n + 1, hn⟩ d)))
      ⊢ wp frame (wpE (defs₀ (F := F)) Variants.none c none) Set.univ (bodyAt1 (F := F) ⟨n + 1, hn⟩) fun _ =>
          iprop((dat V c).Φ (Fin.succ (n := cfg1.N) ⟨n + 1, hn⟩) ∗ (dat V c).owesAt none (Fin.succ (n := cfg1.N) ⟨n + 1, hn⟩)
            ∗ bigSep Finset.univ fun w : Fin cfg1.W => (dat V c).leavesExact w ⟨n + 1, hn⟩) := by
  have hp : n < grid1.N := Nat.lt_of_succ_lt hn
  obtain ⟨c1, c2, c3, c6⟩ := at_mid (⟨n + 1, hn⟩ : Fin cfg1.N) (Nat.succ_ne_zero n) ht
  obtain ⟨c4, c5⟩ := at_keep (⟨n + 1, hn⟩ : Fin cfg1.N) (Nat.succ_ne_zero n) h15
  have hst : st (V c) (n + 1) hn = consume (crd (n + 1) hn) (logit (V c) n hp) (st (V c) n hp) := if_neg h15
  rw [bigSep_W1, bigSep_W1, leaves_0 V c (⟨n + 1, hn⟩ : Fin cfg1.N), leaves_1 V c (⟨n + 1, hn⟩ : Fin cfg1.N), leaves_2 V c (⟨n + 1, hn⟩ : Fin cfg1.N), leaves_3 V c (⟨n + 1, hn⟩ : Fin cfg1.N), leaves_4 V c (⟨n + 1, hn⟩ : Fin cfg1.N), leaves_5 V c (⟨n + 1, hn⟩ : Fin cfg1.N), leaves_6 V c (⟨n + 1, hn⟩ : Fin cfg1.N), leaves_7 V c (⟨n + 1, hn⟩ : Fin cfg1.N), leaves_8 V c (⟨n + 1, hn⟩ : Fin cfg1.N),
    leaves_9 V c (⟨n + 1, hn⟩ : Fin cfg1.N) c6 ht, leaves_10 V c (⟨n + 1, hn⟩ : Fin cfg1.N) c6 ht, leaves_11 V c (⟨n + 1, hn⟩ : Fin cfg1.N) c6 ht, leaves_12 V c (⟨n + 1, hn⟩ : Fin cfg1.N) c6 ht]
  iintro ⟨HΦ, HO, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩⟩
  ihave H1 := (Entails.of_eq (in_0 V c (⟨n + 1, hn⟩ : Fin cfg1.N) d0)) $$ H1
  ihave H2 := (Entails.of_eq (in_1 V c (⟨n + 1, hn⟩ : Fin cfg1.N) d1)) $$ H2
  ihave H3 := (Entails.of_eq (in_2 V c (⟨n + 1, hn⟩ : Fin cfg1.N) d2)) $$ H3
  ihave H4 := (Entails.of_eq (in_3 V c (⟨n + 1, hn⟩ : Fin cfg1.N) d3)) $$ H4
  ihave H5 := (Entails.of_eq (in_4 V c (⟨n + 1, hn⟩ : Fin cfg1.N) d4)) $$ H5
  ihave H6 := (Entails.of_eq (in_5 V c (⟨n + 1, hn⟩ : Fin cfg1.N) d5)) $$ H6
  ihave H7 := (Entails.of_eq (in_6 V c (⟨n + 1, hn⟩ : Fin cfg1.N) d6)) $$ H7
  ihave H8 := (Entails.of_eq (in_7 V c (⟨n + 1, hn⟩ : Fin cfg1.N) d7)) $$ H8
  ihave H9 := (Entails.of_eq (in_8 V c (⟨n + 1, hn⟩ : Fin cfg1.N) d8)) $$ H9
  ihave H10 := (Entails.of_eq (in_9 V c (⟨n + 1, hn⟩ : Fin cfg1.N) d9)) $$ H10
  ihave H11 := (Entails.of_eq (in_10 V c (⟨n + 1, hn⟩ : Fin cfg1.N) d10)) $$ H11
  ihave H12 := (Entails.of_eq (in_11 V c (⟨n + 1, hn⟩ : Fin cfg1.N) d11)) $$ H12
  ihave H13 := (Entails.of_eq (in_12 V c (⟨n + 1, hn⟩ : Fin cfg1.N) d12)) $$ H13
  ihave HΦ := (Entails.of_eq (show ((dat V c).Φ (Fin.castSucc (⟨n + 1, hn⟩ : Fin cfg1.N)) : sProp 𝕄)
    = iprop(own c sc0 (jointV (V c)) ∗ own c sc1 (st (V c) n hp).m ∗ own c sc2 (st (V c) n hp).s ∗ own c sc3 (st (V c) n hp).cv ∗ own c sc4 (st (V c) n hp).ci
      ∗ ∃ L, ⌜hasBlk (V c) n hp L⌝ ∗ own c sc5 L) from rfl)) $$ HΦ
  icases HΦ with ⟨H14, H15, H16, H17, H18, ⟨%L, %hL, H19⟩⟩
  iapply (runKeep c (grid1.coords (⟨n + 1, hn⟩ : Fin cfg1.N)) c1 c2 c3 c4 c5 c6
    _ (hstage1_0 _) _ (hstage1_1 _) _ (hstage1_2 _) _ (hstage1_3 _) _ (hstage1_4 _) _ (hstage1_5 _) _ (hstage1_6 _) _ (hstage1_7 _) _ (hstage1_8 _) _ (hstage1_9 _) _ (hstage1_10 _) _ (hstage1_11 _) _ (hstage1_12 _)
    sc0 (Memref.isWhole_whole _) sc1 (Memref.isWhole_whole _) sc2 (Memref.isWhole_whole _) sc3 (Memref.isWhole_whole _) sc4 (Memref.isWhole_whole _) sc5 (Memref.isWhole_whole _)
    _ _ _ _ _ _ _ _ _ _ _ _ _ _ _ _ _ _ _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  rw [hL hn c3]
  isplitl [H14 H15 H16 H17 H18 H19]
  · iapply (Entails.of_eq (show (iprop(own c sc0 (jointV (V c)) ∗ own c sc1 (st (V c) (n + 1) hn).m ∗ own c sc2 (st (V c) (n + 1) hn).s ∗ own c sc3 (st (V c) (n + 1) hn).cv
      ∗ own c sc4 (st (V c) (n + 1) hn).ci ∗ ∃ L, ⌜hasBlk (V c) (n + 1) hn L⌝ ∗ own c sc5 L) : sProp 𝕄) = (dat V c).Φ (Fin.succ (⟨n + 1, hn⟩ : Fin cfg1.N)) from rfl))
    rw [hst]
    isplitl [H14]; · iexact H14
    isplitl [H15]; · iexact H15
    isplitl [H16]; · iexact H16
    isplitl [H17]; · iexact H17
    isplitl [H18]; · iexact H18
    iexists _; isplitr; swap; (· iexact H19); ipureintro
    exact hasBlk_put (V c) (n + 1) hn _
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iexists _; iexact H13

/-- The last point of a group. -/
theorem obl_merge (V : Dev nD → Valuation τ sig (Elt F)) (c : Dev nD) (n : ℕ) (hn : n + 1 < grid1.N) (ht : n + 1 ≠ 20) (h15 : n + 1 = 15) :
    iprop((dat V c).Φ (Fin.castSucc (n := cfg1.N) ⟨n + 1, hn⟩) ∗ (dat V c).owesAt none (Fin.castSucc (n := cfg1.N) ⟨n + 1, hn⟩)
        ∗ bigSep Finset.univ fun w : Fin cfg1.W => iprop(∃ d, owns (c : Thread nD τ) ((cfg1.win w).stage (cfg1.slots ⟨n + 1, hn⟩ w)) fullShare ((dat V c).before w ⟨n + 1, hn⟩ d)))
      ⊢ wp frame (wpE (defs₀ (F := F)) Variants.none c none) Set.univ (bodyAt1 (F := F) ⟨n + 1, hn⟩) fun _ =>
          iprop((dat V c).Φ (Fin.succ (n := cfg1.N) ⟨n + 1, hn⟩) ∗ (dat V c).owesAt none (Fin.succ (n := cfg1.N) ⟨n + 1, hn⟩)
            ∗ bigSep Finset.univ fun w : Fin cfg1.W => (dat V c).leavesExact w ⟨n + 1, hn⟩) := by
  have hp : n < grid1.N := Nat.lt_of_succ_lt hn
  obtain ⟨c1, c2, c3, c6⟩ := at_mid (⟨n + 1, hn⟩ : Fin cfg1.N) (Nat.succ_ne_zero n) ht
  obtain ⟨c4, c5⟩ := at_merge (⟨n + 1, hn⟩ : Fin cfg1.N) h15
  have hst : st (V c) (n + 1) hn = merged (logit (V c) n hp) (crd (n + 1) hn) (st (V c) n hp) := if_pos h15
  rw [bigSep_W1, bigSep_W1, leaves_0 V c (⟨n + 1, hn⟩ : Fin cfg1.N), leaves_1 V c (⟨n + 1, hn⟩ : Fin cfg1.N), leaves_2 V c (⟨n + 1, hn⟩ : Fin cfg1.N), leaves_3 V c (⟨n + 1, hn⟩ : Fin cfg1.N), leaves_4 V c (⟨n + 1, hn⟩ : Fin cfg1.N), leaves_5 V c (⟨n + 1, hn⟩ : Fin cfg1.N), leaves_6 V c (⟨n + 1, hn⟩ : Fin cfg1.N), leaves_7 V c (⟨n + 1, hn⟩ : Fin cfg1.N), leaves_8 V c (⟨n + 1, hn⟩ : Fin cfg1.N),
    leaves_9 V c (⟨n + 1, hn⟩ : Fin cfg1.N) c6 ht, leaves_10 V c (⟨n + 1, hn⟩ : Fin cfg1.N) c6 ht, leaves_11 V c (⟨n + 1, hn⟩ : Fin cfg1.N) c6 ht, leaves_12 V c (⟨n + 1, hn⟩ : Fin cfg1.N) c6 ht]
  iintro ⟨HΦ, HO, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩⟩
  ihave H1 := (Entails.of_eq (in_0 V c (⟨n + 1, hn⟩ : Fin cfg1.N) d0)) $$ H1
  ihave H2 := (Entails.of_eq (in_1 V c (⟨n + 1, hn⟩ : Fin cfg1.N) d1)) $$ H2
  ihave H3 := (Entails.of_eq (in_2 V c (⟨n + 1, hn⟩ : Fin cfg1.N) d2)) $$ H3
  ihave H4 := (Entails.of_eq (in_3 V c (⟨n + 1, hn⟩ : Fin cfg1.N) d3)) $$ H4
  ihave H5 := (Entails.of_eq (in_4 V c (⟨n + 1, hn⟩ : Fin cfg1.N) d4)) $$ H5
  ihave H6 := (Entails.of_eq (in_5 V c (⟨n + 1, hn⟩ : Fin cfg1.N) d5)) $$ H6
  ihave H7 := (Entails.of_eq (in_6 V c (⟨n + 1, hn⟩ : Fin cfg1.N) d6)) $$ H7
  ihave H8 := (Entails.of_eq (in_7 V c (⟨n + 1, hn⟩ : Fin cfg1.N) d7)) $$ H8
  ihave H9 := (Entails.of_eq (in_8 V c (⟨n + 1, hn⟩ : Fin cfg1.N) d8)) $$ H9
  ihave H10 := (Entails.of_eq (in_9 V c (⟨n + 1, hn⟩ : Fin cfg1.N) d9)) $$ H10
  ihave H11 := (Entails.of_eq (in_10 V c (⟨n + 1, hn⟩ : Fin cfg1.N) d10)) $$ H11
  ihave H12 := (Entails.of_eq (in_11 V c (⟨n + 1, hn⟩ : Fin cfg1.N) d11)) $$ H12
  ihave H13 := (Entails.of_eq (in_12 V c (⟨n + 1, hn⟩ : Fin cfg1.N) d12)) $$ H13
  ihave HΦ := (Entails.of_eq (show ((dat V c).Φ (Fin.castSucc (⟨n + 1, hn⟩ : Fin cfg1.N)) : sProp 𝕄)
    = iprop(own c sc0 (jointV (V c)) ∗ own c sc1 (st (V c) n hp).m ∗ own c sc2 (st (V c) n hp).s ∗ own c sc3 (st (V c) n hp).cv ∗ own c sc4 (st (V c) n hp).ci
      ∗ ∃ L, ⌜hasBlk (V c) n hp L⌝ ∗ own c sc5 L) from rfl)) $$ HΦ
  icases HΦ with ⟨H14, H15, H16, H17, H18, ⟨%L, %hL, H19⟩⟩
  iapply (runMerge c (grid1.coords (⟨n + 1, hn⟩ : Fin cfg1.N)) c1 c2 c3 c4 c5 c6
    _ (hstage1_0 _) _ (hstage1_1 _) _ (hstage1_2 _) _ (hstage1_3 _) _ (hstage1_4 _) _ (hstage1_5 _) _ (hstage1_6 _) _ (hstage1_7 _) _ (hstage1_8 _) _ (hstage1_9 _) _ (hstage1_10 _) _ (hstage1_11 _) _ (hstage1_12 _)
    sc0 (Memref.isWhole_whole _) sc1 (Memref.isWhole_whole _) sc2 (Memref.isWhole_whole _) sc3 (Memref.isWhole_whole _) sc4 (Memref.isWhole_whole _) sc5 (Memref.isWhole_whole _)
    _ _ _ _ _ _ _ _ _ _ _ _ _ _ _ _ _ _ _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  rw [hL hn c3]
  isplitl [H14 H15 H16 H17 H18 H19]
  · iapply (Entails.of_eq (show (iprop(own c sc0 (jointV (V c)) ∗ own c sc1 (st (V c) (n + 1) hn).m ∗ own c sc2 (st (V c) (n + 1) hn).s ∗ own c sc3 (st (V c) (n + 1) hn).cv
      ∗ own c sc4 (st (V c) (n + 1) hn).ci ∗ ∃ L, ⌜hasBlk (V c) (n + 1) hn L⌝ ∗ own c sc5 L) : sProp 𝕄) = (dat V c).Φ (Fin.succ (⟨n + 1, hn⟩ : Fin cfg1.N)) from rfl))
    rw [hst]
    isplitl [H14]; · iexact H14
    isplitl [H15]; · iexact H15
    isplitl [H16]; · iexact H16
    isplitl [H17]; · iexact H17
    isplitl [H18]; · iexact H18
    iexists _; isplitr; swap; (· iexact H19); ipureintro
    exact hasBlk_put (V c) (n + 1) hn _
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iexists _; iexact H13

/-- The last point. -/
theorem obl_last (V : Dev nD → Valuation τ sig (Elt F)) (c : Dev nD) (n : ℕ) (hn : n + 1 < grid1.N) (ht : n + 1 = 20) :
    iprop((dat V c).Φ (Fin.castSucc (n := cfg1.N) ⟨n + 1, hn⟩) ∗ (dat V c).owesAt none (Fin.castSucc (n := cfg1.N) ⟨n + 1, hn⟩)
        ∗ bigSep Finset.univ fun w : Fin cfg1.W => iprop(∃ d, owns (c : Thread nD τ) ((cfg1.win w).stage (cfg1.slots ⟨n + 1, hn⟩ w)) fullShare ((dat V c).before w ⟨n + 1, hn⟩ d)))
      ⊢ wp frame (wpE (defs₀ (F := F)) Variants.none c none) Set.univ (bodyAt1 (F := F) ⟨n + 1, hn⟩) fun _ =>
          iprop((dat V c).Φ (Fin.succ (n := cfg1.N) ⟨n + 1, hn⟩) ∗ (dat V c).owesAt none (Fin.succ (n := cfg1.N) ⟨n + 1, hn⟩)
            ∗ bigSep Finset.univ fun w : Fin cfg1.W => (dat V c).leavesExact w ⟨n + 1, hn⟩) := by
  have hp : n < grid1.N := Nat.lt_of_succ_lt hn
  obtain rfl : n = 19 := by omega
  obtain ⟨c1, c2, c3, c6⟩ := at_last (⟨19 + 1, hn⟩ : Fin cfg1.N) rfl
  obtain ⟨c4, c5⟩ := at_keep (⟨19 + 1, hn⟩ : Fin cfg1.N) (Nat.succ_ne_zero 19) (show ¬ (19 + 1 = 15) by decide)
  have hst : st (V c) (19 + 1) hn = consume (crd (19 + 1) hn) (logit (V c) 19 hp) (st (V c) 19 hp) := if_neg (by decide)
  rw [bigSep_W1, bigSep_W1, leaves_0 V c (⟨19 + 1, hn⟩ : Fin cfg1.N), leaves_1 V c (⟨19 + 1, hn⟩ : Fin cfg1.N), leaves_2 V c (⟨19 + 1, hn⟩ : Fin cfg1.N), leaves_3 V c (⟨19 + 1, hn⟩ : Fin cfg1.N), leaves_4 V c (⟨19 + 1, hn⟩ : Fin cfg1.N), leaves_5 V c (⟨19 + 1, hn⟩ : Fin cfg1.N), leaves_6 V c (⟨19 + 1, hn⟩ : Fin cfg1.N), leaves_7 V c (⟨19 + 1, hn⟩ : Fin cfg1.N), leaves_8 V c (⟨19 + 1, hn⟩ : Fin cfg1.N),
    last_9 V c (⟨19 + 1, hn⟩ : Fin cfg1.N) c6, last_10 V c (⟨19 + 1, hn⟩ : Fin cfg1.N) c6, last_11 V c (⟨19 + 1, hn⟩ : Fin cfg1.N) c6, last_12 V c (⟨19 + 1, hn⟩ : Fin cfg1.N) c6]
  iintro ⟨HΦ, HO, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩⟩
  ihave H1 := (Entails.of_eq (in_0 V c (⟨19 + 1, hn⟩ : Fin cfg1.N) d0)) $$ H1
  ihave H2 := (Entails.of_eq (in_1 V c (⟨19 + 1, hn⟩ : Fin cfg1.N) d1)) $$ H2
  ihave H3 := (Entails.of_eq (in_2 V c (⟨19 + 1, hn⟩ : Fin cfg1.N) d2)) $$ H3
  ihave H4 := (Entails.of_eq (in_3 V c (⟨19 + 1, hn⟩ : Fin cfg1.N) d3)) $$ H4
  ihave H5 := (Entails.of_eq (in_4 V c (⟨19 + 1, hn⟩ : Fin cfg1.N) d4)) $$ H5
  ihave H6 := (Entails.of_eq (in_5 V c (⟨19 + 1, hn⟩ : Fin cfg1.N) d5)) $$ H6
  ihave H7 := (Entails.of_eq (in_6 V c (⟨19 + 1, hn⟩ : Fin cfg1.N) d6)) $$ H7
  ihave H8 := (Entails.of_eq (in_7 V c (⟨19 + 1, hn⟩ : Fin cfg1.N) d7)) $$ H8
  ihave H9 := (Entails.of_eq (in_8 V c (⟨19 + 1, hn⟩ : Fin cfg1.N) d8)) $$ H9
  ihave H10 := (Entails.of_eq (in_9 V c (⟨19 + 1, hn⟩ : Fin cfg1.N) d9)) $$ H10
  ihave H11 := (Entails.of_eq (in_10 V c (⟨19 + 1, hn⟩ : Fin cfg1.N) d10)) $$ H11
  ihave H12 := (Entails.of_eq (in_11 V c (⟨19 + 1, hn⟩ : Fin cfg1.N) d11)) $$ H12
  ihave H13 := (Entails.of_eq (in_12 V c (⟨19 + 1, hn⟩ : Fin cfg1.N) d12)) $$ H13
  ihave HΦ := (Entails.of_eq (show ((dat V c).Φ (Fin.castSucc (⟨19 + 1, hn⟩ : Fin cfg1.N)) : sProp 𝕄)
    = iprop(own c sc0 (jointV (V c)) ∗ own c sc1 (st (V c) 19 hp).m ∗ own c sc2 (st (V c) 19 hp).s ∗ own c sc3 (st (V c) 19 hp).cv ∗ own c sc4 (st (V c) 19 hp).ci
      ∗ ∃ L, ⌜hasBlk (V c) 19 hp L⌝ ∗ own c sc5 L) from rfl)) $$ HΦ
  icases HΦ with ⟨H14, H15, H16, H17, H18, ⟨%L, %hL, H19⟩⟩
  iapply (runLast c (grid1.coords (⟨19 + 1, hn⟩ : Fin cfg1.N)) c1 c2 c3 c4 c5 c6
    _ (hstage1_0 _) _ (hstage1_1 _) _ (hstage1_2 _) _ (hstage1_3 _) _ (hstage1_4 _) _ (hstage1_5 _) _ (hstage1_6 _) _ (hstage1_7 _) _ (hstage1_8 _) _ (hstage1_9 _) _ (hstage1_10 _) _ (hstage1_11 _) _ (hstage1_12 _)
    sc0 (Memref.isWhole_whole _) sc1 (Memref.isWhole_whole _) sc2 (Memref.isWhole_whole _) sc3 (Memref.isWhole_whole _) sc4 (Memref.isWhole_whole _) sc5 (Memref.isWhole_whole _)
    _ _ _ _ _ _ _ _ _ _ _ _ _ _ _ _ _ _ _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  rw [hL hn c3]
  isplitl [H14 H15 H16 H17 H18 H19]
  · iapply (Entails.of_eq (show (iprop(own c sc0 (jointV (V c)) ∗ own c sc1 (st (V c) (19 + 1) hn).m ∗ own c sc2 (st (V c) (19 + 1) hn).s ∗ own c sc3 (st (V c) (19 + 1) hn).cv
      ∗ own c sc4 (st (V c) (19 + 1) hn).ci ∗ ∃ L, ⌜hasBlk (V c) (19 + 1) hn L⌝ ∗ own c sc5 L) : sProp 𝕄) = (dat V c).Φ (Fin.succ (⟨19 + 1, hn⟩ : Fin cfg1.N)) from rfl))
    rw [hst]
    isplitl [H14]; · iexact H14
    isplitl [H15]; · iexact H15
    isplitl [H16]; · iexact H16
    isplitl [H17]; · iexact H17
    isplitl [H18]; · iexact H18
    iexists _; isplitr; swap; (· iexact H19); ipureintro
    exact fun h' => absurd h' (by decide)
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · (unfold out1 flE wE; rw [show st (V c) 20 twenty_lt = _ from hst]; iexact H10)
  isplitl [H11]; · (unfold out2 flE wE; rw [show st (V c) 20 twenty_lt = _ from hst]; iexact H11)
  isplitl [H12]; · (unfold out3 flE wE; rw [show st (V c) 20 twenty_lt = _ from hst]; iexact H12)
  (unfold out4 flE wE; rw [show st (V c) 20 twenty_lt = _ from hst]; iexact H13)

/-- Every point's obligation. -/
theorem body_obligation (V : Dev nD → Valuation τ sig (Elt F)) (c : Dev nD) : BodyObligation (dat V c) (defs₀ (F := F)) Variants.none none Set.univ := fun t => by
  have e1 (w : Fin cfg1.W) : (match (fun _ : Fin cfg1.W => false) w with
      | true => iprop(∃ X, owns (c : Thread nD τ) ((cfg1.win w).stage (cfg1.slots t w)) fullShare X)
      | false => iprop(∃ d, owns (c : Thread nD τ) ((cfg1.win w).stage (cfg1.slots t w)) fullShare ((dat V c).before w t d)) : sProp 𝕄)
    = iprop(∃ d, owns (c : Thread nD τ) ((cfg1.win w).stage (cfg1.slots t w)) fullShare ((dat V c).before w t d)) := rfl
  show iprop((dat V c).Φ t.castSucc ∗ (dat V c).owesAt none t.castSucc
        ∗ bigSep Finset.univ fun w : Fin cfg1.W => iprop(∃ d, owns (c : Thread nD τ) ((cfg1.win w).stage (cfg1.slots t w)) fullShare ((dat V c).before w t d)))
      ⊢ wp frame (wpE (defs₀ (F := F)) Variants.none c none) Set.univ (defs₀ (F := F) .tc cfg1.body (cfg1.bodyArgs t (cfg1.slots t))) fun _ =>
          iprop((dat V c).Φ t.succ ∗ (dat V c).owesAt none t.succ
            ∗ bigSep Finset.univ fun w : Fin cfg1.W => (dat V c).leavesExact w t)
  show _ ⊢ wp frame (wpE (defs₀ (F := F)) Variants.none c none) Set.univ (bodyAt1 (F := F) t) _
  obtain ⟨n, hn⟩ := t
  cases n with
  | zero => exact obl_first V c 0 hn rfl
  | succ n =>
    by_cases h20 : n + 1 = 20
    · exact obl_last V c n hn h20
    · by_cases h15 : n + 1 = 15
      · exact obl_merge V c n hn h20 h15
      · exact obl_keep V c n hn h20 h15

end Cert.Proof.Beam

end
-- ==== Proof.Seg.lean ====
/-
  The beam kernel's region as one step of @main: entered with the device's buffers at any contents, left with the four outputs'
  arrays written and everything else as it was.
-/
module

public import proofs.«01_k».proof.Proof.Region
public import Idealize.ShloMosaic.Lib.Pipeline.RegionArraysS
public import Idealize.ShloMosaic.Lib.Pipeline.Value

@[expose] public section

set_option maxRecDepth 16384

noncomputable section

namespace Cert.Proof.Beam

open Cert.KernelIdeal Cert.KernelIdeal.Gen

open Idealize.ShloMosaic
open Idealize.ShloMosaic.TcCoe Idealize.ShloMosaic.Tactic
open Idealize.ShloMosaic.Pipeline (Dat BodyObligation)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Gather (UU K D 𝒱 EP EH G)

variable {F : FTy → Type} [FloatOps F] [Named F]

local notation "𝕄" => MT nD τ sig (HIx 1) (Elt F) ℕ UU ℕ

/-- The region's data, one per call. -/
noncomputable abbrev dats (V : Dev nD → Valuation τ sig (Elt F)) (p : Fin 1) (c : Dev nD) :
    Dat τ (Elt F) (HIx 1) ℕ UU ℕ (Pipeline.pin (pcfgs (F := F)) (fun q => (cfgs q).toPCfg_adm) p) c :=
  match p with | 0 => dat V c

/-- The scratch buffers as the call receives them. -/
theorem scratch_in (c : Dev nD) : (Pipeline.scopedRest (Ix := HIx 1) (Name := ℕ) (U := UU) (Lvl := ℕ) (Val := Elt F) spec1 c : sProp 𝕄) ⊢ scAny c := by
  rw [scopedRest1_eq]; unfold scAny
  iintro ⟨⟨%f0, H0⟩, ⟨%f1, H1⟩, ⟨%f2, H2⟩, ⟨%f3, H3⟩, ⟨%f4, H4⟩, ⟨%f5, H5⟩⟩
  isplitl [H0]; · iexists _; unfold own; iexists f0; isplitr; swap; (· iexact H0); ipureintro; rfl
  isplitl [H1]; · iexists _; unfold own; iexists f1; isplitr; swap; (· iexact H1); ipureintro; rfl
  isplitl [H2]; · iexists _; unfold own; iexists f2; isplitr; swap; (· iexact H2); ipureintro; rfl
  isplitl [H3]; · iexists _; unfold own; iexists f3; isplitr; swap; (· iexact H3); ipureintro; rfl
  isplitl [H4]; · iexists _; unfold own; iexists f4; isplitr; swap; (· iexact H4); ipureintro; rfl
  iexists _; unfold own; iexists f5; isplitr; swap; (· iexact H5); ipureintro; rfl

/-- The scratch buffers as the call returns them. -/
theorem scratch_out (c : Dev nD) : (scAny c : sProp 𝕄) ⊢ Pipeline.scopedRest (Ix := HIx 1) (Name := ℕ) (U := UU) (Lvl := ℕ) (Val := Elt F) spec1 c := by
  rw [scopedRest1_eq]; unfold scAny own
  iintro ⟨⟨%X0, %f0, -, H0⟩, ⟨%X1, %f1, -, H1⟩, ⟨%X2, %f2, -, H2⟩, ⟨%X3, %f3, -, H3⟩, ⟨%X4, %f4, -, H4⟩, ⟨%X5, %f5, -, H5⟩⟩
  isplitl [H0]; · iexists f0; iexact H0
  isplitl [H1]; · iexists f1; iexact H1
  isplitl [H2]; · iexists f2; iexact H2
  isplitl [H3]; · iexists f3; iexact H3
  isplitl [H4]; · iexists f4; iexact H4
  iexists f5; iexact H5

/-- Whatever the scratch buffers hold, they are held. -/
theorem scr_any (V : Valuation τ sig (Elt F)) (c : Dev nD) (n : ℕ) (h : n ≤ grid1.N) : (scr V c n h : sProp 𝕄) ⊢ scAny c := by
  cases n with
  | zero => exact .rfl
  | succ n =>
    show iprop(own c sc0 (jointV V) ∗ own c sc1 (st V n h).m ∗ own c sc2 (st V n h).s ∗ own c sc3 (st V n h).cv ∗ own c sc4 (st V n h).ci
      ∗ ∃ L, ⌜hasBlk V n h L⌝ ∗ own c sc5 L) ⊢ _
    unfold scAny
    iintro ⟨H0, H1, H2, H3, H4, %L, -, H5⟩
    isplitl [H0]; · iexists _; iexact H0
    isplitl [H1]; · iexists _; iexact H1
    isplitl [H2]; · iexists _; iexact H2
    isplitl [H3]; · iexists _; iexact H3
    isplitl [H4]; · iexists _; iexact H4
    iexists _; iexact H5

/-- The invariant before the first point. -/
theorem hin (V : Dev nD → Valuation τ sig (Elt F)) (c : Dev nD) :
    iprop(Pipeline.scopedRest (Ix := HIx 1) (Name := ℕ) (U := UU) (Lvl := ℕ) (Val := Elt F) spec1 c ∗ emp) ⊢ ((dat V c).Φ 0 : sProp 𝕄) := by
  show iprop(Pipeline.scopedRest (Ix := HIx 1) (Name := ℕ) (U := UU) (Lvl := ℕ) (Val := Elt F) spec1 c ∗ emp) ⊢ (scAny c : sProp 𝕄)
  iintro ⟨H, -⟩; iapply (scratch_in c); iexact H

/-- The invariant after the last point. -/
theorem hout (V : Dev nD → Valuation τ sig (Elt F)) (c : Dev nD) :
    ((dat V c).Φ (Fin.last cfg1.N) : sProp 𝕄) ⊢ iprop(Pipeline.scopedRest (Ix := HIx 1) (Name := ℕ) (U := UU) (Lvl := ℕ) (Val := Elt F) spec1 c ∗ emp) := by
  have h : ((dat V c).Φ (Fin.last cfg1.N) : sProp 𝕄) ⊢ Pipeline.scopedRest (Ix := HIx 1) (Name := ℕ) (U := UU) (Lvl := ℕ) (Val := Elt F) spec1 c :=
    (scr_any (V c) c (Fin.last cfg1.N).val (Nat.le_of_lt_succ (Fin.last cfg1.N).isLt)).trans (scratch_out c)
  iintro H; isplitl [H]; · iapply h; iexact H
  iempintro

/-- The buffers no call's scope takes. -/
def bufs : Finset (DevRef τ sig) := (StableHlo.tcRefs τ sig).filter fun b => ¬ b.isScoped

/-- The call's arrays are among the host's buffers. -/
theorem arrs_sub : Pipeline.arrRefs (pcfgs (F := F) 0).spec ⊆ bufs := by
  show Pipeline.arrRefs (τ := τ) spec1 ⊆ bufs
  decide

/-- The levels the call's semaphores wait at. -/
theorem cut (b : Dev nD → ℕ) : Pipeline.LevelCut (nD := nD) (τ := τ) (pcfgs (F := F)) (fun q => (cfgs q).toPCfg_adm) (none : HIx 1) (K (F := F)).L (K (F := F)).lev 0 0 b :=
  ⟨fun _ _ _ => Finset.mem_univ _, fun _ _ _ => Nat.zero_le _, fun _ _ _ h => absurd h (lt_irrefl 0)⟩

/-- The region, entered with the device's buffers at `V`. -/
noncomputable def seg (V : Dev nD → Valuation τ sig (Elt F)) :
    Pipeline.RegionSeg (nD := nD) (τ := τ) (pcfgs (F := F)) (fun q => (cfgs q).toPCfg_adm) (dats V) (none : HIx 1) (defs₀ (F := F)) Variants.none (K (F := F)).L (K (F := F)).lev 0 :=
  Pipeline.RegionSeg.ofHeldIn (pcfgs (F := F)) (fun q => (cfgs q).toPCfg_adm) (dats V) (none : HIx 1) (defs₀ (F := F)) Variants.none (K (F := F)).L (K (F := F)).lev 0 0
    bufs (fun _ => iprop(emp)) (fun _ => iprop(emp)) launch1.toP rfl (fun c => (body_obligation V c).loose) (fun _ _ => rfl) (fun _ => rfl)
    (fun c w => Dat.share_full (dat V c) (fun _ => rfl) w) (hin V) (hout V) (fun _ => 0) (cut _) (fun _ => iprop(emp)) V (fun _ _ => rfl)

/-- What the call needs, from the host's buffers. -/
theorem seg_pre (V : Dev nD → Valuation τ sig (Elt F)) (d : Dev nD) :
    iprop(StableHlo.held (d.tc : Thread nD τ) bufs (V d) ∗ ((∃ W, owes (d : Thread nD τ) (0 : CellTallies nD τ sig (HIx 1)) W) ∗ emp ∗ emp)) ⊢ ((seg V).pre d : sProp 𝕄) := by
  unfold seg
  exact Pipeline.RegionSeg.ofHeldIn_pre (pcs := pcfgs (F := F)) (a := fun q => (cfgs q).toPCfg_adm) (pdats := dats V) (ι := (none : HIx 1)) (defs₀ := defs₀ (F := F)) (𝒱₀ := Variants.none) (L := (K (F := F)).L) (lv := (K (F := F)).lev) (p := 0) (D := 0) (S := bufs) (X := fun _ => iprop(emp)) (Y := fun _ => iprop(emp)) (b := fun _ => 0) (R := fun _ => iprop(emp)) (W := V)
    (arrs_sub (F := F)) d

/-- The host's buffers, from what the call leaves. -/
theorem seg_post (V : Dev nD → Valuation τ sig (Elt F)) (d : Dev nD) :
    ((seg V).post d : sProp 𝕄) ⊢ iprop(StableHlo.held (d.tc : Thread nD τ) bufs (Pipeline.afterRegion (dat V d) (V d))
      ∗ ((∃ W, owes (d : Thread nD τ) (0 : CellTallies nD τ sig (HIx 1)) W) ∗ emp ∗ emp)) := by
  unfold seg
  exact Pipeline.RegionSeg.ofHeldIn_post (pcs := pcfgs (F := F)) (a := fun q => (cfgs q).toPCfg_adm) (pdats := dats V) (ι := (none : HIx 1)) (defs₀ := defs₀ (F := F)) (𝒱₀ := Variants.none) (L := (K (F := F)).L) (lv := (K (F := F)).lev) (p := 0) (D := 0) (S := bufs) (X := fun _ => iprop(emp)) (Y := fun _ => iprop(emp)) (b := fun _ => 0) (R := fun _ => iprop(emp)) (W := V)
    (arrs_sub (F := F)) d

/-- Entering and leaving the region. -/
theorem wp_region [∀ e, Nonempty (Elt F e)] (V : Dev nD → Valuation τ sig (Elt F)) (d : Dev nD) (Q : PUnit → sProp 𝕄) :
    iprop((iprop(boundary (d.tc : Thread nD τ) ∗ StableHlo.held (d.tc : Thread nD τ) bufs (Pipeline.afterRegion (dat V d) (V d)) ∗ (∃ W, owes (d : Thread nD τ) 0 W)) -∗ Q ⟨⟩)
        ∗ boundary (d.tc : Thread nD τ) ∗ StableHlo.held (d.tc : Thread nD τ) bufs (V d) ∗ (∃ W, owes (d : Thread nD τ) 0 W)
        ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q := by
  show _ ⊢ wp frame (wpE ((K (F := F)).defs (D (F := F))) 𝒱 (SparseCore.T d) none) Set.univ
    (SparseCore.liftProg (Prog.lift (.customCall (Pipeline.entry (0 : Fin 1)) ()))) Q
  iintro ⟨Hk, Hb, HV, HO, HL, HG, HT⟩
  iapply ((K (F := F)).wp_liftProg (D (F := F)) 𝒱 (SparseCore.T d) Set.univ none _ _)
  iapply (Pipeline.RegionSeg.wp (pcfgs (F := F)) (fun q => (cfgs q).toPCfg_adm) (dats V) (none : HIx 1) cellOf_inj (EP (F := F)) (defs₀ (F := F))
    Variants.none (K (F := F)).L (K (F := F)).lev (seg V) d none (fun _ h => nomatch h) _ Q)
  isplitl [Hk]
  · iintro ⟨Hb, Hp⟩
    ihave Hp := (seg_post V d) $$ Hp
    icases Hp with ⟨HV, HO, -, -⟩
    rw [wp_ret]; imodintro
    iapply Hk
    isplitl [Hb]; · iexact Hb
    isplitl [HV]; · iexact HV
    iexact HO
  isplitl [Hb]; · iexact Hb
  isplitl [HV HO]
  · iapply (seg_pre V d)
    isplitl [HV]; · iexact HV
    isplitl [HO]; · iexact HO
    isplitl <;> iempintro
  isplitl [HL]; · iexact HL
  isplitl [HG]; · iexact HG
  iexact HT

end Cert.Proof.Beam

end
-- ==== Proof.Run.lean ====
/-
  The program's run: the host's preparation, the SparseCore gather, the rest of the preparation, the beam kernel, and the host's
  slices of its outputs; every buffer read off the final memory.
-/
module

public import proofs.«01_k».proof.Proof.Seg
public import Idealize.ShloMosaic.Lib.ReduceAll
public import Idealize.ShloMosaic.Lib.Pipeline.ValueKit.Basic

@[expose] public section

set_option maxRecDepth 16384

noncomputable section

namespace Cert.Proof.Beam

open Cert.KernelIdeal Cert.KernelIdeal.Gen

open Idealize.ShloMosaic
open Idealize.ShloMosaic.SparseCore (S V T)
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe
open Idealize.ShloMosaic.Tactic
open Cert.Proof.Gather (UU K D 𝒱 EP EH G P iLoc eLoc oLoc gathered wp_gather facts v₀ tileObl vecSplit u₀ hu₀)

variable {F : FTy → Type} [FloatOps F] [Named F]

local notation "𝕄" => MT nD τ sig (HIx 1) (Elt F) ℕ UU ℕ

/-! ## The host's operations -/

noncomputable def ops1 : List (HloOp τ sig (Elt F)) :=
  [StableHlo.reshape main_arg4 main_v0 (rfl : (.f32 : EltTy) = .f32) shapeCasts_S512x4x2_S128x4x4x2,
   StableHlo.nullary main_v1 (iotaInDim S128x128 32 0),
   StableHlo.nullary main_v2 (iotaInDim S128x128 32 1),
   StableHlo.nullary main_c (constantI S_ 32 0#32),
   StableHlo.unary main_c main_v3 (broadcastInDim S128x128 ![] bcast_S_S128x128 : (⟨S_, .i32⟩ : BufTy).Contents (Elt F) → (⟨S128x128, .i32⟩ : BufTy).Contents (Elt F)),
   StableHlo.binary main_v1 main_v3 main_v4 (addi : (⟨S128x128, .i32⟩ : BufTy).Contents (Elt F) → (⟨S128x128, .i32⟩ : BufTy).Contents (Elt F) → (⟨S128x128, .i32⟩ : BufTy).Contents (Elt F)),
   StableHlo.binary main_v4 main_v2 main_v5 (cmpi .eq : (⟨S128x128, .i32⟩ : BufTy).Contents (Elt F) → (⟨S128x128, .i32⟩ : BufTy).Contents (Elt F) → (⟨S128x128, .i1⟩ : BufTy).Contents (Elt F)),
   StableHlo.unary main_v5 main_v6 (uitofp .f32 : (⟨S128x128, .i1⟩ : BufTy).Contents (Elt F) → (⟨S128x128, .f32⟩ : BufTy).Contents (Elt F)),
   StableHlo.unary main_v0 main_v7 ((extractStridedSlice S128x4x4x1 ![0, 0, 0, 0] · slices_S128x4x4x2_S128x4x4x1_0_0_0_0) : (⟨S128x4x4x2, .f32⟩ : BufTy).Contents (Elt F) → (⟨S128x4x4x1, .f32⟩ : BufTy).Contents (Elt F)),
   StableHlo.reshape main_v7 main_v8 (rfl : (.f32 : EltTy) = .f32) shapeCasts_S128x4x4x1_S128x4x4,
   StableHlo.unary main_v8 main_v9 ((transpose S128x4x4 [0, 2, 1] · transposes_S128x4x4_S128x4x4_0_2_1) : (⟨S128x4x4, .f32⟩ : BufTy).Contents (Elt F) → (⟨S128x4x4, .f32⟩ : BufTy).Contents (Elt F)),
   StableHlo.unary main_v9 main_v10 (broadcastInDim S128x4x1x4 ![0, 1, 3] bcast_S128x4x4_S128x4x1x4_0_1_3 : (⟨S128x4x4, .f32⟩ : BufTy).Contents (Elt F) → (⟨S128x4x1x4, .f32⟩ : BufTy).Contents (Elt F)),
   StableHlo.unary main_v6 main_v11 (broadcastInDim S128x1x128x1 ![0, 2] bcast_S128x128_S128x1x128x1_0_2 : (⟨S128x128, .f32⟩ : BufTy).Contents (Elt F) → (⟨S128x1x128x1, .f32⟩ : BufTy).Contents (Elt F)),
   StableHlo.unary main_v10 main_v12 (broadcastInDim S128x4x128x4 ![0, 1, 2, 3] bcast_S128x4x1x4_S128x4x128x4_0_1_2_3 : (⟨S128x4x1x4, .f32⟩ : BufTy).Contents (Elt F) → (⟨S128x4x128x4, .f32⟩ : BufTy).Contents (Elt F)),
   StableHlo.unary main_v11 main_v13 (broadcastInDim S128x4x128x4 ![0, 1, 2, 3] bcast_S128x1x128x1_S128x4x128x4_0_1_2_3 : (⟨S128x1x128x1, .f32⟩ : BufTy).Contents (Elt F) → (⟨S128x4x128x4, .f32⟩ : BufTy).Contents (Elt F)),
   StableHlo.binary main_v12 main_v13 main_v14 (mulf : (⟨S128x4x128x4, .f32⟩ : BufTy).Contents (Elt F) → (⟨S128x4x128x4, .f32⟩ : BufTy).Contents (Elt F) → (⟨S128x4x128x4, .f32⟩ : BufTy).Contents (Elt F)),
   StableHlo.reshape main_v14 main_v15 (rfl : (.f32 : EltTy) = .f32) shapeCasts_S128x4x128x4_S512x512,
   StableHlo.unary main_v0 main_v16 ((extractStridedSlice S128x4x4x1 ![0, 0, 0, 1] · slices_S128x4x4x2_S128x4x4x1_0_0_0_1) : (⟨S128x4x4x2, .f32⟩ : BufTy).Contents (Elt F) → (⟨S128x4x4x1, .f32⟩ : BufTy).Contents (Elt F)),
   StableHlo.reshape main_v16 main_v17 (rfl : (.f32 : EltTy) = .f32) shapeCasts_S128x4x4x1_S128x4x4,
   StableHlo.unary main_v17 main_v18 ((transpose S128x4x4 [0, 2, 1] · transposes_S128x4x4_S128x4x4_0_2_1) : (⟨S128x4x4, .f32⟩ : BufTy).Contents (Elt F) → (⟨S128x4x4, .f32⟩ : BufTy).Contents (Elt F)),
   StableHlo.unary main_v18 main_v19 (broadcastInDim S128x4x1x4 ![0, 1, 3] bcast_S128x4x4_S128x4x1x4_0_1_3 : (⟨S128x4x4, .f32⟩ : BufTy).Contents (Elt F) → (⟨S128x4x1x4, .f32⟩ : BufTy).Contents (Elt F)),
   StableHlo.unary main_v6 main_v20 (broadcastInDim S128x1x128x1 ![0, 2] bcast_S128x128_S128x1x128x1_0_2 : (⟨S128x128, .f32⟩ : BufTy).Contents (Elt F) → (⟨S128x1x128x1, .f32⟩ : BufTy).Contents (Elt F)),
   StableHlo.unary main_v19 main_v21 (broadcastInDim S128x4x128x4 ![0, 1, 2, 3] bcast_S128x4x1x4_S128x4x128x4_0_1_2_3 : (⟨S128x4x1x4, .f32⟩ : BufTy).Contents (Elt F) → (⟨S128x4x128x4, .f32⟩ : BufTy).Contents (Elt F)),
   StableHlo.unary main_v20 main_v22 (broadcastInDim S128x4x128x4 ![0, 1, 2, 3] bcast_S128x1x128x1_S128x4x128x4_0_1_2_3 : (⟨S128x1x128x1, .f32⟩ : BufTy).Contents (Elt F) → (⟨S128x4x128x4, .f32⟩ : BufTy).Contents (Elt F)),
   StableHlo.binary main_v21 main_v22 main_v23 (mulf : (⟨S128x4x128x4, .f32⟩ : BufTy).Contents (Elt F) → (⟨S128x4x128x4, .f32⟩ : BufTy).Contents (Elt F) → (⟨S128x4x128x4, .f32⟩ : BufTy).Contents (Elt F)),
   StableHlo.reshape main_v23 main_v24 (rfl : (.f32 : EltTy) = .f32) shapeCasts_S128x4x128x4_S512x512,
   StableHlo.unary main_arg0 main_v25 ((transpose S2x64 [1, 0] · transposes_S64x2_S2x64_1_0) : (⟨S64x2, .i32⟩ : BufTy).Contents (Elt F) → (⟨S2x64, .i32⟩ : BufTy).Contents (Elt F)),
   StableHlo.reshape main_v25 main_v26 (rfl : (.i32 : EltTy) = .i32) shapeCasts_S2x64_S128]
/-- These host operations use the host's buffers. -/
theorem ops1_sub : ∀ op ∈ ops1 (F := F), op.bufs ⊆ bufs := by
  unfold ops1
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩⟩⟩⟩⟩⟩⟩⟩⟩⟩⟩⟩⟩⟩⟩⟩⟩⟩⟩⟩⟩
  · show ({Proc.devRef .tc main_arg4, Proc.devRef .tc main_v0} : Finset (DevRef τ sig)) ⊆ bufs; decide
  · show ({Proc.devRef .tc main_v1} : Finset (DevRef τ sig)) ⊆ bufs; decide
  · show ({Proc.devRef .tc main_v2} : Finset (DevRef τ sig)) ⊆ bufs; decide
  · show ({Proc.devRef .tc main_c} : Finset (DevRef τ sig)) ⊆ bufs; decide
  · show ({Proc.devRef .tc main_c, Proc.devRef .tc main_v3} : Finset (DevRef τ sig)) ⊆ bufs; decide
  · show ({Proc.devRef .tc main_v1, Proc.devRef .tc main_v3, Proc.devRef .tc main_v4} : Finset (DevRef τ sig)) ⊆ bufs; decide
  · show ({Proc.devRef .tc main_v4, Proc.devRef .tc main_v2, Proc.devRef .tc main_v5} : Finset (DevRef τ sig)) ⊆ bufs; decide
  · show ({Proc.devRef .tc main_v5, Proc.devRef .tc main_v6} : Finset (DevRef τ sig)) ⊆ bufs; decide
  · show ({Proc.devRef .tc main_v0, Proc.devRef .tc main_v7} : Finset (DevRef τ sig)) ⊆ bufs; decide
  · show ({Proc.devRef .tc main_v7, Proc.devRef .tc main_v8} : Finset (DevRef τ sig)) ⊆ bufs; decide
  · show ({Proc.devRef .tc main_v8, Proc.devRef .tc main_v9} : Finset (DevRef τ sig)) ⊆ bufs; decide
  · show ({Proc.devRef .tc main_v9, Proc.devRef .tc main_v10} : Finset (DevRef τ sig)) ⊆ bufs; decide
  · show ({Proc.devRef .tc main_v6, Proc.devRef .tc main_v11} : Finset (DevRef τ sig)) ⊆ bufs; decide
  · show ({Proc.devRef .tc main_v10, Proc.devRef .tc main_v12} : Finset (DevRef τ sig)) ⊆ bufs; decide
  · show ({Proc.devRef .tc main_v11, Proc.devRef .tc main_v13} : Finset (DevRef τ sig)) ⊆ bufs; decide
  · show ({Proc.devRef .tc main_v12, Proc.devRef .tc main_v13, Proc.devRef .tc main_v14} : Finset (DevRef τ sig)) ⊆ bufs; decide
  · show ({Proc.devRef .tc main_v14, Proc.devRef .tc main_v15} : Finset (DevRef τ sig)) ⊆ bufs; decide
  · show ({Proc.devRef .tc main_v0, Proc.devRef .tc main_v16} : Finset (DevRef τ sig)) ⊆ bufs; decide
  · show ({Proc.devRef .tc main_v16, Proc.devRef .tc main_v17} : Finset (DevRef τ sig)) ⊆ bufs; decide
  · show ({Proc.devRef .tc main_v17, Proc.devRef .tc main_v18} : Finset (DevRef τ sig)) ⊆ bufs; decide
  · show ({Proc.devRef .tc main_v18, Proc.devRef .tc main_v19} : Finset (DevRef τ sig)) ⊆ bufs; decide
  · show ({Proc.devRef .tc main_v6, Proc.devRef .tc main_v20} : Finset (DevRef τ sig)) ⊆ bufs; decide
  · show ({Proc.devRef .tc main_v19, Proc.devRef .tc main_v21} : Finset (DevRef τ sig)) ⊆ bufs; decide
  · show ({Proc.devRef .tc main_v20, Proc.devRef .tc main_v22} : Finset (DevRef τ sig)) ⊆ bufs; decide
  · show ({Proc.devRef .tc main_v21, Proc.devRef .tc main_v22, Proc.devRef .tc main_v23} : Finset (DevRef τ sig)) ⊆ bufs; decide
  · show ({Proc.devRef .tc main_v23, Proc.devRef .tc main_v24} : Finset (DevRef τ sig)) ⊆ bufs; decide
  · show ({Proc.devRef .tc main_arg0, Proc.devRef .tc main_v25} : Finset (DevRef τ sig)) ⊆ bufs; decide
  · show ({Proc.devRef .tc main_v25, Proc.devRef .tc main_v26} : Finset (DevRef τ sig)) ⊆ bufs; decide
/-- These host operations make no fresh buffer. -/
theorem ops1_fresh : ∀ op ∈ ops1 (F := F), op.fresh = ∅ :=
  List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, fun _ h => absurd h List.not_mem_nil⟩⟩⟩⟩⟩⟩⟩⟩⟩⟩⟩⟩⟩⟩⟩⟩⟩⟩⟩⟩⟩⟩⟩⟩⟩⟩⟩⟩

noncomputable def ops2 : List (HloOp τ sig (Elt F)) :=
  [StableHlo.unary main_arg2 main_v28 (broadcastInDim S64x128 ![0, 1] bcast_S64x1_S64x128_0_1 : (⟨S64x1, .f32⟩ : BufTy).Contents (Elt F) → (⟨S64x128, .f32⟩ : BufTy).Contents (Elt F)),
   StableHlo.reshape main_arg6 main_v29 (rfl : (.f32 : EltTy) = .f32) shapeCasts_S512_S1x512,
   StableHlo.reshape main_arg8 main_v30 (rfl : (.f32 : EltTy) = .f32) shapeCasts_S100000_S20x5000x1]
/-- These host operations use the host's buffers. -/
theorem ops2_sub : ∀ op ∈ ops2 (F := F), op.bufs ⊆ bufs := by
  unfold ops2
  refine List.forall_mem_cons.mpr ⟨?_, List.forall_mem_cons.mpr ⟨?_, List.forall_mem_cons.mpr ⟨?_, fun _ h => absurd h List.not_mem_nil⟩⟩⟩
  · show ({Proc.devRef .tc main_arg2, Proc.devRef .tc main_v28} : Finset (DevRef τ sig)) ⊆ bufs; decide
  · show ({Proc.devRef .tc main_arg6, Proc.devRef .tc main_v29} : Finset (DevRef τ sig)) ⊆ bufs; decide
  · show ({Proc.devRef .tc main_arg8, Proc.devRef .tc main_v30} : Finset (DevRef τ sig)) ⊆ bufs; decide
/-- These host operations make no fresh buffer. -/
theorem ops2_fresh : ∀ op ∈ ops2 (F := F), op.fresh = ∅ :=
  List.forall_mem_cons.mpr ⟨rfl, List.forall_mem_cons.mpr ⟨rfl, List.forall_mem_cons.mpr ⟨rfl, fun _ h => absurd h List.not_mem_nil⟩⟩⟩

noncomputable def ops3 : List (HloOp τ sig (Elt F)) :=
  [StableHlo.unary main_v31_0 main_v32 ((extractStridedSlice S1x8 ![0, 0] · slices_S1x128_S1x8_0_0) : (⟨S1x128, .f32⟩ : BufTy).Contents (Elt F) → (⟨S1x8, .f32⟩ : BufTy).Contents (Elt F)),
   StableHlo.reshape main_v32 main_v33 (rfl : (.f32 : EltTy) = .f32) shapeCasts_S1x8_S8,
   StableHlo.unary main_v31_1 main_v34 ((extractStridedSlice S1x8 ![0, 0] · slices_S1x128_S1x8_0_0) : (⟨S1x128, .f32⟩ : BufTy).Contents (Elt F) → (⟨S1x8, .f32⟩ : BufTy).Contents (Elt F)),
   StableHlo.reshape main_v34 main_v35 (rfl : (.f32 : EltTy) = .f32) shapeCasts_S1x8_S8,
   StableHlo.unary main_v31_2 main_v36 ((extractStridedSlice S1x8 ![0, 0] · slices_S1x128_S1x8_0_0) : (⟨S1x128, .i32⟩ : BufTy).Contents (Elt F) → (⟨S1x8, .i32⟩ : BufTy).Contents (Elt F)),
   StableHlo.reshape main_v36 main_v37 (rfl : (.i32 : EltTy) = .i32) shapeCasts_S1x8_S8,
   StableHlo.unary main_v31_3 main_v38 ((extractStridedSlice S1x8 ![0, 0] · slices_S1x128_S1x8_0_0) : (⟨S1x128, .i32⟩ : BufTy).Contents (Elt F) → (⟨S1x8, .i32⟩ : BufTy).Contents (Elt F)),
   StableHlo.reshape main_v38 main_v39 (rfl : (.i32 : EltTy) = .i32) shapeCasts_S1x8_S8]
/-- These host operations use the host's buffers. -/
theorem ops3_sub : ∀ op ∈ ops3 (F := F), op.bufs ⊆ bufs := by
  unfold ops3
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · show ({Proc.devRef .tc main_v31_0, Proc.devRef .tc main_v32} : Finset (DevRef τ sig)) ⊆ bufs; decide
  · show ({Proc.devRef .tc main_v32, Proc.devRef .tc main_v33} : Finset (DevRef τ sig)) ⊆ bufs; decide
  · show ({Proc.devRef .tc main_v31_1, Proc.devRef .tc main_v34} : Finset (DevRef τ sig)) ⊆ bufs; decide
  · show ({Proc.devRef .tc main_v34, Proc.devRef .tc main_v35} : Finset (DevRef τ sig)) ⊆ bufs; decide
  · show ({Proc.devRef .tc main_v31_2, Proc.devRef .tc main_v36} : Finset (DevRef τ sig)) ⊆ bufs; decide
  · show ({Proc.devRef .tc main_v36, Proc.devRef .tc main_v37} : Finset (DevRef τ sig)) ⊆ bufs; decide
  · show ({Proc.devRef .tc main_v31_3, Proc.devRef .tc main_v38} : Finset (DevRef τ sig)) ⊆ bufs; decide
  · show ({Proc.devRef .tc main_v38, Proc.devRef .tc main_v39} : Finset (DevRef τ sig)) ⊆ bufs; decide
/-- These host operations make no fresh buffer. -/
theorem ops3_fresh : ∀ op ∈ ops3 (F := F), op.fresh = ∅ :=
  List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, fun _ h => absurd h List.not_mem_nil⟩⟩⟩⟩⟩⟩⟩⟩

/-- The host's program: operations, the SparseCore call, operations, the TensorCore call, operations. -/
theorem main_eq (d : Dev nD) : main (F := F) d = StableHlo.seq (ops1 (F := F)) >>= fun _ => sc.run d 0 >>= fun _ => StableHlo.seq (ops2 (F := F)) >>= fun _ =>
    Prog.lift (.customCall (SparseCore.inner (Pipeline.entry 0)) ()) >>= fun _ => StableHlo.seq (ops3 (F := F)) >>= fun _ => pure ⟨⟩ := rfl

/-! ## The buffers through the program -/

variable (m : (ℓ : Loc nD τ sig) → Buf (Elt F) ℓ) (ρ : Dev nD → PrngReg)

/-- The row numbers: the first argument transposed and flattened. -/
noncomputable def idsOf (x : S64x2.Idx → BitVec 32) : S128.Idx → BitVec 32 :=
  shapeCast S128 (transpose S2x64 [1, 0] x transposes_S64x2_S2x64_1_0) shapeCasts_S2x64_S128

/-- Every row number is below the table's height. -/
theorem idsOf_lt (x : S64x2.Idx → BitVec 32) (hx : ∀ k, (x k).toNat < 100000) (j : S128.Idx) : (idsOf x j).toNat < 100000 := hx _

/-- Every row number is below the table's height. -/
def InRange : Prop := ∀ (d : Dev nD) (k : S64x2.Idx), (m ((SparseCore.T d).loc main_arg0) k : BitVec 32).toNat < 100000

/-- The device's buffers before the gather. -/
noncomputable abbrev V1 (d : Dev nD) : Valuation τ sig (Elt F) := StableHlo.after ops1 (StableHlo.launchContents m d)

/-- The row numbers the host makes are the tokens, transposed and flattened. -/
theorem V1_ids (d : Dev nD) : V1 m d (Proc.devRef .tc main_v26) = idsOf (m ((SparseCore.T d).loc main_arg0)) := by
  unfold V1 ops1
  after_results
  rfl

variable (hr : InRange m)

include hr in
/-- Every row number is below the table's height. -/
theorem ids_lt (d : Dev nD) (j : S128.Idx) : (V1 m d (Proc.devRef .tc main_v26) j : BitVec 32).toNat < 100000 := by
  rw [V1_ids]
  exact idsOf_lt _ (hr d) j

/-- What the SparseCore call is handed and gives back. -/
abbrev PR : (K (F := F)).Pay (nD := nD) (Val := Elt F) (Name := ℕ) (U := UU) :=
  P (fun d => V1 m d (Proc.devRef .tc main_v26)) (fun d => V1 m d (Proc.devRef .tc main_arg3)) (fun d => V1 m d (Proc.devRef .tc main_v27)) (ids_lt m hr)

/-- The rows gathered. -/
noncomputable abbrev rows (d : Dev nD) : Buf (Elt F) (oLoc d) :=
  gathered (V1 m d (Proc.devRef .tc main_v26)) (V1 m d (Proc.devRef .tc main_arg3)) (ids_lt m hr d)
/-- The buffers after the gather, entering the beam kernel, leaving it, and at the end. -/
noncomputable def V2 (d : Dev nD) : Valuation τ sig (Elt F) := Function.update (V1 m d) (Proc.devRef .tc main_v27) (rows m hr d)
noncomputable abbrev V3 (d : Dev nD) : Valuation τ sig (Elt F) := StableHlo.after ops2 (V2 m hr d)
noncomputable abbrev V4 (d : Dev nD) : Valuation τ sig (Elt F) := Pipeline.afterRegion (dat (V3 m hr) d) (V3 m hr d)
noncomputable abbrev V5 (d : Dev nD) : Valuation τ sig (Elt F) := StableHlo.after ops3 (V4 m hr d)

/-- The gather's three buffers. -/
def three : Finset (DevRef τ sig) := {Proc.devRef .tc main_v26, Proc.devRef .tc main_arg3, Proc.devRef .tc main_v27}
/-- The SparseCore call's three arrays are among the host's buffers. -/
theorem three_sub : three ⊆ bufs := by decide
/-- Holding the three arrays, one by one. -/
theorem held_three (d : Dev nD) (W : Valuation τ sig (Elt F)) :
    (StableHlo.held (d.tc : Thread nD τ) three W : sProp 𝕄)
      = iprop((iLoc d ↦{fullShare} W (Proc.devRef .tc main_v26)) ∗ (eLoc d ↦{fullShare} W (Proc.devRef .tc main_arg3)) ∗ (oLoc d ↦{fullShare} W (Proc.devRef .tc main_v27))) := by
  unfold StableHlo.held
  rw [bigSep_eq_bigSepL_of_eq [Proc.devRef .tc main_v26, Proc.devRef .tc main_arg3, Proc.devRef .tc main_v27] (by decide) (by decide)]
  rfl
/-- The host's buffers, the three arrays apart. -/
theorem held_split3 (d : Dev nD) (W : Valuation τ sig (Elt F)) :
    (StableHlo.held (d.tc : Thread nD τ) bufs W : sProp 𝕄)
      = iprop(((iLoc d ↦{fullShare} W (Proc.devRef .tc main_v26)) ∗ (eLoc d ↦{fullShare} W (Proc.devRef .tc main_arg3)) ∗ (oLoc d ↦{fullShare} W (Proc.devRef .tc main_v27)))
        ∗ StableHlo.held (d.tc : Thread nD τ) (bufs \ three) W) := by
  rw [StableHlo.held_sub_split (d.tc : Thread nD τ) three_sub W, held_three]

/-- The host's buffers after the SparseCore call. -/
theorem held_V2 (d : Dev nD) :
    (StableHlo.held (d.tc : Thread nD τ) bufs (V2 m hr d) : sProp 𝕄)
      = iprop(((iLoc d ↦{fullShare} V1 m d (Proc.devRef .tc main_v26)) ∗ (eLoc d ↦{fullShare} V1 m d (Proc.devRef .tc main_arg3)) ∗ (oLoc d ↦{fullShare} rows m hr d))
        ∗ StableHlo.held (d.tc : Thread nD τ) (bufs \ three) (V1 m d)) := by
  rw [held_split3]
  have h1 : V2 m hr d (Proc.devRef .tc main_v26) = V1 m d (Proc.devRef .tc main_v26) := Function.update_of_ne (by decide) _ _
  have h2 : V2 m hr d (Proc.devRef .tc main_arg3) = V1 m d (Proc.devRef .tc main_arg3) := Function.update_of_ne (by decide) _ _
  have h3 : V2 m hr d (Proc.devRef .tc main_v27) = rows m hr d := Function.update_self _ _ _
  have h4 : (StableHlo.held (d.tc : Thread nD τ) (bufs \ three) (V2 m hr d) : sProp 𝕄) = StableHlo.held (d.tc : Thread nD τ) (bufs \ three) (V1 m d) :=
    StableHlo.held_congr (d.tc : Thread nD τ) fun b hb => Function.update_of_ne (fun e => by
      subst e
      exact (Finset.mem_sdiff.mp hb).2 (by decide)) _ _
  rw [h1, h2, h3, h4]

/-- The buffers a launch begins with are the host's. -/
theorem unscopedBufs_held (d : Dev nD) (W : Valuation τ sig (Elt F)) :
    (unscopedBufs d (fun b => W b) : sProp 𝕄) = StableHlo.held (d.tc : Thread nD τ) bufs W := by
  unfold unscopedBufs StableHlo.held bufs StableHlo.tcRefs
  rw [Finset.filter_map, BI.bigSep_map]
  rfl

/-- A bound on the places of the handshake's semaphores. -/
theorem place_le (g : GSem nD τ sig) : (K (F := F)).place g ≤ 6 := by
  unfold SparseCore.Cfg.place
  split <;> (try split) <;> (try split) <;> decide

/-- What the host may wait on is below that bound. -/
theorem wbelow (d : Dev nD) (W : Waits sig (HIx 1)) : (K (F := F)).WBelow (SparseCore.T d) W 8 := by
  intro p _
  rcases p with ⟨g, _ | q⟩
  · exact Nat.zero_le _
  · show 8 * q.val + (K (F := F)).place (SparseCore.T d, g) + 1 ≤ 8
    have h : (K (F := F)).place (SparseCore.T d, g) ≤ 6 := place_le _
    have : q.val = 0 := by omega
    omega

/-- What the TensorCore owes after the call is nothing, and any record of waits will do. -/
theorem tcSt_split (d : Dev nD) : ((K (F := F)).tcSt EH d 1 : sProp 𝕄)
    ⊢ iprop((∃ W, owes (d : Thread nD τ) (0 : CellTallies nD τ sig (HIx 1)) W) ∗ ((∃ W, owes (d : Thread nD τ) (0 : CellTallies nD τ sig (HIx 1)) W) -∗ (K (F := F)).tcSt EH d 1)) := by
  unfold SparseCore.Cfg.tcSt
  rw [(K (F := F)).Otc_end d (Nat.le_refl 1)]
  iintro ⟨⟨%W, -, HO⟩, HR⟩
  isplitl [HO]; · iexists W; iexact HO
  iintro ⟨%W', HO⟩
  isplitl [HO]
  · iexists W'; isplitr; swap; (· iexact HO); ipureintro; exact wbelow d W'
  iexact HR

/-- What device `d`'s @main ends holding. -/
abbrev FIN (d : Dev nD) : sProp 𝕄 := StableHlo.held (d.tc : Thread nD τ) bufs (V5 m hr d)

/-- The host's program, run from its resources. -/
theorem hmain [∀ e, Nonempty (Elt F e)] (κ : GSem nD τ sig → ℕ) (d : Dev nD) :
    iprop((K (F := F)).ctx EH (PR m hr) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m hr d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) bufs (StableHlo.launchContents m d) from
    unscopedBufs_held d (StableHlo.launchContents m d), main_eq]
  iintro ⟨#Hctx, Hst, ⟨Hb, HV, Hts, -⟩, HG⟩
  iapply (StableHlo.wp_seq 𝒱 none Set.univ d bufs _ (ops1 (F := F)) ops1_sub ops1_fresh (StableHlo.launchContents m d)) $$ [Hb HV]
  · isplitl [Hb]; · iexact Hb
    iexact HV
  iintro ⟨Hb, HV⟩
  ihave HV' := (Entails.of_eq (held_split3 d (V1 m d))) $$ HV
  icases HV' with ⟨⟨Hi, He, Ho⟩, HV⟩
  rw [wp_bind]
  iapply (wp_gather _ _ _ (ids_lt m hr) κ d)
  isplitr; · iexact Hctx
  isplitl [Hst]; · iexact Hst
  isplitl [Hi He Ho]
  · isplitl [Hi]; · iexact Hi
    isplitl [He]; · iexact He
    iexact Ho
  iintro ⟨Hst, Hi, He, Ho⟩
  ihave HV := (Entails.of_eq (held_V2 m hr d).symm) $$ [Hi He Ho HV]
  · isplitl [Hi He Ho]
    · isplitl [Hi]; · iexact Hi
      isplitl [He]; · iexact He
      iexact Ho
    iexact HV
  iapply (StableHlo.wp_seq 𝒱 none Set.univ d bufs _ (ops2 (F := F)) ops2_sub ops2_fresh (V2 m hr d)) $$ [Hb HV]
  · isplitl [Hb]; · iexact Hb
    iexact HV
  iintro ⟨Hb, HV⟩
  ihave Hst := (tcSt_split d) $$ Hst
  icases Hst with ⟨HO, HR⟩
  rw [wp_bind]
  iapply (wp_region (V3 m hr) d)
  isplitl [HR Hts]
  · iintro ⟨Hb, HV, HO⟩
    iapply (StableHlo.wp_seq 𝒱 none Set.univ d bufs _ (ops3 (F := F)) ops3_sub ops3_fresh (V4 m hr d)) $$ [Hb HV]
    · isplitl [Hb]; · iexact Hb
      iexact HV
    iintro ⟨Hb, HV⟩
    rw [wp_pure]; imodintro
    isplitl [HO HR]
    · iapply HR; iexact HO
    isplitl [HV]; · iexact HV
    isplitl [Hb] <;> iassumption
  isplitl [Hb]; · iexact Hb
  isplitl [HV]; · iexact HV
  isplitl [HO]; · iexact HO
  isplitr; · iapply ((K (F := F)).ctx_levAts κ); iexact Hctx
  iexact HG

/-- The buffers at the end. -/
def fq (d : Dev nD) (s' : Phys nD τ sig (Elt F)) : Prop := ∀ b ∈ bufs, s'.mem.mem (d, b) = V5 m hr d b

/-- At the end the memory is what the host holds. -/
theorem hfin (d : Dev nD) (s' : Phys nD τ sig (Elt F)) : iprop(FIN m hr d ∗ SI s') ⊢ (⌜fq m hr d s'⌝ : sProp 𝕄) := by
  have one (b : DevRef τ sig) (hb : b ∈ bufs) : iprop(FIN m hr d ∗ SI s') ⊢ (⌜s'.mem.mem (d, b) = V5 m hr d b⌝ : sProp 𝕄) := by
    have hh : (FIN m hr d : sProp 𝕄) ⊢ ((d, b) : Loc nD τ sig) ↦{fullShare} V5 m hr d b := bigSep_elim hb
    iintro ⟨H, HSI⟩
    ihave H := hh $$ H
    ihave H := (SI_pointsTo_agree (st := s') (ℓ := (d, b)) (I := Finset.univ) (q := fullShare)) $$ [HSI H]
    · isplitl [HSI] <;> iassumption
    icases H with %h
    ipureintro; exact funext fun i => h i (Finset.mem_univ i)
  have all (b : DevRef τ sig) : iprop(FIN m hr d ∗ SI s') ⊢ (⌜b ∈ bufs → s'.mem.mem (d, b) = V5 m hr d b⌝ : sProp 𝕄) := by
    by_cases hb : b ∈ bufs
    · exact (one b hb).trans (Laws.pure_mono fun h _ => h)
    · exact BIClass.pure_intro fun h => absurd h hb
  exact (forall_intro all).trans pure_forall.mpr

/-- The program runs: every buffer no scope takes ends at the last of the contents above, and every semaphore at zero. -/
theorem run_main [∀ e, Nonempty (Elt F e)] :
    θ_run (Cert.KernelIdeal.defs (F := F)) (Cert.KernelIdeal.threads (F := F)) ⟨m, fun _ => 0, ρ⟩
      (fun r => (∀ (d : Dev nD), ∀ b ∈ bufs, r.2.mem (d, b) = V5 m hr d b) ∧ r.2.sem = fun _ => 0) :=
  SparseCore.Cfg.θ_run_sc_quiescent (K := K (F := F)) (D := D (F := F)) (𝒱 := 𝒱) (EH := EH) (P := PR m hr) (A := ∅) facts v₀
    (fun q hq => match q with | 0 => nomatch hq)
    (fun q _ => match q with | 0 => tileObl _ _ _ (ids_lt m hr))
    (fun q _ => match q with | 0 => SparseCore.Cfg.VecSplit.of_plain (vecSplit _ _ _ (ids_lt m hr)))
    m ρ main (fun d => G d) (FIN m hr) (u₀ (F := F)) (sep_elim_left.trans (hu₀ _ _ _ (ids_lt m hr))) (hmain m ρ hr) (fq m hr) (hfin m hr)
    _ (fun _ h hz => ⟨h, hz⟩)

/-! ## What the buffers end at -/

/-- Result window 9 has one block. -/
theorem idx_9 (t : Fin cfg1.N) (a : Fin 2) : (cfg1.win 9).index t a = 0 := by
  match a with
  | 0 => rfl
  | 1 => rfl
/-- That block is the whole array. -/
theorem emb_9 (t : Fin cfg1.N) (x) : ((cfg1.win 9).rect t).emb x = (cfg1.win 9).xinj (cfg1.grid.coords t) x :=
  funext fun a => Fin.ext (Pipeline.Window.rect_emb_val_of_index_zero _ _ _ (idx_9 t a) x)
/-- The array the call leaves through result window 9. -/
theorem arr_9 (d : Dev nD) : (dat (V3 m hr) d).arrAt 9 cfg1.N = out1 (V3 m hr d) :=
  Dat.arrAt_eq_of_cover (dat (V3 m hr) d) 9 _ (fun t _ => funext fun x => congrArg (out1 (V3 m hr d)) (emb_9 t x).symm)
    (fun i => ⟨⟨20, twenty_lt⟩, (flush1_9 _).mpr rfl, by
      show i ∈ ((View.whole main_v31_0).slice ((cfg1.win 9).rect ⟨20, twenty_lt⟩)).set
      rw [View.set_slice_whole]
      refine (Pipeline.Window.mem_rect_iff (cfg1.win 9) _ i).mpr fun a => ?_
      rw [idx_9]
      match a with
      | 0 => exact ⟨by omega, by rw [Nat.zero_mul, Nat.zero_add]; exact (i 0).isLt⟩
      | 1 => exact ⟨by omega, by rw [Nat.zero_mul, Nat.zero_add]; exact (i 1).isLt⟩⟩)
/-- The same array among the host's buffers. -/
theorem V4_9 (d : Dev nD) : V4 m hr d (Proc.devRef .tc main_v31_0) = out1 (V3 m hr d) :=
  (Pipeline.afterRegion_arr (dat (V3 m hr) d) (V3 m hr d) winFacts1.arr_inj 9).trans (arr_9 m hr d)
/-- Result window 10 has one block. -/
theorem idx_10 (t : Fin cfg1.N) (a : Fin 2) : (cfg1.win 10).index t a = 0 := by
  match a with
  | 0 => rfl
  | 1 => rfl
/-- That block is the whole array. -/
theorem emb_10 (t : Fin cfg1.N) (x) : ((cfg1.win 10).rect t).emb x = (cfg1.win 10).xinj (cfg1.grid.coords t) x :=
  funext fun a => Fin.ext (Pipeline.Window.rect_emb_val_of_index_zero _ _ _ (idx_10 t a) x)
/-- The array the call leaves through result window 10. -/
theorem arr_10 (d : Dev nD) : (dat (V3 m hr) d).arrAt 10 cfg1.N = out2 (V3 m hr d) :=
  Dat.arrAt_eq_of_cover (dat (V3 m hr) d) 10 _ (fun t _ => funext fun x => congrArg (out2 (V3 m hr d)) (emb_10 t x).symm)
    (fun i => ⟨⟨20, twenty_lt⟩, (flush1_10 _).mpr rfl, by
      show i ∈ ((View.whole main_v31_1).slice ((cfg1.win 10).rect ⟨20, twenty_lt⟩)).set
      rw [View.set_slice_whole]
      refine (Pipeline.Window.mem_rect_iff (cfg1.win 10) _ i).mpr fun a => ?_
      rw [idx_10]
      match a with
      | 0 => exact ⟨by omega, by rw [Nat.zero_mul, Nat.zero_add]; exact (i 0).isLt⟩
      | 1 => exact ⟨by omega, by rw [Nat.zero_mul, Nat.zero_add]; exact (i 1).isLt⟩⟩)
/-- The same array among the host's buffers. -/
theorem V4_10 (d : Dev nD) : V4 m hr d (Proc.devRef .tc main_v31_1) = out2 (V3 m hr d) :=
  (Pipeline.afterRegion_arr (dat (V3 m hr) d) (V3 m hr d) winFacts1.arr_inj 10).trans (arr_10 m hr d)
/-- Result window 11 has one block. -/
theorem idx_11 (t : Fin cfg1.N) (a : Fin 2) : (cfg1.win 11).index t a = 0 := by
  match a with
  | 0 => rfl
  | 1 => rfl
/-- That block is the whole array. -/
theorem emb_11 (t : Fin cfg1.N) (x) : ((cfg1.win 11).rect t).emb x = (cfg1.win 11).xinj (cfg1.grid.coords t) x :=
  funext fun a => Fin.ext (Pipeline.Window.rect_emb_val_of_index_zero _ _ _ (idx_11 t a) x)
/-- The array the call leaves through result window 11. -/
theorem arr_11 (d : Dev nD) : (dat (V3 m hr) d).arrAt 11 cfg1.N = out3 (V3 m hr d) :=
  Dat.arrAt_eq_of_cover (dat (V3 m hr) d) 11 _ (fun t _ => funext fun x => congrArg (out3 (V3 m hr d)) (emb_11 t x).symm)
    (fun i => ⟨⟨20, twenty_lt⟩, (flush1_11 _).mpr rfl, by
      show i ∈ ((View.whole main_v31_2).slice ((cfg1.win 11).rect ⟨20, twenty_lt⟩)).set
      rw [View.set_slice_whole]
      refine (Pipeline.Window.mem_rect_iff (cfg1.win 11) _ i).mpr fun a => ?_
      rw [idx_11]
      match a with
      | 0 => exact ⟨by omega, by rw [Nat.zero_mul, Nat.zero_add]; exact (i 0).isLt⟩
      | 1 => exact ⟨by omega, by rw [Nat.zero_mul, Nat.zero_add]; exact (i 1).isLt⟩⟩)
/-- The same array among the host's buffers. -/
theorem V4_11 (d : Dev nD) : V4 m hr d (Proc.devRef .tc main_v31_2) = out3 (V3 m hr d) :=
  (Pipeline.afterRegion_arr (dat (V3 m hr) d) (V3 m hr d) winFacts1.arr_inj 11).trans (arr_11 m hr d)
/-- Result window 12 has one block. -/
theorem idx_12 (t : Fin cfg1.N) (a : Fin 2) : (cfg1.win 12).index t a = 0 := by
  match a with
  | 0 => rfl
  | 1 => rfl
/-- That block is the whole array. -/
theorem emb_12 (t : Fin cfg1.N) (x) : ((cfg1.win 12).rect t).emb x = (cfg1.win 12).xinj (cfg1.grid.coords t) x :=
  funext fun a => Fin.ext (Pipeline.Window.rect_emb_val_of_index_zero _ _ _ (idx_12 t a) x)
/-- The array the call leaves through result window 12. -/
theorem arr_12 (d : Dev nD) : (dat (V3 m hr) d).arrAt 12 cfg1.N = out4 (V3 m hr d) :=
  Dat.arrAt_eq_of_cover (dat (V3 m hr) d) 12 _ (fun t _ => funext fun x => congrArg (out4 (V3 m hr d)) (emb_12 t x).symm)
    (fun i => ⟨⟨20, twenty_lt⟩, (flush1_12 _).mpr rfl, by
      show i ∈ ((View.whole main_v31_3).slice ((cfg1.win 12).rect ⟨20, twenty_lt⟩)).set
      rw [View.set_slice_whole]
      refine (Pipeline.Window.mem_rect_iff (cfg1.win 12) _ i).mpr fun a => ?_
      rw [idx_12]
      match a with
      | 0 => exact ⟨by omega, by rw [Nat.zero_mul, Nat.zero_add]; exact (i 0).isLt⟩
      | 1 => exact ⟨by omega, by rw [Nat.zero_mul, Nat.zero_add]; exact (i 1).isLt⟩⟩)
/-- The same array among the host's buffers. -/
theorem V4_12 (d : Dev nD) : V4 m hr d (Proc.devRef .tc main_v31_3) = out4 (V3 m hr d) :=
  (Pipeline.afterRegion_arr (dat (V3 m hr) d) (V3 m hr d) winFacts1.arr_inj 12).trans (arr_12 m hr d)
/-- Argument 0 is unchanged at the end. -/
theorem V5_arg0 (d : Dev nD) : V5 m hr d (Proc.devRef .tc main_arg0) = m ((SparseCore.T d).loc main_arg0) := by
  have h1 : V1 m d (Proc.devRef .tc main_arg0) = m ((SparseCore.T d).loc main_arg0) := by
    unfold V1 ops1; after_results
  have h2 : V2 m hr d (Proc.devRef .tc main_arg0) = V1 m d (Proc.devRef .tc main_arg0) := Function.update_of_ne (by decide) _ _
  have h3 : V3 m hr d (Proc.devRef .tc main_arg0) = V2 m hr d (Proc.devRef .tc main_arg0) := by
    unfold V3 ops2; after_results
  have h4 : V4 m hr d (Proc.devRef .tc main_arg0) = V3 m hr d (Proc.devRef .tc main_arg0) :=
    Pipeline.afterRegion_keeps (dat (V3 m hr) d) (V3 m hr d) winFacts1.arr_inj (fun _ => rfl) main_arg0 (by decide)
  have h5 : V5 m hr d (Proc.devRef .tc main_arg0) = V4 m hr d (Proc.devRef .tc main_arg0) := by
    unfold V5 ops3; after_results
  rw [h5, h4, h3, h2, h1]
/-- Argument 1 is unchanged at the end. -/
theorem V5_arg1 (d : Dev nD) : V5 m hr d (Proc.devRef .tc main_arg1) = m ((SparseCore.T d).loc main_arg1) := by
  have h1 : V1 m d (Proc.devRef .tc main_arg1) = m ((SparseCore.T d).loc main_arg1) := by
    unfold V1 ops1; after_results
  have h2 : V2 m hr d (Proc.devRef .tc main_arg1) = V1 m d (Proc.devRef .tc main_arg1) := Function.update_of_ne (by decide) _ _
  have h3 : V3 m hr d (Proc.devRef .tc main_arg1) = V2 m hr d (Proc.devRef .tc main_arg1) := by
    unfold V3 ops2; after_results
  have h4 : V4 m hr d (Proc.devRef .tc main_arg1) = V3 m hr d (Proc.devRef .tc main_arg1) :=
    Pipeline.afterRegion_keeps (dat (V3 m hr) d) (V3 m hr d) winFacts1.arr_inj (fun _ => rfl) main_arg1 (by decide)
  have h5 : V5 m hr d (Proc.devRef .tc main_arg1) = V4 m hr d (Proc.devRef .tc main_arg1) := by
    unfold V5 ops3; after_results
  rw [h5, h4, h3, h2, h1]
/-- Argument 2 is unchanged at the end. -/
theorem V5_arg2 (d : Dev nD) : V5 m hr d (Proc.devRef .tc main_arg2) = m ((SparseCore.T d).loc main_arg2) := by
  have h1 : V1 m d (Proc.devRef .tc main_arg2) = m ((SparseCore.T d).loc main_arg2) := by
    unfold V1 ops1; after_results
  have h2 : V2 m hr d (Proc.devRef .tc main_arg2) = V1 m d (Proc.devRef .tc main_arg2) := Function.update_of_ne (by decide) _ _
  have h3 : V3 m hr d (Proc.devRef .tc main_arg2) = V2 m hr d (Proc.devRef .tc main_arg2) := by
    unfold V3 ops2; after_results
  have h4 : V4 m hr d (Proc.devRef .tc main_arg2) = V3 m hr d (Proc.devRef .tc main_arg2) :=
    Pipeline.afterRegion_keeps (dat (V3 m hr) d) (V3 m hr d) winFacts1.arr_inj (fun _ => rfl) main_arg2 (by decide)
  have h5 : V5 m hr d (Proc.devRef .tc main_arg2) = V4 m hr d (Proc.devRef .tc main_arg2) := by
    unfold V5 ops3; after_results
  rw [h5, h4, h3, h2, h1]
/-- Argument 3 is unchanged at the end. -/
theorem V5_arg3 (d : Dev nD) : V5 m hr d (Proc.devRef .tc main_arg3) = m ((SparseCore.T d).loc main_arg3) := by
  have h1 : V1 m d (Proc.devRef .tc main_arg3) = m ((SparseCore.T d).loc main_arg3) := by
    unfold V1 ops1; after_results
  have h2 : V2 m hr d (Proc.devRef .tc main_arg3) = V1 m d (Proc.devRef .tc main_arg3) := Function.update_of_ne (by decide) _ _
  have h3 : V3 m hr d (Proc.devRef .tc main_arg3) = V2 m hr d (Proc.devRef .tc main_arg3) := by
    unfold V3 ops2; after_results
  have h4 : V4 m hr d (Proc.devRef .tc main_arg3) = V3 m hr d (Proc.devRef .tc main_arg3) :=
    Pipeline.afterRegion_keeps (dat (V3 m hr) d) (V3 m hr d) winFacts1.arr_inj (fun _ => rfl) main_arg3 (by decide)
  have h5 : V5 m hr d (Proc.devRef .tc main_arg3) = V4 m hr d (Proc.devRef .tc main_arg3) := by
    unfold V5 ops3; after_results
  rw [h5, h4, h3, h2, h1]
/-- Argument 4 is unchanged at the end. -/
theorem V5_arg4 (d : Dev nD) : V5 m hr d (Proc.devRef .tc main_arg4) = m ((SparseCore.T d).loc main_arg4) := by
  have h1 : V1 m d (Proc.devRef .tc main_arg4) = m ((SparseCore.T d).loc main_arg4) := by
    unfold V1 ops1; after_results
  have h2 : V2 m hr d (Proc.devRef .tc main_arg4) = V1 m d (Proc.devRef .tc main_arg4) := Function.update_of_ne (by decide) _ _
  have h3 : V3 m hr d (Proc.devRef .tc main_arg4) = V2 m hr d (Proc.devRef .tc main_arg4) := by
    unfold V3 ops2; after_results
  have h4 : V4 m hr d (Proc.devRef .tc main_arg4) = V3 m hr d (Proc.devRef .tc main_arg4) :=
    Pipeline.afterRegion_keeps (dat (V3 m hr) d) (V3 m hr d) winFacts1.arr_inj (fun _ => rfl) main_arg4 (by decide)
  have h5 : V5 m hr d (Proc.devRef .tc main_arg4) = V4 m hr d (Proc.devRef .tc main_arg4) := by
    unfold V5 ops3; after_results
  rw [h5, h4, h3, h2, h1]
/-- Argument 5 is unchanged at the end. -/
theorem V5_arg5 (d : Dev nD) : V5 m hr d (Proc.devRef .tc main_arg5) = m ((SparseCore.T d).loc main_arg5) := by
  have h1 : V1 m d (Proc.devRef .tc main_arg5) = m ((SparseCore.T d).loc main_arg5) := by
    unfold V1 ops1; after_results
  have h2 : V2 m hr d (Proc.devRef .tc main_arg5) = V1 m d (Proc.devRef .tc main_arg5) := Function.update_of_ne (by decide) _ _
  have h3 : V3 m hr d (Proc.devRef .tc main_arg5) = V2 m hr d (Proc.devRef .tc main_arg5) := by
    unfold V3 ops2; after_results
  have h4 : V4 m hr d (Proc.devRef .tc main_arg5) = V3 m hr d (Proc.devRef .tc main_arg5) :=
    Pipeline.afterRegion_keeps (dat (V3 m hr) d) (V3 m hr d) winFacts1.arr_inj (fun _ => rfl) main_arg5 (by decide)
  have h5 : V5 m hr d (Proc.devRef .tc main_arg5) = V4 m hr d (Proc.devRef .tc main_arg5) := by
    unfold V5 ops3; after_results
  rw [h5, h4, h3, h2, h1]
/-- Argument 6 is unchanged at the end. -/
theorem V5_arg6 (d : Dev nD) : V5 m hr d (Proc.devRef .tc main_arg6) = m ((SparseCore.T d).loc main_arg6) := by
  have h1 : V1 m d (Proc.devRef .tc main_arg6) = m ((SparseCore.T d).loc main_arg6) := by
    unfold V1 ops1; after_results
  have h2 : V2 m hr d (Proc.devRef .tc main_arg6) = V1 m d (Proc.devRef .tc main_arg6) := Function.update_of_ne (by decide) _ _
  have h3 : V3 m hr d (Proc.devRef .tc main_arg6) = V2 m hr d (Proc.devRef .tc main_arg6) := by
    unfold V3 ops2; after_results
  have h4 : V4 m hr d (Proc.devRef .tc main_arg6) = V3 m hr d (Proc.devRef .tc main_arg6) :=
    Pipeline.afterRegion_keeps (dat (V3 m hr) d) (V3 m hr d) winFacts1.arr_inj (fun _ => rfl) main_arg6 (by decide)
  have h5 : V5 m hr d (Proc.devRef .tc main_arg6) = V4 m hr d (Proc.devRef .tc main_arg6) := by
    unfold V5 ops3; after_results
  rw [h5, h4, h3, h2, h1]
/-- Argument 7 is unchanged at the end. -/
theorem V5_arg7 (d : Dev nD) : V5 m hr d (Proc.devRef .tc main_arg7) = m ((SparseCore.T d).loc main_arg7) := by
  have h1 : V1 m d (Proc.devRef .tc main_arg7) = m ((SparseCore.T d).loc main_arg7) := by
    unfold V1 ops1; after_results
  have h2 : V2 m hr d (Proc.devRef .tc main_arg7) = V1 m d (Proc.devRef .tc main_arg7) := Function.update_of_ne (by decide) _ _
  have h3 : V3 m hr d (Proc.devRef .tc main_arg7) = V2 m hr d (Proc.devRef .tc main_arg7) := by
    unfold V3 ops2; after_results
  have h4 : V4 m hr d (Proc.devRef .tc main_arg7) = V3 m hr d (Proc.devRef .tc main_arg7) :=
    Pipeline.afterRegion_keeps (dat (V3 m hr) d) (V3 m hr d) winFacts1.arr_inj (fun _ => rfl) main_arg7 (by decide)
  have h5 : V5 m hr d (Proc.devRef .tc main_arg7) = V4 m hr d (Proc.devRef .tc main_arg7) := by
    unfold V5 ops3; after_results
  rw [h5, h4, h3, h2, h1]
/-- Argument 8 is unchanged at the end. -/
theorem V5_arg8 (d : Dev nD) : V5 m hr d (Proc.devRef .tc main_arg8) = m ((SparseCore.T d).loc main_arg8) := by
  have h1 : V1 m d (Proc.devRef .tc main_arg8) = m ((SparseCore.T d).loc main_arg8) := by
    unfold V1 ops1; after_results
  have h2 : V2 m hr d (Proc.devRef .tc main_arg8) = V1 m d (Proc.devRef .tc main_arg8) := Function.update_of_ne (by decide) _ _
  have h3 : V3 m hr d (Proc.devRef .tc main_arg8) = V2 m hr d (Proc.devRef .tc main_arg8) := by
    unfold V3 ops2; after_results
  have h4 : V4 m hr d (Proc.devRef .tc main_arg8) = V3 m hr d (Proc.devRef .tc main_arg8) :=
    Pipeline.afterRegion_keeps (dat (V3 m hr) d) (V3 m hr d) winFacts1.arr_inj (fun _ => rfl) main_arg8 (by decide)
  have h5 : V5 m hr d (Proc.devRef .tc main_arg8) = V4 m hr d (Proc.devRef .tc main_arg8) := by
    unfold V5 ops3; after_results
  rw [h5, h4, h3, h2, h1]
/-- Result 1: the first eight lanes of the kernel's output. -/
theorem V5_res1 (d : Dev nD) : V5 m hr d (Proc.devRef .tc main_v33)
    = shapeCast S8 (extractStridedSlice S1x8 ![0, 0] (out1 (V3 m hr d)) slices_S1x128_S1x8_0_0) shapeCasts_S1x8_S8 := by
  rw [← V4_9]
  unfold V5 ops3
  after_results
  rfl
/-- Result 2: the first eight lanes of the kernel's output. -/
theorem V5_res2 (d : Dev nD) : V5 m hr d (Proc.devRef .tc main_v35)
    = shapeCast S8 (extractStridedSlice S1x8 ![0, 0] (out2 (V3 m hr d)) slices_S1x128_S1x8_0_0) shapeCasts_S1x8_S8 := by
  rw [← V4_10]
  unfold V5 ops3
  after_results
  rfl
/-- Result 3: the first eight lanes of the kernel's output. -/
theorem V5_res3 (d : Dev nD) : V5 m hr d (Proc.devRef .tc main_v37)
    = shapeCast S8 (extractStridedSlice S1x8 ![0, 0] (out3 (V3 m hr d)) slices_S1x128_S1x8_0_0) shapeCasts_S1x8_S8 := by
  rw [← V4_11]
  unfold V5 ops3
  after_results
  rfl
/-- Result 4: the first eight lanes of the kernel's output. -/
theorem V5_res4 (d : Dev nD) : V5 m hr d (Proc.devRef .tc main_v39)
    = shapeCast S8 (extractStridedSlice S1x8 ![0, 0] (out4 (V3 m hr d)) slices_S1x128_S1x8_0_0) shapeCasts_S1x8_S8 := by
  rw [← V4_12]
  unfold V5 ops3
  after_results
  rfl

end Cert.Proof.Beam

end
-- ==== Proof.Pre.lean ====
/-
  The two preconditions read back: every index is below the table's height, and under the second every
  float of every argument is a finite real.
-/
module

public import proofs.«01_k».proof.Proof.Gen.Pre_in_range
public import proofs.«01_k».proof.Proof.Gen.Pre_finite_in_range
public import Idealize.ShloMosaic.Lib.ReduceAll
public import Idealize.ShloMosaic.PureOps.Ideal

@[expose] public section

noncomputable section

namespace Cert.Proof.Beam

open Idealize.ShloMosaic

/-- A word at least zero and below 100000 as a signed number is so as a natural one. -/
theorem word_lt (v : BitVec 32) (e : IntOp.andi (IntOp.cmpi .sge v 0#32) (IntOp.cmpi .slt v 100000#32) = 1#1) : v.toNat < 100000 := by
  obtain ⟨e1, e2⟩ := IntOp.andi_eq_one.1 e
  simp only [IntOp.cmpi, BitVec.sle_eq_decide, BitVec.slt_eq_decide, BitVec.toInt_eq_toNat_cond, BitVec.toNat_ofNat, Nat.reducePow, Nat.reduceMod] at e1 e2
  have f : ∀ p : Bool, (BitVec.ofBool p = 1#1) → p = true := by decide
  have e1 := f _ e1
  have e2 := f _ e2
  simp only [decide_eq_true_eq] at e1 e2
  omega

section
open Cert.Pre_in_range Cert.Pre_in_range.Gen

/-- The first precondition gives the range of the indices, at any floats. -/
theorem range_of_pre {F : FTy → Type} [FloatOps F] (a0 : IVec S64x2 32) (a1 : FVec F S64x512 .f32) (a2 : FVec F S64x1 .f32)
    (a3 : FVec F S100000x512 .f32) (a4 : FVec F S512x4x2 .f32) (a5 : FVec F S512x512 .f32) (a6 : FVec F S512 .f32)
    (a7 : FVec F S100000x512 .f32) (a8 : FVec F S100000 .f32)
    (h : (Cert.Pre_in_range.fn (F := F) a0 a1 a2 a3 a4 a5 a6 a7 a8) = fun _ => 1#1) (k : S64x2.Idx) : (a0 k).toNat < 100000 := by
  have : Subsingleton S_.Idx := ⟨fun _ _ => funext fun a => a.elim0⟩
  exact word_lt _ (Host.reduce_andi_all _ _ _ _ _ (congrFun h (fun a => a.elim0)) k)

end

section
open Cert.Pre_finite_in_range Cert.Pre_finite_in_range.Gen

/-- An ideal number whose absolute value is below infinity is a real. -/
theorem real_of_lt (x : Ideal .f32) (h : FloatOps.cmpf (F := Ideal) .olt (FloatOps.absf x) (FloatOps.ofBits (F := Ideal) .f32 0x7F800000#32) = 1#1) :
    ∃ r : ℝ, x = (r : EReal) := by
  have f : ∀ p : Bool, (BitVec.ofBool p = 1#1) → p = true := by decide
  have e := f _ h
  have t : Ideal.ofBits .f32 0x7F800000#32 = ⊤ := by simp [Ideal.ofBits, Ideal.ieee]
  have e : max x (-x) < (⊤ : EReal) := by
    rw [← t]
    exact of_decide_eq_true e
  have h1 : x ≠ ⊤ := by
    rintro rfl
    simp at e
  have h2 : x ≠ ⊥ := by
    rintro rfl
    simp at e
  exact ⟨x.toReal, (EReal.coe_toReal h1 h2).symm⟩

/-- An array of ideal numbers all of whose entries are reals. -/
def AllReal {s : Shape} (x : FVec Ideal s .f32) : Prop := ∀ k, ∃ r : ℝ, x k = (r : EReal)

/-- The second precondition gives the range and the finiteness of the hypotheses' scores and of the joiner's weights. -/
theorem finite_of_pre (a0 : IVec S64x2 32) (a1 : FVec Ideal S64x512 .f32) (a2 : FVec Ideal S64x1 .f32)
    (a3 : FVec Ideal S100000x512 .f32) (a4 : FVec Ideal S512x4x2 .f32) (a5 : FVec Ideal S512x512 .f32) (a6 : FVec Ideal S512 .f32)
    (a7 : FVec Ideal S100000x512 .f32) (a8 : FVec Ideal S100000 .f32)
    (h : (Cert.Pre_finite_in_range.fn (F := Ideal) a0 a1 a2 a3 a4 a5 a6 a7 a8) = fun _ => 1#1) :
    (∀ k, (a0 k).toNat < 100000) ∧ AllReal a2 ∧ AllReal a7 ∧ AllReal a8 := by
  have hs : Subsingleton S_.Idx := ⟨fun _ _ => funext fun a => a.elim0⟩
  have h0 := congrFun h (fun a => a.elim0)
  obtain ⟨h0, e8⟩ := IntOp.andi_eq_one.1 h0
  obtain ⟨h0, e7⟩ := IntOp.andi_eq_one.1 h0
  obtain ⟨h0, e2⟩ := IntOp.andi_eq_one.1 h0
  exact ⟨fun k => word_lt _ (Host.reduce_andi_all _ _ _ _ _ h0 k), fun k => real_of_lt _ (Host.reduce_andi_all _ _ _ _ _ e2 k),
    fun k => real_of_lt _ (Host.reduce_andi_all _ _ _ _ _ e7 k), fun k => real_of_lt _ (Host.reduce_andi_all _ _ _ _ _ e8 k)⟩

end

end Cert.Proof.Beam

end
-- ==== Proof.Twin.lean ====
/-
  The kernel read with every constant left as its bit pattern is, at the bit instance, the program with
  named constants where a name keeps its pattern: label by label the two bodies are the same text.
-/
module

public import proofs.«01_k».proof.Proof.Gen.KernelIdeal
public import proofs.«01_k».proof.Proof.Gen.Kernel
public import Idealize.ShloMosaic.PureOps.BitExact

@[expose] public section

set_option maxRecDepth 65536

noncomputable section

namespace Cert.Proof.Twin

open Idealize.ShloMosaic
open Cert.Kernel.Gen Cert.KernelIdeal.Gen

/-- At the bit instance a named constant keeps its bit pattern. -/
local instance namedBits : Named Bits where
  named _ _ {_} bits := FloatOps.ofBits _ bits

set_option maxHeartbeats 2000000

/-- The two programs' texts agree here. -/
theorem tc_one (t) (s) : Cert.Kernel.defs₀ (F := Bits) .tc 1 (t, s) = Cert.KernelIdeal.defs₀ (F := Bits) .tc 1 (t, s) := rfl

/-- The two programs' texts agree here. -/
theorem tc_zero (a) : Cert.Kernel.defs₀ (F := Bits) .tc 0 a = Cert.KernelIdeal.defs₀ (F := Bits) .tc 0 a := rfl

/-- The two programs' texts agree here. -/
theorem tile_zero (c) (s) (a) :
    Cert.Kernel.defs₀ (F := Bits) (.scVector c s) 0 a = Cert.KernelIdeal.defs₀ (F := Bits) (.scVector c s) 0 a := rfl

/-- The two programs' texts agree here. -/
theorem tile_one (c) (s) (a) :
    Cert.Kernel.defs₀ (F := Bits) (.scVector c s) 1 a = Cert.KernelIdeal.defs₀ (F := Bits) (.scVector c s) 1 a := rfl

/-- The bodies agree at every label of every processor. -/
theorem bodies_eq : Cert.Kernel.defs₀ (F := Bits) = Cert.KernelIdeal.defs₀ (F := Bits) := by
  funext p l a
  match p, l, a with
  | .tc, 0, a => exact tc_zero a
  | .tc, 1, (t, s) => exact tc_one t s
  | .scVector c s, 0, a => exact tile_zero c s a
  | .scVector c s, 1, a => exact tile_one c s a
  | .scScalar _, 0, _ => rfl
  | .scScalar _, 1, _ => rfl

/-- So the definitions the threads run under agree. -/
theorem defs_eq : Cert.Kernel.defs (F := Bits) = Cert.KernelIdeal.defs (F := Bits) :=
  congrArg (fun D => Cert.KernelIdeal.sc.defs (Pipeline.defs Cert.KernelIdeal.pcfgs D)) bodies_eq

/-- And the threads themselves. -/
theorem threads_eq : Cert.Kernel.threads (F := Bits) = Cert.KernelIdeal.threads (F := Bits) := rfl

/-- A run of the one is a run of the other. -/
theorem run_of (m : (ℓ : Loc Cert.Kernel.nD Cert.Kernel.τ Cert.Kernel.sig) → Buf (Elt Bits) ℓ)
    (g : Dev Cert.Kernel.nD → PrngReg) (Q)
    (h : θ_run (Cert.KernelIdeal.defs (F := Bits)) (Cert.KernelIdeal.threads (F := Bits)) ⟨m, fun _ => 0, g⟩ Q) :
    θ_run (Cert.Kernel.defs (F := Bits)) (Cert.Kernel.threads (F := Bits)) ⟨m, fun _ => 0, g⟩ Q := by
  rw [defs_eq, threads_eq]
  exact h

end Cert.Proof.Twin

end
-- ==== Proof.Frames.lean ====
/-
  The frames: from any memory whose indices are in range the kernel runs to the end, its arguments unchanged and every
  semaphore at zero, at bit patterns and at exact floats.
-/
module

public import proofs.«01_k».proof.Defs
public import proofs.«01_k».proof.Proof.Run
public import proofs.«01_k».proof.Proof.Pre
public import proofs.«01_k».proof.Proof.Twin
public import proofs.«01_k».proof.Proof.Gen.ReferenceIdeal.Run

@[expose] public section

set_option maxRecDepth 16384

noncomputable section

namespace Cert.Proof.Beam

open Idealize.ShloMosaic Idealize.SL.Sem
open Cert.KernelIdeal Cert.KernelIdeal.Gen
open TcCoe

section
variable {F : FTy → Type} [FloatOps F] [Named F] (m : (ℓ : Loc nD τ sig) → Buf (Elt F) ℓ) (ρ : Dev nD → PrngReg) (hr : InRange m)

/-- A buffer the host declares is one of those the run reads back. -/
theorem mem_bufs (b : Ref sig .tc) (h : b.isScoped = false) : (Proc.devRef .tc b : DevRef τ sig) ∈ bufs :=
  Finset.mem_filter.2 ⟨StableHlo.devRef_mem_tcRefs b, by
    show ¬ b.isScoped = true
    simp [h]⟩

/-- The run with the nine arguments unchanged and the four results named. -/
theorem run_args [∀ e, Nonempty (Elt F e)] : θ_run (defs (F := F)) (threads (F := F)) ⟨m, fun _ => 0, ρ⟩ (fun r => (∀ c : Dev nD,
      (r.2.mem ((SparseCore.T c).loc main_v33) = V5 m hr c (Proc.devRef .tc main_v33)
        ∧ r.2.mem ((SparseCore.T c).loc main_v35) = V5 m hr c (Proc.devRef .tc main_v35)
        ∧ r.2.mem ((SparseCore.T c).loc main_v37) = V5 m hr c (Proc.devRef .tc main_v37)
        ∧ r.2.mem ((SparseCore.T c).loc main_v39) = V5 m hr c (Proc.devRef .tc main_v39))
      ∧ r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5)
      ∧ r.2.mem ((SparseCore.T c).loc main_arg6) = m ((SparseCore.T c).loc main_arg6)
      ∧ r.2.mem ((SparseCore.T c).loc main_arg7) = m ((SparseCore.T c).loc main_arg7)
      ∧ r.2.mem ((SparseCore.T c).loc main_arg8) = m ((SparseCore.T c).loc main_arg8))
      ∧ r.2.sem = fun _ => 0) :=
  (θ_run defs _ _).mono (fun r h => ⟨fun c => ⟨⟨h.1 c _ (mem_bufs main_v33 rfl), h.1 c _ (mem_bufs main_v35 rfl),
      h.1 c _ (mem_bufs main_v37 rfl), h.1 c _ (mem_bufs main_v39 rfl)⟩,
    (h.1 c _ (mem_bufs main_arg0 rfl)).trans (V5_arg0 m hr c), (h.1 c _ (mem_bufs main_arg1 rfl)).trans (V5_arg1 m hr c),
    (h.1 c _ (mem_bufs main_arg2 rfl)).trans (V5_arg2 m hr c), (h.1 c _ (mem_bufs main_arg3 rfl)).trans (V5_arg3 m hr c),
    (h.1 c _ (mem_bufs main_arg4 rfl)).trans (V5_arg4 m hr c), (h.1 c _ (mem_bufs main_arg5 rfl)).trans (V5_arg5 m hr c),
    (h.1 c _ (mem_bufs main_arg6 rfl)).trans (V5_arg6 m hr c), (h.1 c _ (mem_bufs main_arg7 rfl)).trans (V5_arg7 m hr c),
    (h.1 c _ (mem_bufs main_arg8 rfl)).trans (V5_arg8 m hr c)⟩, h.2⟩)
    (run_main m ρ hr)

end

/-- Indices in range from the second precondition. -/
theorem inRange_of_finite (m : (ℓ : Loc nD τ sig) → Buf (Elt Ideal) ℓ) (h : Pre_KernelIdeal_finite_in_range m) : InRange m :=
  fun d k => (finite_of_pre _ _ _ _ _ _ _ _ _ (h d)).1 k

/-- The kernel's frame over the extended reals. -/
theorem frame_kernelIdeal : Cert.quiescent_KernelIdeal := fun m ρ hpre =>
  (θ_run Cert.KernelIdeal.defs _ _).mono (fun _ h => ⟨fun c => (h.1 c).2, h.2⟩)
    (run_args (F := Ideal) m ρ fun d k => range_of_pre _ _ _ _ _ _ _ _ _ (hpre d) k)

/-- The same frame, under the second precondition. -/
theorem frame_kernelIdeal_finite : Cert.quiescent_KernelIdeal_pre_finite_in_range := fun m ρ hpre =>
  (θ_run Cert.KernelIdeal.defs _ _).mono (fun _ h => ⟨fun c => (h.1 c).2, h.2⟩)
    (run_args (F := Ideal) m ρ (inRange_of_finite m hpre))

/-- The kernel as printed is the named program with the names' patterns kept: its frame is the run at bit patterns. -/
theorem frame_kernel : Cert.quiescent_Kernel := fun m ρ hpre =>
  letI := Twin.namedBits
  Twin.run_of m ρ _ ((θ_run Cert.KernelIdeal.defs _ _).mono (fun _ h => ⟨fun c => (h.1 c).2, h.2⟩)
    (run_args (F := Bits) m ρ fun d k => range_of_pre _ _ _ _ _ _ _ _ _ (hpre d) k))

/-- The reference's frame. -/
theorem frame_reference : Cert.quiescent_ReferenceIdeal := fun m ρ _ =>
  (θ_run Cert.ReferenceIdeal.defs _ _).mono (fun r h => ⟨fun c => (h c).2.2.2.2, sem_eq_zero_of_no_sems rfl r.2⟩)
    (Cert.ReferenceIdeal.Value.run (F := Ideal) m ρ)

/-- Both named constants are what the table says. -/
theorem preserves : Cert.preserves_Kernel_KernelIdeal := by
  constructor
  · exact IdealRules.named_const.statement _ _ _ _ _ rfl
  · exact IdealRules.named_const.statement _ _ _ _ _ rfl

end Cert.Proof.Beam

end
-- ==== Proof.Rank.lean ====
/-
  Rounds of "the greatest entry, the least key that holds it, that entry removed": what the rounds pick, in terms of how many
  entries are better.
-/
module

public import Mathlib.Data.EReal.Basic
public import Mathlib.Data.Finset.Card
public import Mathlib.Data.Fintype.Card
public import Mathlib.Data.Finset.Fold
public import Idealize.ShloMosaic.PureOps.Ideal
public import Idealize.ShloMosaic.PureOps.Reduce

@[expose] public section

noncomputable section

namespace Cert.Proof.Rank

open Finset

section
variable {ι : Type} (w : ι → EReal) (key : ι → ℕ)

/-- Entry `i` is better than `j`: greater, or equal with the lesser key. -/
def Better (i j : ι) : Prop := w j < w i ∨ (w i = w j ∧ key i < key j)

variable {w key}

/-- Nothing is better than itself. -/
theorem Better.irrefl {i : ι} : ¬ Better w key i i := by
  rintro (h | ⟨_, h⟩)
  · exact lt_irrefl _ h
  · exact lt_irrefl _ h

/-- Of two, at most one is better. -/
theorem Better.asymm {i j : ι} (h : Better w key i j) : ¬ Better w key j i := by
  rcases h with h | ⟨e, h⟩ <;> rintro (g | ⟨e', g⟩)
  · exact lt_asymm h g
  · rw [e'] at h; exact lt_irrefl _ h
  · rw [e] at g; exact lt_irrefl _ g
  · omega

/-- Being better is transitive. -/
theorem Better.trans {i j k : ι} (h : Better w key i j) (g : Better w key j k) : Better w key i k := by
  rcases h with h | ⟨e, h⟩ <;> rcases g with g | ⟨e', g⟩
  · exact .inl (lt_trans g h)
  · exact .inl (e' ▸ h)
  · exact .inl (e ▸ g)
  · exact .inr ⟨e.trans e', by omega⟩

open Classical in
/-- How many entries of `s` are better than `i`. -/
def rank (w : ι → EReal) (key : ι → ℕ) (s : Finset ι) (i : ι) : ℕ := (s.filter fun j => Better w key j i).card

/-- A rank grows with the set. -/
theorem rank_mono {s t : Finset ι} (h : s ⊆ t) (i : ι) : rank w key s i ≤ rank w key t i := by
  classical
  exact card_le_card fun j hj => by
    simp only [mem_filter] at hj ⊢
    exact ⟨h hj.1, hj.2⟩

/-- A better entry has a smaller rank. -/
theorem rank_lt {s : Finset ι} {i j : ι} (hi : i ∈ s) (h : Better w key i j) : rank w key s i < rank w key s j := by
  classical
  refine card_lt_card ⟨fun k hk => ?_, fun hsub => ?_⟩
  · simp only [mem_filter] at hk ⊢
    exact ⟨hk.1, hk.2.trans h⟩
  · have := hsub (mem_filter.2 ⟨hi, h⟩)
    exact Better.irrefl (mem_filter.1 this).2

/-- Entry `p` is the best of all, and not −∞. -/
structure Pick (w : ι → EReal) (key : ι → ℕ) (p : ι) : Prop where
  ne : w p ≠ ⊥
  best : ∀ j, j ≠ p → Better w key p j

end

section
variable {ι : Type} [Fintype ι] [DecidableEq ι] (w : ℕ → ι → EReal) (p : ℕ → ι) (key : ι → ℕ) (N : ℕ)

/-- Rounds: each picks the best entry while one is left, and sets it to −∞. -/
structure Rounds : Prop where
  pick : ∀ n < N, (∃ i, w n i ≠ ⊥) → Pick (w n) key (p n)
  kill : ∀ n < N, (∃ i, w n i ≠ ⊥) → w (n + 1) = Function.update (w n) (p n) ⊥
  many : N ≤ (univ.filter fun i => w 0 i ≠ ⊥).card

namespace Rounds
variable {w p key N} (R : Rounds w p key N)
include R

/-- After `n` rounds the picked ones are at minus infinity and the others as they were. -/
theorem step_aux (n : ℕ) (hn : n ≤ N) : ∀ i, w n i = if ∃ m < n, p m = i then ⊥ else w 0 i := by
  classical
  induction n with
  | zero => intro i; simp
  | succ n ih =>
    have ih := ih (by omega)
    have ex : ∃ i, w n i ≠ ⊥ := by
      by_contra hc
      push Not at hc
      have hs : (univ.filter fun i => w 0 i ≠ ⊥) ⊆ (range n).image p := fun i hi => by
        have h0 := (mem_filter.1 hi).2
        have := ih i
        rw [hc i] at this
        by_cases hm : ∃ m < n, p m = i
        · obtain ⟨m, hm, e⟩ := hm
          exact mem_image.2 ⟨m, mem_range.2 hm, e⟩
        · rw [if_neg hm] at this
          exact absurd this.symm h0
      have h1 := card_le_card hs
      have h2 : ((range n).image p).card ≤ n := card_image_le.trans (by simp)
      have := R.many
      omega
    intro i
    rw [R.kill n (by omega) ex]
    by_cases hi : i = p n
    · subst hi
      rw [Function.update_self, if_pos ⟨n, by omega, rfl⟩]
    · rw [Function.update_of_ne hi, ih i]
      refine if_congr ⟨fun ⟨m, h, e⟩ => ⟨m, by omega, e⟩, fun ⟨m, h, e⟩ => ⟨m, ?_, e⟩⟩ rfl rfl
      rcases Nat.lt_succ_iff_lt_or_eq.1 h with h | rfl
      · exact h
      · exact absurd e.symm hi

/-- While rounds are left something is above minus infinity. -/
theorem ex (n : ℕ) (hn : n < N) : ∃ i, w n i ≠ ⊥ := by
  classical
  have ih := R.step_aux n (by omega)
  by_contra hc
  push Not at hc
  have hs : (univ.filter fun i => w 0 i ≠ ⊥) ⊆ (range n).image p := fun i hi => by
    have h0 := (mem_filter.1 hi).2
    have := ih i
    rw [hc i] at this
    by_cases hm : ∃ m < n, p m = i
    · obtain ⟨m, hm, e⟩ := hm
      exact mem_image.2 ⟨m, mem_range.2 hm, e⟩
    · rw [if_neg hm] at this
      exact absurd this.symm h0
  have h1 := card_le_card hs
  have h2 : ((range n).image p).card ≤ n := card_image_le.trans (by simp)
  have := R.many
  omega

/-- Each round picks. -/
theorem picked (n : ℕ) (hn : n < N) : Pick (w n) key (p n) := R.pick n hn (R.ex n hn)

/-- No round picks what an earlier one picked. -/
theorem fresh {m n : ℕ} (hm : m < n) (hn : n < N) : p m ≠ p n := fun e => by
  have h := R.step_aux n (by omega) (p n)
  rw [if_pos ⟨m, hm, e⟩] at h
  exact (R.picked n hn).ne h

/-- What round `n` picks still has its first value, -/
theorem value (n : ℕ) (hn : n < N) : w n (p n) = w 0 (p n) := by
  rw [R.step_aux n (by omega) (p n), if_neg]
  rintro ⟨m, hm, e⟩
  exact R.fresh hm hn e

/-- which is not −∞; -/
theorem value_ne (n : ℕ) (hn : n < N) : w 0 (p n) ≠ ⊥ := R.value n hn ▸ (R.picked n hn).ne

/-- What a round picks had its first value until then. -/
theorem later {m n : ℕ} (hm : m ≤ n) (hn : n < N) : w m (p n) = w 0 (p n) := by
  rw [R.step_aux m (by omega) (p n), if_neg]
  rintro ⟨k, hk, e⟩
  exact R.fresh (by omega) hn e

/-- earlier picks are better; -/
theorem order {m n : ℕ} (hm : m < n) (hn : n < N) : Better (w 0) key (p m) (p n) := by
  have h := (R.picked m (by omega)).best (p n) (R.fresh hm hn).symm
  unfold Better at h ⊢
  rwa [R.later hm.le hn, R.value m (by omega)] at h

/-- an entry never picked is worse than every pick; -/
theorem worse {i : ι} (hi : ∀ m < N, p m ≠ i) {n : ℕ} (hn : n < N) : Better (w 0) key (p n) i := by
  have h := (R.picked n hn).best i (hi n hn).symm
  unfold Better at h ⊢
  have e : w n i = w 0 i := by
    rw [R.step_aux n (by omega) i, if_neg]
    rintro ⟨k, hk, e⟩
    exact hi k (by omega) e
  rwa [R.value n hn, e] at h

/-- Rounds picking the same are the same round. -/
theorem inj {m n : ℕ} (hm : m < N) (hn : n < N) (e : p m = p n) : m = n := by
  rcases lt_trichotomy m n with h | h | h
  · exact absurd e (R.fresh h hn)
  · exact h
  · exact absurd e.symm (R.fresh h hm)

/-- exactly `n` entries are better than the `n`-th pick; -/
theorem rank_eq (n : ℕ) (hn : n < N) : rank (w 0) key univ (p n) = n := by
  classical
  have : (univ.filter fun j => Better (w 0) key j (p n)) = (range n).image p := by
    ext j
    simp only [mem_filter, mem_univ, true_and, mem_image, mem_range]
    constructor
    · intro h
      by_cases hm : ∃ m < N, p m = j
      · obtain ⟨m, hm, rfl⟩ := hm
        refine ⟨m, ?_, rfl⟩
        rcases lt_trichotomy m n with g | rfl | g
        · exact g
        · exact absurd h Better.irrefl
        · exact absurd h (R.order g hm).asymm
      · push Not at hm
        exact absurd h (R.worse hm hn).asymm
    · rintro ⟨m, hm, rfl⟩
      exact R.order hm hn
  unfold rank
  rw [this, card_image_of_injOn, card_range]
  intro a ha b hb e
  simp only [coe_range, Set.mem_Iio] at ha hb
  exact R.inj (by omega) (by omega) e

/-- and an entry with fewer than `N` better ones is picked. -/
theorem found (i : ι) (h : rank (w 0) key univ i < N) : ∃ n < N, p n = i := by
  classical
  by_contra hc
  push Not at hc
  have hs : (range N).image p ⊆ (univ.filter fun j => Better (w 0) key j i) := fun j hj => by
    obtain ⟨n, hn, rfl⟩ := mem_image.1 hj
    exact mem_filter.2 ⟨mem_univ _, R.worse hc (mem_range.1 hn)⟩
  have h1 := card_le_card hs
  rw [card_image_of_injOn, card_range] at h1
  · unfold rank at h; omega
  · intro a ha b hb e
    simp only [coe_range, Set.mem_Iio] at ha hb
    exact R.inj ha hb e

/-- What holds of `N` entries, and of every entry better than one it holds of, holds of every pick. -/
theorem dominate (Q : ι → Prop) (S : Finset ι) (hS : N ≤ S.card) (h : ∀ i ∈ S, Q i)
    (up : ∀ n < N, ∀ i, Better (w 0) key (p n) i → Q i → Q (p n)) : ∀ n < N, Q (p n) := by
  classical
  by_cases hall : S ⊆ (range N).image p
  · have c : ((range N).image p).card ≤ S.card := (card_image_le.trans (by simp)).trans hS
    have e := eq_of_subset_of_card_le hall c
    intro n hn
    exact h _ (e ▸ mem_image_of_mem p (mem_range.2 hn))
  · obtain ⟨i, hi, hni⟩ := not_subset.1 hall
    intro n hn
    exact up n hn i (R.worse (fun m hm e => hni (mem_image.2 ⟨m, mem_range.2 hm, e⟩)) hn) (h i hi)

end Rounds
end

/-! ## The folds -/

open Idealize.ShloMosaic

section
variable {ι : Type} [DecidableEq ι]

/-- A fold of `max` from −∞ bounds every entry, -/
theorem le_fold_max (s : Finset ι) (f : ι → EReal) : ∀ i ∈ s, f i ≤ s.fold max ⊥ f := by
  intro i hi
  exact ((Finset.fold_max_le (s.fold max ⊥ f)).1 le_rfl).2 i hi

/-- and is −∞ or one of them. -/
theorem fold_max_mem (s : Finset ι) (f : ι → EReal) : s.fold max ⊥ f = ⊥ ∨ ∃ i ∈ s, s.fold max ⊥ f = f i := by
  induction s using Finset.induction_on with
  | empty => left; simp
  | insert a s ha ih =>
    rw [Finset.fold_insert ha]
    rcases max_choice (f a) (s.fold max ⊥ f) with e | e
    · exact .inr ⟨a, mem_insert_self _ _, e⟩
    · rw [e]
      rcases ih with h | ⟨i, hi, h⟩
      · exact .inl h
      · exact .inr ⟨i, mem_insert_of_mem hi, h⟩

/-- A fold of the signed minimum is at most its start and every entry, and is one of them. -/
theorem fold_minsi (s : Finset ι) (b : BitVec 32) (f : ι → BitVec 32) :
    (s.fold IntOp.minsi b f = b ∨ ∃ i ∈ s, s.fold IntOp.minsi b f = f i)
      ∧ (s.fold IntOp.minsi b f).toInt ≤ b.toInt ∧ ∀ i ∈ s, (s.fold IntOp.minsi b f).toInt ≤ (f i).toInt := by
  induction s using Finset.induction_on with
  | empty => simp
  | insert a s ha ih =>
    obtain ⟨h1, h2, h3⟩ := ih
    rw [Finset.fold_insert ha]
    have key : ∀ x y : BitVec 32, (IntOp.minsi x y = x ∧ x.toInt ≤ y.toInt) ∨ (IntOp.minsi x y = y ∧ y.toInt ≤ x.toInt) := by
      intro x y
      unfold IntOp.minsi
      by_cases h : x.slt y = true
      · left
        rw [if_pos h]
        exact ⟨rfl, by rw [BitVec.slt_eq_decide, decide_eq_true_eq] at h; omega⟩
      · right
        rw [if_neg h]
        exact ⟨rfl, by rw [BitVec.slt_eq_decide, decide_eq_true_eq] at h; omega⟩
    rcases key (f a) (s.fold IntOp.minsi b f) with ⟨e, h⟩ | ⟨e, h⟩
    · rw [e]
      refine ⟨.inr ⟨a, mem_insert_self _ _, rfl⟩, by omega, fun i hi => ?_⟩
      rcases mem_insert.1 hi with rfl | hi
      · exact le_rfl
      · exact h.trans (h3 i hi)
    · rw [e]
      refine ⟨?_, h2, fun i hi => ?_⟩
      · rcases h1 with h1 | ⟨i, hi, h1⟩
        · exact .inl h1
        · exact .inr ⟨i, mem_insert_of_mem hi, h1⟩
      · rcases mem_insert.1 hi with rfl | hi
        · exact h
        · exact h3 i hi

/-- Of some entries selected, whose words are below 2³⁰, the fold of the signed minimum is the least. -/
theorem fold_minsi_select (s : Finset ι) (P : ι → Prop) [DecidablePred P] (k : ι → BitVec 32) (hk : ∀ i ∈ s, P i → (k i).toNat < 2 ^ 30)
    (hex : ∃ i ∈ s, P i) :
    ∃ i ∈ s, P i ∧ s.fold IntOp.minsi 2147483647#32 (fun i => if P i then k i else 1073741824#32) = k i
      ∧ ∀ j ∈ s, P j → (k i).toNat ≤ (k j).toNat := by
  obtain ⟨h1, h2, h3⟩ := fold_minsi s 2147483647#32 (fun i => if P i then k i else 1073741824#32)
  generalize s.fold IntOp.minsi 2147483647#32 (fun i => if P i then k i else 1073741824#32) = r at h1 h2 h3
  have small : ∀ v : BitVec 32, v.toNat < 2 ^ 30 → v.toInt = v.toNat := fun v hv => by
    rw [BitVec.toInt_eq_toNat_cond, if_pos (by omega)]
  obtain ⟨i₀, hi₀, p₀⟩ := hex
  have lt0 : r.toInt < 1073741824 := by
    have := h3 i₀ hi₀
    rw [if_pos p₀, small _ (hk _ hi₀ p₀)] at this
    have := hk _ hi₀ p₀
    omega
  rcases h1 with rfl | ⟨i, hi, e⟩
  · exact absurd lt0 (by decide)
  · by_cases hp : P i
    · rw [if_pos hp] at e
      refine ⟨i, hi, hp, e, fun j hj pj => ?_⟩
      have := h3 j hj
      rw [if_pos pj, e, small _ (hk _ hi hp), small _ (hk _ hj pj)] at this
      exact_mod_cast this
    · rw [if_neg hp] at e
      subst e
      exact absurd lt0 (by decide)

end

/-- The greatest entry, and of those that hold it the one of least key, is the pick. -/
theorem pick_of_folds {ι : Type} [Fintype ι] [DecidableEq ι] (w : ι → EReal) (k : ι → BitVec 32)
    (hk : ∀ i, w i ≠ ⊥ → (k i).toNat < 2 ^ 30) (inj : ∀ i j, w i ≠ ⊥ → w j ≠ ⊥ → (k i).toNat = (k j).toNat → i = j)
    (ex : ∃ i, w i ≠ ⊥) :
    ∃ p, Pick w (fun i => (k i).toNat) p ∧ univ.fold max ⊥ w = w p
      ∧ univ.fold IntOp.minsi 2147483647#32 (fun i => if w i = univ.fold max ⊥ w then k i else 1073741824#32) = k p := by
  have le := le_fold_max univ w
  obtain ⟨i₀, h₀⟩ := ex
  have ne : univ.fold max ⊥ w ≠ ⊥ := fun e => h₀ (le_bot_iff.1 (e ▸ le i₀ (mem_univ _)))
  have mem := (fold_max_mem univ w).resolve_left ne
  generalize hM : univ.fold max ⊥ w = M at le ne mem ⊢
  obtain ⟨i₁, _, h₁⟩ := mem
  obtain ⟨p, _, hp, e, least⟩ := fold_minsi_select univ (fun i => w i = M) k (fun i _ h => hk i (h ▸ ne)) ⟨i₁, mem_univ _, h₁.symm⟩
  refine ⟨p, ⟨hp ▸ ne, fun j hj => ?_⟩, hp.symm, e⟩
  rcases lt_or_eq_of_le (le j (mem_univ _)) with h | h
  · exact .inl (hp.symm ▸ h)
  · refine .inr ⟨hp.trans h.symm, lt_of_le_of_ne (least j (mem_univ _) h) fun e => hj ?_⟩
    exact (inj p j (hp ▸ ne) (h ▸ ne) e).symm

/-- Rounds made of the two folds: the greatest entry, the least word among those that hold it, and the entry of that word masked. -/
theorem rounds_of_folds {ι : Type} [Fintype ι] [DecidableEq ι] [Nonempty ι] (W : ℕ → ι → EReal) (k : ι → BitVec 32) (N : ℕ) (C : ℕ → ι → Prop)
    (hk : ∀ i, W 0 i ≠ ⊥ → (k i).toNat < 2 ^ 30) (inj : ∀ i j, W 0 i ≠ ⊥ → W 0 j ≠ ⊥ → (k i).toNat = (k j).toNat → i = j)
    (yes : ∀ n i, C n i → W (n + 1) i = ⊥) (no : ∀ n i, ¬ C n i → W (n + 1) i = W n i)
    (hC : ∀ n i p, W 0 i ≠ ⊥ → W 0 p ≠ ⊥ → univ.fold max ⊥ (W n) = W n p →
      univ.fold IntOp.minsi 2147483647#32 (fun i => if W n i = univ.fold max ⊥ (W n) then k i else 1073741824#32) = k p → (C n i ↔ i = p))
    (many : N ≤ (univ.filter fun i => W 0 i ≠ ⊥).card) :
    ∃ p : ℕ → ι, Rounds W p (fun i => (k i).toNat) N ∧ ∀ n < N, univ.fold max ⊥ (W n) = W n (p n)
      ∧ univ.fold IntOp.minsi 2147483647#32 (fun i => if W n i = univ.fold max ⊥ (W n) then k i else 1073741824#32) = k (p n) := by
  classical
  have sub : ∀ n i, W n i ≠ ⊥ → W 0 i ≠ ⊥ := by
    intro n
    induction n with
    | zero => exact fun i h => h
    | succ n ih =>
      intro i h
      by_cases c : C n i
      · exact absurd (yes n i c) h
      · exact ih i (no n i c ▸ h)
  have one : ∀ n, (∃ i, W n i ≠ ⊥) → ∃ p, Pick (W n) (fun i => (k i).toNat) p ∧ univ.fold max ⊥ (W n) = W n p
      ∧ univ.fold IntOp.minsi 2147483647#32 (fun i => if W n i = univ.fold max ⊥ (W n) then k i else 1073741824#32) = k p :=
    fun n h => pick_of_folds (W n) k (fun i hi => hk i (sub n i hi)) (fun i j hi hj => inj i j (sub n i hi) (sub n j hj)) h
  have all : ∀ n, ∃ p, (∃ i, W n i ≠ ⊥) → Pick (W n) (fun i => (k i).toNat) p ∧ univ.fold max ⊥ (W n) = W n p
      ∧ univ.fold IntOp.minsi 2147483647#32 (fun i => if W n i = univ.fold max ⊥ (W n) then k i else 1073741824#32) = k p := by
    intro n
    by_cases h : ∃ i, W n i ≠ ⊥
    · obtain ⟨p, hp⟩ := one n h
      exact ⟨p, fun _ => hp⟩
    · exact ⟨Classical.arbitrary ι, fun h' => absurd h' h⟩
  choose p hp using all
  have R : Rounds W p (fun i => (k i).toNat) N := by
    refine ⟨fun n _ h => (hp n h).1, fun n _ h => ?_, many⟩
    obtain ⟨pk, e1, e2⟩ := hp n h
    funext i
    by_cases hi : W n i = ⊥
    · rw [Function.update_apply]
      by_cases c : C n i
      · rw [yes n i c]; split_ifs <;> simp [hi]
      · rw [no n i c]; split_ifs <;> simp [hi]
    · have := hC n i (p n) (sub n i hi) (sub n _ pk.ne) e1 e2
      rw [Function.update_apply]
      by_cases c : C n i
      · rw [yes n i c, if_pos (this.1 c)]
      · rw [no n i c, if_neg fun e => c (this.2 e)]
  exact ⟨p, R, fun n hn => (hp n (R.ex n hn)).2⟩

end Cert.Proof.Rank

end
-- ==== Proof.Read.lean ====
/-
  The step's functions over the extended reals, read at an index.
-/
module

public import proofs.«01_k».proof.Proof.Step
public import proofs.«01_k».proof.Proof.Rank
public import Idealize.ShloMosaic.Lib.Pointwise
public import Idealize.ShloMosaic.PureOps.Ideal

@[expose] public section

set_option maxRecDepth 16384

noncomputable section

namespace Cert.Proof.Beam

open Cert.KernelIdeal Cert.KernelIdeal.Gen
open Idealize.ShloMosaic Idealize.ShloMosaic.Pointwise
open Finset

/-- The pattern of minus infinity. -/
theorem ofBits_neg_inf : Ideal.ofBits .f32 0xFF800000#32 = ⊥ := by simp [Ideal.ofBits, Ideal.ieee]
/-- The pattern of plus infinity. -/
theorem ofBits_pos_inf : Ideal.ofBits .f32 0x7F800000#32 = ⊤ := by simp [Ideal.ofBits, Ideal.ieee]

/-- The mask is minus infinity. -/
theorem mask_eq : (mask : Ideal .f32) = ⊥ := rfl

/-- A select on a comparison, read as a condition. -/
theorem select_eq {α : Type} {w : ℕ} (a b : BitVec w) (x y : α) :
    Scalar.select (IntOp.cmpi CmpIPredicate.eq a b) x y = if a = b then x else y := by
  by_cases h : a = b
  · subst h
    simp [Scalar.select, IntOp.cmpi]
  · have e : (a == b) = false := beq_eq_false_iff_ne.2 h
    simp [Scalar.select, IntOp.cmpi, h, e]

/-- A select on a comparison, read as a condition. -/
theorem select_one {α : Type} (b : BitVec 1) (x y : α) : Scalar.select b x y = if b = 1#1 then x else y := rfl

/-- A select on a comparison, read as a condition. -/
theorem select_feq {α : Type} (a b : EReal) (x y : α) :
    Scalar.select (Ideal.cmp CmpFPredicate.oeq a b) x y = if a = b then x else y := by
  by_cases h : a = b
  · subst h
    simp [Scalar.select, Ideal.cmp]
  · simp [Scalar.select, Ideal.cmp, h]

/-! ## A block -/

/-- A block's row maximum, read. -/
theorem bmax_apply (v : FVec Ideal S64x5000 .f32) (h : Fin 64) (z : Fin 1) :
    bmax v (ix2 h z) = univ.fold max ⊥ fun c : Fin 5000 => v (ix2 h c) := by
  rw [← ofBits_neg_inf]
  pointwise [bmax]

/-- The first column holding a block's row maximum, read. -/
theorem bcol_apply (v : FVec Ideal S64x5000 .f32) (h : Fin 64) (z : Fin 1) :
    bcol v (ix2 h z) = univ.fold IntOp.minsi 2147483647#32 fun c : Fin 5000 =>
      if v (ix2 h c) = univ.fold max ⊥ (fun c : Fin 5000 => v (ix2 h c)) then BitVec.ofNat 32 c else 1073741824#32 := by
  pointwise [bcol, bmax_apply, colid]

/-- A block after its row maximum is masked, read. -/
theorem bkill_apply (v : FVec Ideal S64x5000 .f32) (h : Fin 64) (c : Fin 5000) :
    bkill v (ix2 h c) = if BitVec.ofNat 32 c = bcol v (ix2 h 0) then ⊥ else v (ix2 h c) := by
  pointwise [bkill, colid]
  rw [select_eq, mask_eq]

/-- The candidates' values after one more round, read. -/
theorem candV_succ (jj : BitVec 32) (v : FVec Ideal S64x5000 .f32) (cv : FVec Ideal S64x128 .f32) (n : ℕ) (h : Fin 64) (l : Fin 128) :
    candV jj v cv (n + 1) (ix2 h l) =
      if BitVec.ofNat 32 l = Scalar.addi (Scalar.addi 8#32 (Scalar.muli 8#32 jj)) (BitVec.ofNat 32 n)
      then bmax (bkilled v n) (ix2 h 0) else candV jj v cv n (ix2 h l) := by
  rw [candV]
  pointwise [bsel, wide, lane]
  rw [select_eq]

/-- The candidates' places after one more round, read. -/
theorem candI_succ (b jj : BitVec 32) (v : FVec Ideal S64x5000 .f32) (ci : IVec S64x128 32) (n : ℕ) (h : Fin 64) (l : Fin 128) :
    candI b jj v ci (n + 1) (ix2 h l) =
      if BitVec.ofNat 32 l = Scalar.addi (Scalar.addi 8#32 (Scalar.muli 8#32 jj)) (BitVec.ofNat 32 n)
      then b * 5000#32 + bcol (bkilled v n) (ix2 h 0) else candI b jj v ci n (ix2 h l) := by
  rw [candI]
  pointwise [bsel, wide, lane]
  rw [select_eq]
  rfl

/-! ## The merge -/

/-- The lanes' row maximum, read. -/
theorem mmax_apply (w : FVec Ideal S64x128 .f32) (h : Fin 64) (z : Fin 1) :
    mmax w (ix2 h z) = univ.fold max ⊥ fun c : Fin 128 => w (ix2 h c) := by
  rw [← ofBits_neg_inf]
  pointwise [mmax]

/-- The first lane holding the row maximum, read. -/
theorem mlane_apply (v : FVec Ideal S64x128 .f32) (h : Fin 64) (z : Fin 1) :
    mlane v (ix2 h z) = univ.fold IntOp.minsi 2147483647#32 fun c : Fin 128 =>
      if v (ix2 h c) = univ.fold max ⊥ (fun c : Fin 128 => v (ix2 h c)) then BitVec.ofNat 32 c else 1073741824#32 := by
  pointwise [mlane, mmax_apply, lane]

/-- The place that lane holds, read. -/
theorem mtok_apply (v : FVec Ideal S64x128 .f32) (ci : IVec S64x128 32) (h : Fin 64) (z : Fin 1) :
    mtok v ci (ix2 h z) = univ.fold IntOp.minsi 2147483647#32 fun c : Fin 128 =>
      if BitVec.ofNat 32 c = mlane v (ix2 h 0) then ci (ix2 h c) else 1073741824#32 := by
  pointwise [mtok, lane]
  simp only [select_eq]

/-- The lanes after that one is masked, read. -/
theorem mkill_apply (v : FVec Ideal S64x128 .f32) (h : Fin 64) (c : Fin 128) :
    mkill v (ix2 h c) = if BitVec.ofNat 32 c = mlane v (ix2 h 0) then ⊥ else v (ix2 h c) := by
  pointwise [mkill, lane]
  rw [select_eq, mask_eq]

/-- The merged values after one more round, read. -/
theorem mergeV_succ (w : FVec Ideal S64x128 .f32) (n : ℕ) (h : Fin 64) (l : Fin 128) :
    mergeV w (n + 1) (ix2 h l) = if BitVec.ofNat 32 l = BitVec.ofNat 32 n
      then mmax (mkilled w n) (ix2 h 0) else mergeV w n (ix2 h l) := by
  rw [mergeV]
  pointwise [wide, lane]
  rw [select_eq]

/-- The merged places after one more round, read. -/
theorem mergeI_succ (w : FVec Ideal S64x128 .f32) (ci : IVec S64x128 32) (n : ℕ) (h : Fin 64) (l : Fin 128) :
    mergeI w ci (n + 1) (ix2 h l) = if BitVec.ofNat 32 l = BitVec.ofNat 32 n
      then mtok (mkilled w n) ci (ix2 h 0) else mergeI w ci n (ix2 h l) := by
  rw [mergeI]
  pointwise [wide, lane]
  rw [select_eq]

/-! ## The results -/

/-- The maximum over all rows and lanes, read. -/
theorem gmax_apply (w : FVec Ideal S64x128 .f32) : gmax w = univ.fold max ⊥ fun p : Fin 64 × Fin 128 => w (ix2 p.1 p.2) := by
  rw [← ofBits_neg_inf]
  pointwise [gmax]

/-- The minimum over all rows and lanes, read. -/
theorem gmin_apply (w : FVec Ideal S64x128 .f32) : gmin w = univ.fold min ⊤ fun p : Fin 64 × Fin 128 => w (ix2 p.1 p.2) := by
  rw [← ofBits_pos_inf]
  pointwise [gmin]

/-- The least selected word over all rows and lanes, read. -/
theorem gminI_apply (sel : IVec S64x128 1) (x : IVec S64x128 32) :
    gminI sel x = univ.fold IntOp.minsi 2147483647#32 fun p : Fin 64 × Fin 128 =>
      if sel (ix2 p.1 p.2) = 1#1 then x (ix2 p.1 p.2) else 1073741824#32 := by
  pointwise [gminI]
  simp only [select_one]

/-- The lanes holding the maximum at the least place, read. -/
theorem gsel_apply (fl : IVec S64x128 32) (w : FVec Ideal S64x128 .f32) (h : Fin 64) (l : Fin 128) :
    gsel fl w (ix2 h l) = 1#1 ↔ w (ix2 h l) = gmax w ∧
      fl (ix2 h l) = univ.fold IntOp.minsi 2147483647#32 fun p : Fin 64 × Fin 128 =>
        if w (ix2 p.1 p.2) = gmax w then fl (ix2 p.1 p.2) else 1073741824#32 := by
  have e : ∀ p : Fin 64 × Fin 128, cmpf .oeq w (broadcast S64x128 (gmax w)) (ix2 p.1 p.2) = 1#1 ↔ w (ix2 p.1 p.2) = gmax w := by
    intro p
    pointwise []
    by_cases h : w (ix2 p.1 p.2) = gmax w <;> simp [Ideal.cmp, h]
  have h2 : ∀ a b : BitVec 1, IntOp.andi a b = 1#1 ↔ a = 1#1 ∧ b = 1#1 := by decide
  have h3 : ∀ a b : BitVec 32, IntOp.cmpi .eq a b = 1#1 ↔ a = b := by
    intro a b
    by_cases h : a = b
    · simp [IntOp.cmpi, h]
    · have e : (a == b) = false := beq_eq_false_iff_ne.2 h
      simp [IntOp.cmpi, h, e]
  have h4 := e (h, l)
  have u : gsel fl w (ix2 h l) = IntOp.andi (cmpf .oeq w (broadcast S64x128 (gmax w)) (ix2 h l))
      (IntOp.cmpi .eq (fl (ix2 h l)) (gminI (cmpf .oeq w (broadcast S64x128 (gmax w))) fl)) := by
    unfold gsel
    generalize gminI _ _ = g
    generalize gmax w = x
    rfl
  rw [u, h2, h3, h4, gminI_apply]
  simp only [e]

/-- The lanes after those are masked, read. -/
theorem gkill_apply (fl : IVec S64x128 32) (w : FVec Ideal S64x128 .f32) (h : Fin 64) (l : Fin 128) :
    gkill fl w (ix2 h l) = if gsel fl w (ix2 h l) = 1#1 then ⊥ else w (ix2 h l) := by
  pointwise [gkill]
  rw [mask_eq, select_one]

/-- The scores of the candidates, read. -/
theorem adj_apply (m s hyp cv : FVec Ideal S64x128 .f32) (h : Fin 64) (l : Fin 128) :
    adj m s hyp cv (ix2 h l) = (cv (ix2 h l) + hyp (ix2 h l)) - (m (ix2 h 0) + Ideal.log (s (ix2 h 0))) := by
  pointwise [adj]

/-- The places of the candidates, read. -/
theorem flat_apply (ci : IVec S64x128 32) (h : Fin 64) (l : Fin 128) :
    flat ci (ix2 h l) = BitVec.ofNat 32 h * 100000#32 + ci (ix2 h l) := by
  pointwise [flat, rowid]
  rfl

/-- The rows' numbers, read. -/
theorem rowid_apply (h : Fin 64) (l : Fin 128) : rowid (ix2 h l) = BitVec.ofNat 32 h := by
  pointwise [rowid]

/-- A value put at one lane, read. -/
theorem atLane_apply {α : Type} (n : ℕ) (x : α) (o : S1x128.Idx → α) (z : Fin 1) (l : Fin 128) :
    atLane n x o (ix2 z l) = if BitVec.ofNat 32 l = BitVec.ofNat 32 n then x else o (ix2 z l) := by
  pointwise [atLane]
  rw [select_eq]

/-- The hypothesis score at the selected lanes, read. -/
theorem hypAt_apply (sel : IVec S64x128 1) (hyp : FVec Ideal S64x128 .f32) :
    hypAt sel hyp = univ.fold min ⊤ fun p : Fin 64 × Fin 128 => if sel (ix2 p.1 p.2) = 1#1 then hyp (ix2 p.1 p.2) else ⊤ := by
  rw [hypAt, gmin_apply]
  congr 1
  funext p
  pointwise []
  rfl

end Cert.Proof.Beam

end
-- ==== Proof.Model.lean ====
/-
  The logits, from the program's arguments: the decoder's grouped convolution of two embedded tokens and its projection over
  the extended reals, the joiner, whose input is a hyperbolic tangent and so real, over the reals.
-/
module

public import proofs.«01_k».proof.Proof.Read

@[expose] public section

set_option maxRecDepth 16384

noncomputable section

namespace Cert.Proof.Beam

open Cert.KernelIdeal Cert.KernelIdeal.Gen
open Idealize.ShloMosaic Idealize.ShloMosaic.Pointwise
open Finset

/-- A sum of reals among the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

/-- A maximum of reals among the extended reals. -/
theorem max_coe (x y : ℝ) : max (x : EReal) (y : EReal) = ((max x y : ℝ) : EReal) := (EReal.coe_strictMono.monotone.map_max).symm

/-- The arguments: the hypotheses' scores and the joiner's weights real, the other floats any. -/
structure Args where
  x0 : S64x2.Idx → BitVec 32
  x1 : S64x512.Idx → EReal
  r2 : S64x1.Idx → ℝ
  x3 : S100000x512.Idx → EReal
  x4 : S512x4x2.Idx → EReal
  x5 : S512x512.Idx → EReal
  x6 : S512.Idx → EReal
  r7 : S100000x512.Idx → ℝ
  r8 : S100000.Idx → ℝ
  lt : ∀ k, (x0 k).toNat < 100000

namespace Args
variable (A : Args)

/-- The embedding of the `k`-th token of hypothesis `h`. -/
def emb (h : Fin 64) (k : Fin 2) (a : Fin 512) : EReal := A.x3 (ix2 ⟨(A.x0 (ix2 h k)).toNat, A.lt _⟩ a)

/-- The channel numbered `i` of the group `q` is in. -/
def chan (q : Fin 512) (i : Fin 4) : Fin 512 := ⟨q.val / 4 * 4 + i.val, by omega⟩

/-- The decoder's output. -/
def dec (h : Fin 64) (q : Fin 512) : EReal := max (∑ i : Fin 4, ∑ k : Fin 2, A.emb h k (chan q i) * A.x4 (ix3 q i k)) 0

/-- The joint state's argument. -/
def pre (h : Fin 64) (j : Fin 512) : EReal := A.x1 (ix2 h j) + ((∑ q : Fin 512, A.dec h q * A.x5 (ix2 j q)) + A.x6 (ix1 j))

/-- The joint state, a hyperbolic tangent. -/
def jnt (h : Fin 64) (j : Fin 512) : ℝ := (Ideal.tanh (A.pre h j)).toReal

/-- A hyperbolic tangent is real, at the infinities as well. -/
theorem tanh_real (x : EReal) : ((Ideal.tanh x).toReal : EReal) = Ideal.tanh x := by
  induction x with
  | bot => rfl
  | coe r => rfl
  | top => rfl

/-- The joint state as an extended real. -/
theorem jnt_coe (h : Fin 64) (j : Fin 512) : (A.jnt h j : EReal) = Ideal.tanh (A.pre h j) := tanh_real _

/-- The logits. -/
def lgt (h : Fin 64) (c : Fin 100000) : ℝ := (∑ j : Fin 512, A.jnt h j * A.r7 (ix2 c j)) + A.r8 (ix1 c)

/-- The logits by a column's number. -/
def L (h : Fin 64) (c : ℕ) : ℝ := if hc : c < 100000 then A.lgt h ⟨c, hc⟩ else 0

/-- The logits by number, at a column. -/
theorem L_eq (h : Fin 64) (c : Fin 100000) : A.L h c.val = A.lgt h c := dif_pos c.isLt

/-- The hypotheses' scores. -/
def H (h : Fin 64) : ℝ := A.r2 (ix2 h 0)

/-- A sum over all the channels with a block-diagonal weight runs over one group. -/
theorem sum_group (f : Fin 512 → EReal) (q : Fin 512) :
    ∑ a : Fin 512, f a * (if a.val / 4 = q.val / 4 then 1 else 0) = ∑ i : Fin 4, f (chan q i) := by
  simp only [mul_ite, mul_one, mul_zero]
  rw [← sum_filter]
  refine sum_bij' (fun a _ => (⟨a.val % 4, by omega⟩ : Fin 4)) (fun i _ => chan q i) (fun _ _ => mem_univ _) (fun i _ => ?_) (fun a ha => ?_)
    (fun i _ => ?_) (fun a ha => ?_)
  · simp only [mem_filter, mem_univ, true_and, chan]
    omega
  · simp only [mem_filter, mem_univ, true_and] at ha
    refine Fin.ext ?_
    show q.val / 4 * 4 + a.val % 4 = a.val
    omega
  · refine Fin.ext ?_
    show (q.val / 4 * 4 + i.val) % 4 = i.val
    omega
  · simp only [mem_filter, mem_univ, true_and] at ha
    congr 1
    refine Fin.ext ?_
    show a.val = q.val / 4 * 4 + a.val % 4
    omega

/-- The decoder's output by the two block-diagonal products. -/
theorem dec_eq (h : Fin 64) (q : Fin 512) :
    max ((∑ a : Fin 512, A.emb h 0 a * (A.x4 (ix3 ⟨a.val / 4 * 4 + q.val % 4, by omega⟩ ⟨a.val % 4, by omega⟩ 0) * (if a.val / 4 = q.val / 4 then 1 else 0)))
      + ∑ a : Fin 512, A.emb h 1 a * (A.x4 (ix3 ⟨a.val / 4 * 4 + q.val % 4, by omega⟩ ⟨a.val % 4, by omega⟩ 1) * (if a.val / 4 = q.val / 4 then 1 else 0))) 0
      = A.dec h q := by
  unfold dec
  congr 1
  simp only [← mul_assoc]
  rw [sum_group (fun a => A.emb h 0 a * A.x4 (ix3 ⟨a.val / 4 * 4 + q.val % 4, by omega⟩ ⟨a.val % 4, by omega⟩ 0)),
    sum_group (fun a => A.emb h 1 a * A.x4 (ix3 ⟨a.val / 4 * 4 + q.val % 4, by omega⟩ ⟨a.val % 4, by omega⟩ 1)), ← sum_add_distrib]
  refine sum_congr rfl fun i _ => ?_
  have e1 : (⟨(chan q i).val / 4 * 4 + q.val % 4, by omega⟩ : Fin 512) = q := Fin.ext (by show (q.val / 4 * 4 + i.val) / 4 * 4 + q.val % 4 = q.val; omega)
  have e2 : (⟨(chan q i).val % 4, by omega⟩ : Fin 4) = i := Fin.ext (by show (q.val / 4 * 4 + i.val) % 4 = i.val; omega)
  rw [Fin.sum_univ_two, e1, e2]

end Args

end Cert.Proof.Beam

end
-- ==== Proof.Logit.lean ====
/-
  The joint state and a block of logits over the extended reals, read at an index.
-/
module

public import proofs.«01_k».proof.Proof.Read
public import proofs.«01_k».proof.Proof.Run
public import proofs.«01_k».proof.Proof.Model

@[expose] public section

set_option maxRecDepth 16384

noncomputable section

namespace Cert.Proof.Beam

open Cert.KernelIdeal Cert.KernelIdeal.Gen
open Idealize.ShloMosaic Idealize.ShloMosaic.Pointwise
open Finset

/-- A block of logits at a row and a column: the products with the joint state, summed, and the bias. -/
theorem pay4_apply (J : FVec Ideal S64x512 .f32) (w : FVec Ideal S5000x512 .f32) (b : FVec Ideal S1x5000x1 .f32) (h : Fin 64) (c : Fin 5000) :
    k1_pay4 (F := Ideal) J w b (ix3 0 h c) = (∑ k : Fin 512, J (ix2 h k) * w (ix2 c k)) + b (ix3 0 c 0) := by
  pointwise [k1_pay4]
  rw [Fin.sum_univ_one]

/-- The one entry of a unit axis. -/
theorem unit_val {s : Shape} (off size : Fin s.rank → ℕ) (inb) (j : (Rect.unit off size inb).shape.Idx) (a : Fin s.rank) :
    ((Rect.unit off size inb).emb j a : ℕ) = off a + j a := by
  rw [Rect.emb_apply]
  show off a + 1 * (j a : ℕ) = _
  omega

/-- The upper half of the gathered rows. -/
theorem top_apply (e : FVec Ideal S128x512 .f32) (h : Fin 64) (a : Fin 512) :
    VecWindow.window (s := S128x512) e ![0, 0] S64x512.size inb_S128x512_S64x512_0_0 (ix2 h a) = e (ix2 ⟨h.val, by omega⟩ a) := by
  show e _ = _
  congr 1
  funext d
  match d with
  | 0 => exact Fin.ext ((unit_val _ _ _ _ _).trans (Nat.zero_add _))
  | 1 => exact Fin.ext ((unit_val _ _ _ _ _).trans (Nat.zero_add _))

/-- The lower half of the gathered rows. -/
theorem bottom_apply (e : FVec Ideal S128x512 .f32) (h : Fin 64) (a : Fin 512) :
    VecWindow.window (s := S128x512) e ![64, 0] S64x512.size inb_S128x512_S64x512_64_0 (ix2 h a) = e (ix2 ⟨64 + h.val, by omega⟩ a) := by
  show e _ = _
  congr 1
  funext d
  match d with
  | 0 => exact Fin.ext (unit_val _ _ _ _ _)
  | 1 => exact Fin.ext ((unit_val _ _ _ _ _).trans (Nat.zero_add _))

/-- The joint state at a row and a channel. -/
theorem pay15_apply (e0 e1 : FVec Ideal S64x512 .f32) (m0 m1 wq : FVec Ideal S512x512 .f32) (enc : FVec Ideal S64x512 .f32) (bp : FVec Ideal S1x512 .f32)
    (h : Fin 64) (j : Fin 512) :
    k1_pay15 (F := Ideal) e0 e1 m0 m1 wq enc bp (ix2 h j) =
      Ideal.tanh ((enc (ix2 h j) + ∑ q : Fin 512, max ((∑ a : Fin 512, e0 (ix2 h a) * m0 (ix2 a q)) + ∑ a : Fin 512, e1 (ix2 h a) * m1 (ix2 a q)) 0
        * wq (ix2 j q)) + bp (ix2 0 j)) := by
  pointwise [k1_pay15]

/-! ## What the windows read -/

section
variable (V : Valuation τ sig (Elt Ideal))

/-- At every point this operand's window is the whole array. -/
theorem winE_eq (t : Fin cfg1.N) : winE V t = V (Proc.devRef .tc main_v27) := by
  have idx : ∀ a : Fin 2, (cfg1.win 0).index t a = 0 := fun a => by
    match a with
    | 0 => rfl
    | 1 => rfl
  funext x
  show V (Proc.devRef .tc main_v27) (((cfg1.win 0).rect t).emb x) = V (Proc.devRef .tc main_v27) x
  congr 1
  exact funext fun a => Fin.ext (Pipeline.Window.rect_emb_val_of_index_zero _ _ _ (idx a) x)
/-- At every point this operand's window is the whole array. -/
theorem winEnc_eq (t : Fin cfg1.N) : winEnc V t = V (Proc.devRef .tc main_arg1) := by
  have idx : ∀ a : Fin 2, (cfg1.win 1).index t a = 0 := fun a => by
    match a with
    | 0 => rfl
    | 1 => rfl
  funext x
  show V (Proc.devRef .tc main_arg1) (((cfg1.win 1).rect t).emb x) = V (Proc.devRef .tc main_arg1) x
  congr 1
  exact funext fun a => Fin.ext (Pipeline.Window.rect_emb_val_of_index_zero _ _ _ (idx a) x)
/-- At every point this operand's window is the whole array. -/
theorem winHyp_eq (t : Fin cfg1.N) : winHyp V t = V (Proc.devRef .tc main_v28) := by
  have idx : ∀ a : Fin 2, (cfg1.win 2).index t a = 0 := fun a => by
    match a with
    | 0 => rfl
    | 1 => rfl
  funext x
  show V (Proc.devRef .tc main_v28) (((cfg1.win 2).rect t).emb x) = V (Proc.devRef .tc main_v28) x
  congr 1
  exact funext fun a => Fin.ext (Pipeline.Window.rect_emb_val_of_index_zero _ _ _ (idx a) x)
/-- At every point this operand's window is the whole array. -/
theorem winM0_eq (t : Fin cfg1.N) : winM0 V t = V (Proc.devRef .tc main_v15) := by
  have idx : ∀ a : Fin 2, (cfg1.win 3).index t a = 0 := fun a => by
    match a with
    | 0 => rfl
    | 1 => rfl
  funext x
  show V (Proc.devRef .tc main_v15) (((cfg1.win 3).rect t).emb x) = V (Proc.devRef .tc main_v15) x
  congr 1
  exact funext fun a => Fin.ext (Pipeline.Window.rect_emb_val_of_index_zero _ _ _ (idx a) x)
/-- At every point this operand's window is the whole array. -/
theorem winM1_eq (t : Fin cfg1.N) : winM1 V t = V (Proc.devRef .tc main_v24) := by
  have idx : ∀ a : Fin 2, (cfg1.win 4).index t a = 0 := fun a => by
    match a with
    | 0 => rfl
    | 1 => rfl
  funext x
  show V (Proc.devRef .tc main_v24) (((cfg1.win 4).rect t).emb x) = V (Proc.devRef .tc main_v24) x
  congr 1
  exact funext fun a => Fin.ext (Pipeline.Window.rect_emb_val_of_index_zero _ _ _ (idx a) x)
/-- At every point this operand's window is the whole array. -/
theorem winWq_eq (t : Fin cfg1.N) : winWq V t = V (Proc.devRef .tc main_arg5) := by
  have idx : ∀ a : Fin 2, (cfg1.win 5).index t a = 0 := fun a => by
    match a with
    | 0 => rfl
    | 1 => rfl
  funext x
  show V (Proc.devRef .tc main_arg5) (((cfg1.win 5).rect t).emb x) = V (Proc.devRef .tc main_arg5) x
  congr 1
  exact funext fun a => Fin.ext (Pipeline.Window.rect_emb_val_of_index_zero _ _ _ (idx a) x)
/-- At every point this operand's window is the whole array. -/
theorem winBp_eq (t : Fin cfg1.N) : winBp V t = V (Proc.devRef .tc main_v29) := by
  have idx : ∀ a : Fin 2, (cfg1.win 6).index t a = 0 := fun a => by
    match a with
    | 0 => rfl
    | 1 => rfl
  funext x
  show V (Proc.devRef .tc main_v29) (((cfg1.win 6).rect t).emb x) = V (Proc.devRef .tc main_v29) x
  congr 1
  exact funext fun a => Fin.ext (Pipeline.Window.rect_emb_val_of_index_zero _ _ _ (idx a) x)

/-- The block of the joiner's weights a point fetches. -/
theorem idx_7 : ∀ t : Fin cfg1.N, t.val < 20 → (cfg1.win 7).index t 0 = t.val ∧ (cfg1.win 7).index t 1 = 0 := by decide +kernel
/-- The block of the joiner's biases a point fetches. -/
theorem idx_8 : ∀ t : Fin cfg1.N, t.val < 20 → (cfg1.win 8).index t 0 = t.val ∧ (cfg1.win 8).index t 1 = 0 ∧ (cfg1.win 8).index t 2 = 0 := by decide +kernel

/-- The fetched block of the joiner's weights, read. -/
theorem winWj_apply (n : ℕ) (hn : n < grid1.N) (h20 : n < 20) (c : Fin 5000) (k : Fin 512) :
    winWj V ⟨n, hn⟩ (ix2 c k) = V (Proc.devRef .tc main_arg7) (ix2 ⟨5000 * n + c.val, by omega⟩ k) := by
  obtain ⟨e0, e1⟩ := idx_7 ⟨n, hn⟩ h20
  show V (Proc.devRef .tc main_arg7) (((cfg1.win 7).rect ⟨n, hn⟩).emb (ix2 c k)) = _
  congr 1
  funext a
  match a with
  | 0 =>
    refine Fin.ext ((Pipeline.Window.rect_emb_val _ _ _ _).trans ?_)
    rw [e0]
    show n * 5000 + c.val = 5000 * n + c.val
    omega
  | 1 =>
    refine Fin.ext ((Pipeline.Window.rect_emb_val _ _ _ _).trans ?_)
    rw [e1]
    show 0 * 512 + k.val = k.val
    omega

/-- The fetched block of the joiner's biases, read. -/
theorem winBj_apply (n : ℕ) (hn : n < grid1.N) (h20 : n < 20) (c : Fin 5000) :
    winBj V ⟨n, hn⟩ (ix3 0 c 0) = V (Proc.devRef .tc main_v30) (ix3 ⟨n, h20⟩ c 0) := by
  obtain ⟨e0, e1, e2⟩ := idx_8 ⟨n, hn⟩ h20
  show V (Proc.devRef .tc main_v30) (((cfg1.win 8).rect ⟨n, hn⟩).emb (ix3 0 c 0)) = _
  congr 1
  funext a
  match a with
  | 0 =>
    refine Fin.ext ((Pipeline.Window.rect_emb_val _ _ _ _).trans ?_)
    rw [e0]
    show n * 1 + 0 = n
    omega
  | 1 =>
    refine Fin.ext ((Pipeline.Window.rect_emb_val _ _ _ _).trans ?_)
    rw [e1]
    show 0 * 5000 + c.val = c.val
    omega
  | 2 =>
    refine Fin.ext ((Pipeline.Window.rect_emb_val _ _ _ _).trans ?_)
    rw [e2]
    rfl

end

/-! ## What the host prepares -/

section
variable (m : (ℓ : Loc nD τ sig) → Buf (Elt Ideal) ℓ) (hr : InRange m) (d : Dev nD)

/-- The arguments. -/
abbrev in0 : S64x2.Idx → BitVec 32 := m ((SparseCore.T d).loc main_arg0)
/-- The argument of this number. -/
abbrev in1 : S64x512.Idx → EReal := m ((SparseCore.T d).loc main_arg1)
/-- The argument of this number. -/
abbrev in2 : S64x1.Idx → EReal := m ((SparseCore.T d).loc main_arg2)
/-- The argument of this number. -/
abbrev in3 : S100000x512.Idx → EReal := m ((SparseCore.T d).loc main_arg3)
/-- The argument of this number. -/
abbrev in4 : S512x4x2.Idx → EReal := m ((SparseCore.T d).loc main_arg4)
/-- The argument of this number. -/
abbrev in5 : S512x512.Idx → EReal := m ((SparseCore.T d).loc main_arg5)
/-- The argument of this number. -/
abbrev in6 : S512.Idx → EReal := m ((SparseCore.T d).loc main_arg6)
/-- The argument of this number. -/
abbrev in7 : S100000x512.Idx → EReal := m ((SparseCore.T d).loc main_arg7)
/-- The argument of this number. -/
abbrev in8 : S100000.Idx → EReal := m ((SparseCore.T d).loc main_arg8)

/-- The host operations leave this argument as it was. -/
theorem V3_arg1 : V3 m hr d (Proc.devRef .tc main_arg1) = m ((SparseCore.T d).loc main_arg1) := by
  have h2 : V2 m hr d (Proc.devRef .tc main_arg1) = V1 m d (Proc.devRef .tc main_arg1) := Function.update_of_ne (by decide) _ _
  have h3 : V3 m hr d (Proc.devRef .tc main_arg1) = V2 m hr d (Proc.devRef .tc main_arg1) := by
    unfold V3 ops2; after_results
  rw [h3, h2]
  unfold V1 ops1
  after_results
/-- The host operations leave this argument as it was. -/
theorem V3_arg5 : V3 m hr d (Proc.devRef .tc main_arg5) = m ((SparseCore.T d).loc main_arg5) := by
  have h2 : V2 m hr d (Proc.devRef .tc main_arg5) = V1 m d (Proc.devRef .tc main_arg5) := Function.update_of_ne (by decide) _ _
  have h3 : V3 m hr d (Proc.devRef .tc main_arg5) = V2 m hr d (Proc.devRef .tc main_arg5) := by
    unfold V3 ops2; after_results
  rw [h3, h2]
  unfold V1 ops1
  after_results
/-- The host operations leave this argument as it was. -/
theorem V3_arg7 : V3 m hr d (Proc.devRef .tc main_arg7) = m ((SparseCore.T d).loc main_arg7) := by
  have h2 : V2 m hr d (Proc.devRef .tc main_arg7) = V1 m d (Proc.devRef .tc main_arg7) := Function.update_of_ne (by decide) _ _
  have h3 : V3 m hr d (Proc.devRef .tc main_arg7) = V2 m hr d (Proc.devRef .tc main_arg7) := by
    unfold V3 ops2; after_results
  rw [h3, h2]
  unfold V1 ops1
  after_results

/-- The identity matrix the host makes, read. -/
theorem eye_eq (x y : ℕ) (hx : x < 128) (hy : y < 128) :
    (FloatOps.uitofp FTy.f32 (IntOp.cmpi CmpIPredicate.eq (IntOp.addi (BitVec.ofNat 32 x) 0#32) (BitVec.ofNat 32 y)) : Ideal .f32)
      = (((if x = y then 1 else 0 : ℝ)) : EReal) := by
  have e : IntOp.addi (BitVec.ofNat 32 x) 0#32 = BitVec.ofNat 32 x := BitVec.add_zero _
  rw [e]
  by_cases h : x = y
  · subst h
    rw [if_pos rfl]
    have e1 : IntOp.cmpi CmpIPredicate.eq (BitVec.ofNat 32 x) (BitVec.ofNat 32 x) = 1#1 := by simp [IntOp.cmpi]
    rw [e1]
    show (((1#1 : BitVec 1).toNat : ℝ) : EReal) = _
    norm_num
  · have h' : (BitVec.ofNat 32 x == BitVec.ofNat 32 y) = false := beq_eq_false_iff_ne.2 fun e => by
      have := congrArg BitVec.toNat e
      rw [BitVec.toNat_ofNat, BitVec.toNat_ofNat] at this
      omega
    rw [if_neg h]
    have e1 : IntOp.cmpi CmpIPredicate.eq (BitVec.ofNat 32 x) (BitVec.ofNat 32 y) = 0#1 := by simp [IntOp.cmpi, h']
    rw [e1]
    show (((0#1 : BitVec 1).toNat : ℝ) : EReal) = _
    norm_num

/-- The block-diagonal weights of the first token. -/
theorem V3_m0 (a q : Fin 512) : (V3 m hr d (Proc.devRef .tc main_v15) (ix2 a q) : EReal) =
    in4 m d (ix3 ⟨a.val / 4 * 4 + q.val % 4, by omega⟩ ⟨a.val % 4, by omega⟩ 0)
      * (((if a.val / 4 = q.val / 4 then 1 else 0 : ℝ)) : EReal) := by
  have h2 : V2 m hr d (Proc.devRef .tc main_v15) = V1 m d (Proc.devRef .tc main_v15) := Function.update_of_ne (by decide) _ _
  have h3 : V3 m hr d (Proc.devRef .tc main_v15) = V2 m hr d (Proc.devRef .tc main_v15) := by
    unfold V3 ops2; after_results
  rw [h3, h2, ← eye_eq _ _ (by omega) (by omega)]
  unfold V1 ops1
  after_results
  pointwise []
/-- The block-diagonal weights of the second token. -/
theorem V3_m1 (a q : Fin 512) : (V3 m hr d (Proc.devRef .tc main_v24) (ix2 a q) : EReal) =
    in4 m d (ix3 ⟨a.val / 4 * 4 + q.val % 4, by omega⟩ ⟨a.val % 4, by omega⟩ 1)
      * (((if a.val / 4 = q.val / 4 then 1 else 0 : ℝ)) : EReal) := by
  have h2 : V2 m hr d (Proc.devRef .tc main_v24) = V1 m d (Proc.devRef .tc main_v24) := Function.update_of_ne (by decide) _ _
  have h3 : V3 m hr d (Proc.devRef .tc main_v24) = V2 m hr d (Proc.devRef .tc main_v24) := by
    unfold V3 ops2; after_results
  rw [h3, h2, ← eye_eq _ _ (by omega) (by omega)]
  unfold V1 ops1
  after_results
  pointwise []

/-- A gathered row at an index. -/
theorem rows_at (ids : S128.Idx → BitVec 32) (E E' : S100000x512.Idx → EReal) (hids : ∀ j, (ids j).toNat < 100000) (r : Fin 128) (a : Fin 512)
    (w : BitVec 32) (hE : E = E') (hw : ids (ix1 r) = w) :
    (Gather.gathered (F := Ideal) ids E hids (ix2 r a) : EReal) = E' (ix2 ⟨w.toNat, hw ▸ hids _⟩ a) := by
  subst hE hw
  show E _ = E _
  congr 1
  funext x
  match x with
  | 0 =>
    refine Fin.ext (congrArg (fun j => (ids j).toNat) ?_)
    funext y
    match y with
    | 0 => rfl
  | 1 => rfl

/-- The upper gathered rows are the first tokens' embeddings. -/
theorem V3_rows0 (h : Fin 64) (a : Fin 512) : (V3 m hr d (Proc.devRef .tc main_v27) (ix2 ⟨h.val, by omega⟩ a) : EReal) =
    in3 m d (ix2 ⟨(in0 m d (ix2 h 0)).toNat, hr d _⟩ a) := by
  have h3 : V3 m hr d (Proc.devRef .tc main_v27) = V2 m hr d (Proc.devRef .tc main_v27) := by
    unfold V3 ops2; after_results
  have h2 : V2 m hr d (Proc.devRef .tc main_v27) = rows m hr d := Function.update_self _ _ _
  rw [h3, h2]
  have ha : V1 m d (Proc.devRef .tc main_arg3) = m ((SparseCore.T d).loc main_arg3) := by
    unfold V1 ops1; after_results
  have hid : V1 m d (Proc.devRef .tc main_v26) (ix1 ⟨h.val, by omega⟩) = in0 m d (ix2 h 0) := by
    rw [V1_ids]
    pointwise [idsOf]
    show in0 m d _ = in0 m d _
    congr 1
    funext x
    match x with
    | 0 => exact Fin.ext (by show (h.val) % 64 = h.val; omega)
    | 1 => exact Fin.ext (by show (h.val) / 64 = 0; omega)
  exact rows_at _ _ _ _ _ _ _ ha hid

/-- The lower gathered rows are the second tokens' embeddings. -/
theorem V3_rows1 (h : Fin 64) (a : Fin 512) : (V3 m hr d (Proc.devRef .tc main_v27) (ix2 ⟨64 + h.val, by omega⟩ a) : EReal) =
    in3 m d (ix2 ⟨(in0 m d (ix2 h 1)).toNat, hr d _⟩ a) := by
  have h3 : V3 m hr d (Proc.devRef .tc main_v27) = V2 m hr d (Proc.devRef .tc main_v27) := by
    unfold V3 ops2; after_results
  have h2 : V2 m hr d (Proc.devRef .tc main_v27) = rows m hr d := Function.update_self _ _ _
  rw [h3, h2]
  have ha : V1 m d (Proc.devRef .tc main_arg3) = m ((SparseCore.T d).loc main_arg3) := by
    unfold V1 ops1; after_results
  have hid : V1 m d (Proc.devRef .tc main_v26) (ix1 ⟨64 + h.val, by omega⟩) = in0 m d (ix2 h 1) := by
    rw [V1_ids]
    pointwise [idsOf]
    show in0 m d _ = in0 m d _
    congr 1
    funext x
    match x with
    | 0 => rfl
    | 1 => exact Fin.ext (by show (64 + h.val) / 64 = 1; omega)
  exact rows_at _ _ _ _ _ _ _ ha hid

/-- The hypotheses' scores, repeated over the lanes. -/
theorem V3_hyp (h : Fin 64) (l : Fin 128) : (V3 m hr d (Proc.devRef .tc main_v28) (ix2 h l) : EReal) = m ((SparseCore.T d).loc main_arg2) (ix2 h 0) := by
  have h2 : V2 m hr d (Proc.devRef .tc main_arg2) = V1 m d (Proc.devRef .tc main_arg2) := Function.update_of_ne (by decide) _ _
  have h1 : V1 m d (Proc.devRef .tc main_arg2) = m ((SparseCore.T d).loc main_arg2) := by
    unfold V1 ops1; after_results
  unfold V3 ops2
  after_results
  rw [h2, h1]
  pointwise []

/-- The projection's bias as a row. -/
theorem V3_bp (j : Fin 512) : (V3 m hr d (Proc.devRef .tc main_v29) (ix2 0 j) : EReal) = m ((SparseCore.T d).loc main_arg6) (ix1 j) := by
  have h2 : V2 m hr d (Proc.devRef .tc main_arg6) = V1 m d (Proc.devRef .tc main_arg6) := Function.update_of_ne (by decide) _ _
  have h1 : V1 m d (Proc.devRef .tc main_arg6) = m ((SparseCore.T d).loc main_arg6) := by
    unfold V1 ops1; after_results
  unfold V3 ops2
  after_results
  rw [h2, h1]
  pointwise []

/-- The joiner's biases by block. -/
theorem V3_bj (n : Fin 20) (c : Fin 5000) : (V3 m hr d (Proc.devRef .tc main_v30) (ix3 n c 0) : EReal) =
    m ((SparseCore.T d).loc main_arg8) (ix1 ⟨5000 * n.val + c.val, by omega⟩) := by
  have h2 : V2 m hr d (Proc.devRef .tc main_arg8) = V1 m d (Proc.devRef .tc main_arg8) := Function.update_of_ne (by decide) _ _
  have h1 : V1 m d (Proc.devRef .tc main_arg8) = m ((SparseCore.T d).loc main_arg8) := by
    unfold V1 ops1; after_results
  unfold V3 ops2
  after_results
  rw [h2, h1]
  pointwise []
  show in8 m d _ = in8 m d _
  congr 1
  funext x
  match x with
  | 0 => exact Fin.ext (by show n.val * 5000 + c.val = 5000 * n.val + c.val; omega)

/-- The arguments are those of `A`. -/
structure Is (A : Args) : Prop where
  h0 : in0 m d = A.x0
  h1 : ∀ k, in1 m d k = A.x1 k
  h2 : ∀ k, in2 m d k = (A.r2 k : EReal)
  h3 : ∀ k, in3 m d k = A.x3 k
  h4 : ∀ k, in4 m d k = A.x4 k
  h5 : ∀ k, in5 m d k = A.x5 k
  h6 : ∀ k, in6 m d k = A.x6 k
  h7 : ∀ k, in7 m d k = (A.r7 k : EReal)
  h8 : ∀ k, in8 m d k = (A.r8 k : EReal)

variable {m d} {A : Args} (I : Is m d A)
include I

/-- The first tokens' embeddings are the model's. -/
theorem rows0_real (h : Fin 64) (a : Fin 512) : (V3 m hr d (Proc.devRef .tc main_v27) (ix2 ⟨h.val, by omega⟩ a) : EReal) = A.emb h 0 a := by
  have e : in0 m d (ix2 h 0) = A.x0 (ix2 h 0) := congrFun I.h0 _
  rw [V3_rows0, I.h3]
  unfold Args.emb
  simp only [e]

/-- The second tokens' embeddings are the model's. -/
theorem rows1_real (h : Fin 64) (a : Fin 512) : (V3 m hr d (Proc.devRef .tc main_v27) (ix2 ⟨64 + h.val, by omega⟩ a) : EReal) = A.emb h 1 a := by
  have e : in0 m d (ix2 h 1) = A.x0 (ix2 h 1) := congrFun I.h0 _
  rw [V3_rows1, I.h3]
  unfold Args.emb
  simp only [e]

/-- The joint state is the model's. -/
theorem joint_real (h : Fin 64) (j : Fin 512) : (jointV (V3 m hr d) (ix2 h j) : EReal) = (A.jnt h j : EReal) := by
  have t0 : ∀ a : Fin 512, (VecWindow.window (s := S128x512) (V3 m hr d (Proc.devRef .tc main_v27)) ![0, 0] S64x512.size inb_S128x512_S64x512_0_0 (ix2 h a) : EReal) = A.emb h 0 a := fun a => by
    rw [top_apply]; exact rows0_real hr I h a
  have t1 : ∀ a : Fin 512, (VecWindow.window (s := S128x512) (V3 m hr d (Proc.devRef .tc main_v27)) ![64, 0] S64x512.size inb_S128x512_S64x512_64_0 (ix2 h a) : EReal) = A.emb h 1 a := fun a => by
    rw [bottom_apply]; exact rows1_real hr I h a
  have u0 : ∀ a q : Fin 512, (V3 m hr d (Proc.devRef .tc main_v15) (ix2 a q) : EReal) = A.x4 (ix3 ⟨a.val / 4 * 4 + q.val % 4, by omega⟩ ⟨a.val % 4, by omega⟩ 0) * (if a.val / 4 = q.val / 4 then 1 else 0) := fun a q => by
    rw [V3_m0, ← I.h4]; split_ifs <;> rfl
  have u1 : ∀ a q : Fin 512, (V3 m hr d (Proc.devRef .tc main_v24) (ix2 a q) : EReal) = A.x4 (ix3 ⟨a.val / 4 * 4 + q.val % 4, by omega⟩ ⟨a.val % 4, by omega⟩ 1) * (if a.val / 4 = q.val / 4 then 1 else 0) := fun a q => by
    rw [V3_m1, ← I.h4]; split_ifs <;> rfl
  unfold jointV joint
  rw [pay15_apply, winE_eq, winEnc_eq, winM0_eq, winM1_eq, winWq_eq, winBp_eq, V3_arg1, V3_arg5, V3_bp]
  have e5 : ∀ k, (m ((SparseCore.T d).loc main_arg5) k : EReal) = A.x5 k := I.h5
  have e1 : ∀ k, (m ((SparseCore.T d).loc main_arg1) k : EReal) = A.x1 k := I.h1
  have e6 : ∀ k, (m ((SparseCore.T d).loc main_arg6) k : EReal) = A.x6 k := I.h6
  simp only [t0, t1, u0, u1, e5, e1, e6, A.dec_eq]
  rw [A.jnt_coe, Args.pre, add_assoc]

/-- The logits the kernel makes. -/
theorem logit_real (n : ℕ) (hn : n < grid1.N) (h20 : n < 20) (h : Fin 64) (c : Fin 5000) :
    (logit (V3 m hr d) n hn (ix3 0 h c) : EReal) = (A.L h (5000 * n + c.val) : EReal) := by
  have hc : 5000 * n + c.val < 100000 := by omega
  unfold logit
  rw [pay4_apply]
  have e7 : ∀ k, (m ((SparseCore.T d).loc main_arg7) k : EReal) = (A.r7 k : EReal) := I.h7
  have e8 : ∀ k, (m ((SparseCore.T d).loc main_arg8) k : EReal) = (A.r8 k : EReal) := I.h8
  have hw : ∀ k, (winWj (V3 m hr d) ⟨n, hn⟩ (ix2 c k) : EReal) = (A.r7 (ix2 ⟨5000 * n + c.val, hc⟩ k) : EReal) := fun k => by
    rw [winWj_apply _ n hn h20, V3_arg7]; exact e7 _
  have hb : (winBj (V3 m hr d) ⟨n, hn⟩ (ix3 0 c 0) : EReal) = (A.r8 (ix1 ⟨5000 * n + c.val, hc⟩) : EReal) := by
    rw [winBj_apply _ n hn h20, V3_bj]; exact e8 _
  simp only [hw, hb, joint_real hr I, ← EReal.coe_mul, sum_coe, ← EReal.coe_add]
  rw [Args.L, dif_pos hc]
  rfl

/-- The hypotheses' scores are the model's. -/
theorem hyp_real (t : Fin cfg1.N) (h : Fin 64) (l : Fin 128) : (winHyp (V3 m hr d) t (ix2 h l) : EReal) = (A.H h : EReal) := by
  rw [winHyp_eq, V3_hyp]
  exact I.h2 _

end

end Cert.Proof.Beam
-- ==== Proof.Inv.lean ====
/-
  What the candidate lanes of a row hold after some blocks: the columns kept are the row's best, in the sense that a column not
  kept has eight better ones among the kept.
-/
module

public import proofs.«01_k».proof.Proof.Read

@[expose] public section

set_option maxRecDepth 16384

noncomputable section

namespace Cert.Proof.Beam

open Cert.Proof.Rank Finset

/-- The lanes `w`, with the columns `t`, after `b` blocks of the logits `L`, the lanes from `hi` on empty. -/
structure Inv (L : ℕ → ℝ) (b hi : ℕ) (w : Fin 128 → EReal) (t : Fin 128 → ℕ) : Prop where
  occ : ∀ l, w l ≠ ⊥ → t l < 5000 * b ∧ w l = (L (t l) : EReal)
  below : ∀ l, w l ≠ ⊥ → l.val < hi
  ord : ∀ l l' : Fin 128, l < l' → w l ≠ ⊥ → w l' ≠ ⊥ → w l = w l' → t l < t l'
  inj : ∀ l l', w l ≠ ⊥ → w l' ≠ ⊥ → t l = t l' → l = l'
  dom : ∀ c < 5000 * b, (∃ l, w l ≠ ⊥ ∧ t l = c)
    ∨ ∃ S : Finset (Fin 128), 8 ≤ S.card ∧ ∀ l ∈ S, w l ≠ ⊥ ∧ Better (fun c => (L c : EReal)) id (t l) c
  many : 0 < b → 8 ≤ (univ.filter fun l => w l ≠ ⊥).card

namespace Inv
variable {L : ℕ → ℝ} {b hi : ℕ} {w : Fin 128 → EReal} {t : Fin 128 → ℕ}

/-- Before any block every lane is empty. -/
theorem zero (L : ℕ → ℝ) (hi : ℕ) (w : Fin 128 → EReal) (t : Fin 128 → ℕ) (h : ∀ l, w l = ⊥) : Inv L 0 hi w t :=
  ⟨fun l hl => absurd (h l) hl, fun l hl => absurd (h l) hl, fun l _ _ hl => absurd (h l) hl, fun l _ hl => absurd (h l) hl,
    fun c hc => absurd hc (by omega), fun h => absurd h (by omega)⟩

/-- The eight lanes from `hi` on. -/
theorem eight (hhi : hi + 8 ≤ 128) : 8 ≤ (univ.filter fun l : Fin 128 => hi ≤ l.val ∧ l.val < hi + 8).card := by
  have : ((range 8).attach.image fun n => (⟨hi + n.1, by have := mem_range.1 n.2; omega⟩ : Fin 128)) ⊆
      univ.filter fun l : Fin 128 => hi ≤ l.val ∧ l.val < hi + 8 := by
    intro l hl
    obtain ⟨n, _, rfl⟩ := mem_image.1 hl
    have := mem_range.1 n.2
    simp only [mem_filter, mem_univ, true_and]
    omega
  refine le_trans ?_ (card_le_card this)
  rw [card_image_of_injective, card_attach, card_range]
  intro a b' e
  have : hi + a.1 = hi + b'.1 := congrArg Fin.val e
  exact Subtype.ext (by omega)

/-- Eight picks of the next block written in the lanes from `hi` on. -/
theorem add (I : Inv L b hi w t) {W : ℕ → Fin 5000 → EReal} {p : ℕ → Fin 5000} (R : Rounds W p (fun c => c.val) 8)
    (hW : ∀ c, W 0 c = (L (5000 * b + c.val) : EReal)) (hhi : hi + 8 ≤ 128) (w' : Fin 128 → EReal) (t' : Fin 128 → ℕ)
    (hin : ∀ l : Fin 128, hi ≤ l.val → l.val < hi + 8 → w' l = W 0 (p (l.val - hi)) ∧ t' l = 5000 * b + (p (l.val - hi)).val)
    (hout : ∀ l : Fin 128, ¬ (hi ≤ l.val ∧ l.val < hi + 8) → w' l = w l ∧ t' l = t l) : Inv L (b + 1) (hi + 8) w' t' := by
  classical
  have old : ∀ l, w l ≠ ⊥ → w' l = w l ∧ t' l = t l := fun l hl => hout l fun h => by have := I.below l hl; omega
  have new : ∀ l : Fin 128, hi ≤ l.val → l.val < hi + 8 → w' l = (L (t' l) : EReal) ∧ 5000 * b ≤ t' l ∧ t' l < 5000 * (b + 1) := by
    intro l h1 h2
    obtain ⟨e1, e2⟩ := hin l h1 h2
    have := (p (l.val - hi)).isLt
    refine ⟨by rw [e1, e2, hW], by omega, by omega⟩
  have cases : ∀ l, w' l ≠ ⊥ → (hi ≤ l.val ∧ l.val < hi + 8) ∨ (w l ≠ ⊥ ∧ w' l = w l ∧ t' l = t l) := by
    intro l hl
    by_cases h : hi ≤ l.val ∧ l.val < hi + 8
    · exact .inl h
    · obtain ⟨e1, e2⟩ := hout l h
      exact .inr ⟨e1 ▸ hl, e1, e2⟩
  have ne : ∀ l : Fin 128, hi ≤ l.val → l.val < hi + 8 → w' l ≠ ⊥ := fun l h1 h2 => by
    rw [(new l h1 h2).1]; exact EReal.coe_ne_bot _
  refine ⟨fun l hl => ?_, fun l hl => ?_, fun l l' hll hl hl' e => ?_, fun l l' hl hl' e => ?_, fun c hc => ?_, fun _ => ?_⟩
  · rcases cases l hl with ⟨h1, h2⟩ | ⟨h, e1, e2⟩
    · exact ⟨(new l h1 h2).2.2, (new l h1 h2).1⟩
    · obtain ⟨a, b'⟩ := I.occ l h
      exact ⟨by omega, by rw [e1, e2, b']⟩
  · rcases cases l hl with ⟨h1, h2⟩ | ⟨h, e1, e2⟩
    · exact h2
    · have := I.below l h; omega
  · have hll' : l.val < l'.val := hll
    rcases cases l hl with ⟨h1, h2⟩ | ⟨h, e1, e2⟩ <;> rcases cases l' hl' with ⟨h1', h2'⟩ | ⟨h', e1', e2'⟩
    · obtain ⟨a1, a2⟩ := hin l h1 h2
      obtain ⟨b1, b2⟩ := hin l' h1' h2'
      rcases R.order (show l.val - hi < l'.val - hi by omega) (show l'.val - hi < 8 by omega) with g | ⟨_, g⟩
      · rw [a1, b1] at e
        exact absurd e (ne_of_gt g)
      · have : (p (l.val - hi)).val < (p (l'.val - hi)).val := g
        omega
    · have := I.below l' h'; omega
    · have := (new l' h1' h2').2.1
      have := (I.occ l h).1
      omega
    · rw [e2, e2']
      exact I.ord l l' hll h h' (by rw [← e1, ← e1', e])
  · rcases cases l hl with ⟨h1, h2⟩ | ⟨h, e1, e2⟩ <;> rcases cases l' hl' with ⟨h1', h2'⟩ | ⟨h', e1', e2'⟩
    · obtain ⟨a1, a2⟩ := hin l h1 h2
      obtain ⟨b1, b2⟩ := hin l' h1' h2'
      have := R.inj (show l.val - hi < 8 by omega) (show l'.val - hi < 8 by omega) (Fin.ext (by omega))
      exact Fin.ext (by omega)
    · have := (new l h1 h2).2.1
      have := (I.occ l' h').1
      omega
    · have := (new l' h1' h2').2.1
      have := (I.occ l h).1
      omega
    · exact I.inj l l' h h' (by omega)
  · by_cases hb : c < 5000 * b
    · rcases I.dom c hb with ⟨l, h, e⟩ | ⟨S, hS, h⟩
      · obtain ⟨a1, a2⟩ := old l h
        exact .inl ⟨l, a1 ▸ h, a2.trans e⟩
      · refine .inr ⟨S, hS, fun l hl => ?_⟩
        obtain ⟨h1, h2⟩ := h l hl
        obtain ⟨a1, a2⟩ := old l h1
        exact ⟨a1 ▸ h1, a2 ▸ h2⟩
    · have hc' : c - 5000 * b < 5000 := by omega
      by_cases hp : ∃ n < 8, p n = ⟨c - 5000 * b, hc'⟩
      · obtain ⟨n, hn, e⟩ := hp
        have h1 : hi ≤ (⟨hi + n, by omega⟩ : Fin 128).val := by simp
        have h2 : (⟨hi + n, by omega⟩ : Fin 128).val < hi + 8 := by simp; omega
        refine .inl ⟨⟨hi + n, by omega⟩, ne _ h1 h2, ?_⟩
        rw [(hin _ h1 h2).2]
        have : hi + n - hi = n := by omega
        simp only [this, e]
        omega
      · push Not at hp
        refine .inr ⟨_, eight hhi, fun l hl => ?_⟩
        simp only [mem_filter, mem_univ, true_and] at hl
        obtain ⟨h1, h2⟩ := hl
        refine ⟨ne l h1 h2, ?_⟩
        obtain ⟨a1, a2⟩ := hin l h1 h2
        have hx := R.worse hp (show l.val - hi < 8 by omega)
        unfold Better at hx ⊢
        rw [hW, hW, show 5000 * b + (c - 5000 * b) = c by omega, ← a2] at hx
        rcases hx with hx | ⟨hx, hy⟩
        · exact .inl hx
        · refine .inr ⟨hx, ?_⟩
          have : (p (l.val - hi)).val < c - 5000 * b := hy
          simp only [id]
          omega
  · refine (eight hhi).trans (card_le_card fun l hl => ?_)
    simp only [mem_filter, mem_univ, true_and] at hl ⊢
    exact ne l hl.1 hl.2

/-- The eight best lanes kept, in the lanes `0 … 7`. -/
theorem merge (I : Inv L b hi w t) {W : ℕ → Fin 128 → EReal} {p : ℕ → Fin 128} (R : Rounds W p (fun c => c.val) 8)
    (hW : ∀ c, W 0 c = w c) (w' : Fin 128 → EReal) (t' : Fin 128 → ℕ)
    (hin : ∀ l : Fin 128, l.val < 8 → w' l = w (p l.val) ∧ t' l = t (p l.val)) (hout : ∀ l : Fin 128, 8 ≤ l.val → w' l = ⊥) : Inv L b 8 w' t' := by
  classical
  have low : ∀ l, w' l ≠ ⊥ → l.val < 8 := fun l hl => by
    by_contra h
    exact hl (hout l (by omega))
  have hW' : W 0 = w := funext hW
  have pn : ∀ n < 8, w (p n) ≠ ⊥ := fun n hn => hW' ▸ R.value_ne n hn
  have ne : ∀ l : Fin 128, l.val < 8 → w' l ≠ ⊥ := fun l hl => by rw [(hin l hl).1]; exact pn _ hl
  have up : ∀ i j, w j ≠ ⊥ → Better w (fun c => c.val) i j → w i ≠ ⊥ ∧ Better (fun c => (L c : EReal)) id (t i) (t j) := by
    intro i j hj h
    have hi : w i ≠ ⊥ := by
      rcases h with h | ⟨h, _⟩
      · exact ne_bot_of_gt h
      · exact h ▸ hj
    refine ⟨hi, ?_⟩
    rcases h with h | ⟨h, h'⟩
    · left
      show (L (t j) : EReal) < (L (t i) : EReal)
      rw [← (I.occ i hi).2, ← (I.occ j hj).2]; exact h
    · right
      refine ⟨?_, I.ord i j h' hi hj h⟩
      show (L (t i) : EReal) = (L (t j) : EReal)
      rw [← (I.occ i hi).2, ← (I.occ j hj).2]; exact h
  have wrap : ∀ S : Finset (Fin 128), ∀ c, 8 ≤ S.card → (∀ l ∈ S, w l ≠ ⊥ ∧ Better (fun c => (L c : EReal)) id (t l) c) →
      ∀ n < 8, Better (fun c => (L c : EReal)) id (t (p n)) c := by
    intro S c hS h n hn
    refine (R.dominate (fun l => w l ≠ ⊥ ∧ Better (fun c => (L c : EReal)) id (t l) c) S hS h (fun n hn i hb hi => ?_) n hn).2
    rw [hW'] at hb
    obtain ⟨h1, h2⟩ := up _ _ hi.1 hb
    exact ⟨h1, h2.trans hi.2⟩
  have res : ∀ c, (∀ n < 8, Better (fun c => (L c : EReal)) id (t (p n)) c) →
      ∃ S : Finset (Fin 128), 8 ≤ S.card ∧ ∀ l ∈ S, w' l ≠ ⊥ ∧ Better (fun c => (L c : EReal)) id (t' l) c := by
    intro c h
    refine ⟨_, eight (hi := 0) (by omega), fun l hl => ?_⟩
    simp only [mem_filter, mem_univ, true_and] at hl
    have hl8 : l.val < 8 := by omega
    exact ⟨ne l hl8, (hin l hl8).2 ▸ h _ hl8⟩
  refine ⟨fun l hl => ?_, low, fun l l' hll hl hl' e => ?_, fun l l' hl hl' e => ?_, fun c hc => ?_, fun _ => ?_⟩
  · obtain ⟨a1, a2⟩ := hin l (low l hl)
    rw [a1, a2]
    exact I.occ _ (pn _ (low l hl))
  · obtain ⟨a1, a2⟩ := hin l (low l hl)
    obtain ⟨b1, b2⟩ := hin l' (low l' hl')
    rw [a2, b2]
    rw [a1, b1] at e
    have hx := R.order (show l.val < l'.val from hll) (low l' hl')
    rw [hW'] at hx
    rcases hx with g | ⟨_, g⟩
    · exact absurd e (ne_of_gt g)
    · exact I.ord _ _ g (pn _ (low l hl)) (pn _ (low l' hl')) e
  · obtain ⟨a1, a2⟩ := hin l (low l hl)
    obtain ⟨b1, b2⟩ := hin l' (low l' hl')
    exact Fin.ext (R.inj (low l hl) (low l' hl') (I.inj _ _ (pn _ (low l hl)) (pn _ (low l' hl')) (by omega)))
  · rcases I.dom c hc with ⟨l, h, e⟩ | ⟨S, hS, h⟩
    · by_cases hp : ∃ n < 8, p n = l
      · obtain ⟨n, hn, hp⟩ := hp
        refine .inl ⟨⟨n, by omega⟩, ne _ hn, ?_⟩
        rw [(hin ⟨n, by omega⟩ hn).2, ← e]
        show t (p n) = t l
        rw [hp]
      · push Not at hp
        refine .inr (res c fun n hn => ?_)
        have hx := R.worse hp hn
        rw [hW'] at hx
        exact e ▸ (up _ _ h hx).2
    · exact .inr (res c (wrap S c hS h))
  · refine (eight (hi := 0) (by omega)).trans (card_le_card fun l hl => ?_)
    simp only [mem_filter, mem_univ, true_and] at hl ⊢
    exact ne l (by omega)

end Inv

end Cert.Proof.Beam

end
-- ==== Proof.State.lean ====
/-
  The state the beam kernel keeps, after each block of logits.
-/
module

public import proofs.«01_k».proof.Proof.Inv
public import proofs.«01_k».proof.Proof.Region

@[expose] public section

set_option maxRecDepth 16384

noncomputable section

namespace Cert.Proof.Beam

open Cert.KernelIdeal Cert.KernelIdeal.Gen
open Idealize.ShloMosaic Idealize.ShloMosaic.Pointwise
open Cert.Proof.Rank Finset

/-- The maximum of a block's row, read. -/
theorem pay54_apply (B : FVec Ideal S1x64x5000 .f32) (h : Fin 64) (c : Fin 5000) : k1_pay54 B (ix2 h c) = B (ix3 0 h c) := by
  pointwise [k1_pay54]

/-- The new running maximum, read. -/
theorem pay58_apply (B : FVec Ideal S1x64x5000 .f32) (m : FVec Ideal S64x128 .f32) (h : Fin 64) (l : Fin 128) :
    k1_pay58 B m (ix2 h l) = max (m (ix2 h 0)) (univ.fold max ⊥ fun c : Fin 5000 => B (ix3 0 h c)) := by
  rw [← ofBits_neg_inf]
  pointwise [k1_pay58, k1_pay57, k1_pay56, k1_pay55, k1_pay54]

/-- The new running sum, read. -/
theorem pay59_apply (B : FVec Ideal S1x64x5000 .f32) (m s : FVec Ideal S64x128 .f32) (h : Fin 64) (l : Fin 128) :
    k1_pay59 (F := Ideal) B m s (ix2 h l) = s (ix2 h 0) * Ideal.exp (m (ix2 h 0) - k1_pay58 (F := Ideal) B m (ix2 h l))
      + ∑ c : Fin 5000, Ideal.exp (B (ix3 0 h c) - k1_pay58 (F := Ideal) B m (ix2 h l)) := by
  rw [pay58_apply, ← ofBits_neg_inf]
  pointwise [k1_pay59, k1_pay56, k1_pay57, k1_pay55, k1_pay54]

/-- Lanes stored whole are what was stored. -/
theorem keepV_eq (x : FVec Ideal S64x128 .f32) : keepV x = x := shapeCast_self _ _
/-- Lanes stored whole are what was stored. -/
theorem keepI_eq (x : IVec S64x128 32) : keepI x = x := shapeCast_self _ _

/-- The rounds over a block, in row `h`. -/
theorem block_rounds (v : FVec Ideal S64x5000 .f32) (h : Fin 64) (hv : ∀ c, v (ix2 h c) ≠ ⊥) :
    ∃ p : ℕ → Fin 5000, Rounds (fun k c => bkilled v k (ix2 h c)) p (fun c => c.val) 8 ∧ ∀ n < 8,
      bmax (bkilled v n) (ix2 h 0) = v (ix2 h (p n)) ∧ bcol (bkilled v n) (ix2 h 0) = BitVec.ofNat 32 (p n).val := by
  have val : ∀ c : Fin 5000, (BitVec.ofNat 32 c.val).toNat = c.val := fun c => by
    rw [BitVec.toNat_ofNat]; have := c.isLt; omega
  obtain ⟨p, R, hp⟩ := rounds_of_folds (fun k c => bkilled v k (ix2 h c)) (fun c => BitVec.ofNat 32 c.val) 8
    (fun k c => BitVec.ofNat 32 c.val = bcol (bkilled v k) (ix2 h 0))
    (fun c _ => by rw [val]; have := c.isLt; omega) (fun i j _ _ e => by rw [val, val] at e; exact Fin.ext e)
    (fun n i hc => by show bkill _ _ = _; rw [bkill_apply, if_pos hc]) (fun n i hc => by show bkill _ _ = _; rw [bkill_apply, if_neg hc])
    (fun n i q _ _ e1 e2 => by
      show _ = bcol (bkilled v n) (ix2 h 0) ↔ _
      rw [bcol_apply]
      show _ = univ.fold _ _ _ ↔ _
      rw [e2]
      constructor
      · intro e
        have := congrArg BitVec.toNat e
        rw [val, val] at this
        exact Fin.ext this
      · rintro rfl; rfl)
    (by
      have : (univ.filter fun c : Fin 5000 => bkilled v 0 (ix2 h c) ≠ ⊥) = univ := filter_true_of_mem fun c _ => hv c
      rw [this]
      simp)
  simp only [val] at R
  refine ⟨p, R, fun n hn => ?_⟩
  obtain ⟨e1, e2⟩ := hp n hn
  rw [bmax_apply, bcol_apply]
  exact ⟨e1.trans (R.value n hn), e2⟩

/-- The rounds over the lanes, in row `h`. -/
theorem lane_rounds (v : FVec Ideal S64x128 .f32) (ci : IVec S64x128 32) (h : Fin 64) (many : 8 ≤ (univ.filter fun l : Fin 128 => v (ix2 h l) ≠ ⊥).card)
    (small : ∀ l, v (ix2 h l) ≠ ⊥ → (ci (ix2 h l)).toNat < 2 ^ 30) :
    ∃ p : ℕ → Fin 128, Rounds (fun k c => mkilled v k (ix2 h c)) p (fun c => c.val) 8 ∧ ∀ n < 8,
      mmax (mkilled v n) (ix2 h 0) = v (ix2 h (p n)) ∧ mtok (mkilled v n) ci (ix2 h 0) = ci (ix2 h (p n)) := by
  have val : ∀ c : Fin 128, (BitVec.ofNat 32 c.val).toNat = c.val := fun c => by
    rw [BitVec.toNat_ofNat]; have := c.isLt; omega
  have eq : ∀ i q : Fin 128, BitVec.ofNat 32 i.val = BitVec.ofNat 32 q.val ↔ i = q := fun i q => by
    constructor
    · intro e
      have := congrArg BitVec.toNat e
      rw [val, val] at this
      exact Fin.ext this
    · rintro rfl; rfl
  obtain ⟨p, R, hp⟩ := rounds_of_folds (fun k c => mkilled v k (ix2 h c)) (fun c => BitVec.ofNat 32 c.val) 8
    (fun k c => BitVec.ofNat 32 c.val = mlane (mkilled v k) (ix2 h 0))
    (fun c _ => by rw [val]; have := c.isLt; omega) (fun i j _ _ e => by rw [val, val] at e; exact Fin.ext e)
    (fun n i hc => by show mkill _ _ = _; rw [mkill_apply, if_pos hc]) (fun n i hc => by show mkill _ _ = _; rw [mkill_apply, if_neg hc])
    (fun n i q _ _ e1 e2 => by
      show _ = mlane (mkilled v n) (ix2 h 0) ↔ _
      rw [mlane_apply]
      show _ = univ.fold _ _ _ ↔ _
      rw [e2]
      exact eq i q)
    many
  simp only [val] at R
  refine ⟨p, R, fun n hn => ?_⟩
  obtain ⟨e1, e2⟩ := hp n hn
  rw [mmax_apply, mtok_apply, mlane_apply]
  refine ⟨e1.trans (R.value n hn), ?_⟩
  have e2' : univ.fold IntOp.minsi 2147483647#32 (fun c : Fin 128 => if mkilled v n (ix2 h c) = univ.fold max ⊥ (fun c : Fin 128 => mkilled v n (ix2 h c))
    then BitVec.ofNat 32 c.val else 1073741824#32) = BitVec.ofNat 32 (p n).val := e2
  rw [e2']
  obtain ⟨i, _, hi, e, _⟩ := fold_minsi_select univ (fun c : Fin 128 => BitVec.ofNat 32 c.val = BitVec.ofNat 32 (p n).val) (fun c => ci (ix2 h c))
    (fun i _ hi => by rw [(eq i _).1 hi]; exact small _ (R.value_ne n hn)) ⟨p n, mem_univ _, rfl⟩
  rw [e, (eq i _).1 hi]

/-- The lane a block's `n`-th best column goes to. -/
theorem lane_eq (jj : BitVec 32) (j : ℕ) (hj : jj.toNat = j) (hj' : j < 15) (k : ℕ) (hk : k < 8) (l : Fin 128) :
    BitVec.ofNat 32 l.val = Scalar.addi (Scalar.addi 8#32 (Scalar.muli 8#32 jj)) (BitVec.ofNat 32 k) ↔ l.val = 8 + 8 * j + k := by
  have e : (Scalar.addi (Scalar.addi 8#32 (Scalar.muli 8#32 jj)) (BitVec.ofNat 32 k)).toNat = 8 + 8 * j + k := by
    show (8#32 + 8#32 * jj + BitVec.ofNat 32 k).toNat = _
    simp only [BitVec.toNat_add, BitVec.toNat_mul, BitVec.toNat_ofNat, hj]
    omega
  have := l.isLt
  rw [← BitVec.toNat_inj, e, BitVec.toNat_ofNat]
  omega

/-- The candidates' values after some rounds: the new ones at their lanes, the others as they were. -/
theorem candV_read (jj : BitVec 32) (j : ℕ) (hj : jj.toNat = j) (hj' : j < 15) (v : FVec Ideal S64x5000 .f32) (cv : FVec Ideal S64x128 .f32) (h : Fin 64)
    (p : ℕ → Fin 5000) (hp : ∀ n < 8, bmax (bkilled v n) (ix2 h 0) = v (ix2 h (p n))) (k : ℕ) (hk : k ≤ 8) (l : Fin 128) :
    candV jj v cv k (ix2 h l) = if 8 + 8 * j ≤ l.val ∧ l.val < 8 + 8 * j + k then v (ix2 h (p (l.val - (8 + 8 * j)))) else cv (ix2 h l) := by
  induction k with
  | zero => rw [if_neg (by omega)]; rfl
  | succ k ih =>
    rw [candV_succ, hp k (by omega), ih (by omega)]
    simp only [lane_eq jj j hj hj' k (by omega)]
    by_cases e : l.val = 8 + 8 * j + k
    · rw [if_pos e, if_pos (by omega), show l.val - (8 + 8 * j) = k by omega]
    · rw [if_neg e]
      by_cases f : 8 + 8 * j ≤ l.val ∧ l.val < 8 + 8 * j + k
      · rw [if_pos f, if_pos (by omega)]
      · rw [if_neg f, if_neg (by omega)]

/-- The candidates' places after some rounds: the new ones at their lanes, the others as they were. -/
theorem candI_read (b jj : BitVec 32) (j : ℕ) (hj : jj.toNat = j) (hj' : j < 15) (v : FVec Ideal S64x5000 .f32) (ci : IVec S64x128 32) (h : Fin 64)
    (p : ℕ → Fin 5000) (hp : ∀ n < 8, bcol (bkilled v n) (ix2 h 0) = BitVec.ofNat 32 (p n).val) (k : ℕ) (hk : k ≤ 8) (l : Fin 128) :
    candI b jj v ci k (ix2 h l) = if 8 + 8 * j ≤ l.val ∧ l.val < 8 + 8 * j + k then b * 5000#32 + BitVec.ofNat 32 (p (l.val - (8 + 8 * j))).val
      else ci (ix2 h l) := by
  induction k with
  | zero => rw [if_neg (by omega)]; rfl
  | succ k ih =>
    rw [candI_succ, hp k (by omega), ih (by omega)]
    simp only [lane_eq jj j hj hj' k (by omega)]
    by_cases e : l.val = 8 + 8 * j + k
    · rw [if_pos e, if_pos (by omega), show l.val - (8 + 8 * j) = k by omega]
    · rw [if_neg e]
      by_cases f : 8 + 8 * j ≤ l.val ∧ l.val < 8 + 8 * j + k
      · rw [if_pos f, if_pos (by omega)]
      · rw [if_neg f, if_neg (by omega)]

/-- Small numbers are equal as words when they are equal. -/
theorem small_eq (l : Fin 128) (k : ℕ) (hk : k < 8) : BitVec.ofNat 32 l.val = BitVec.ofNat 32 k ↔ l.val = k := by
  have := l.isLt
  rw [← BitVec.toNat_inj, BitVec.toNat_ofNat, BitVec.toNat_ofNat]
  omega

/-- The merged values: the first lanes hold the rounds' picks. -/
theorem mergeV_read (w : FVec Ideal S64x128 .f32) (h : Fin 64) (p : ℕ → Fin 128) (hp : ∀ n < 8, mmax (mkilled w n) (ix2 h 0) = w (ix2 h (p n)))
    (k : ℕ) (hk : k ≤ 8) (l : Fin 128) : mergeV w k (ix2 h l) = if l.val < k then w (ix2 h (p l.val)) else ⊥ := by
  induction k with
  | zero => rw [if_neg (by omega)]; rfl
  | succ k ih =>
    rw [mergeV_succ, hp k (by omega), ih (by omega)]
    simp only [small_eq l k (by omega)]
    by_cases e : l.val = k
    · rw [if_pos e, if_pos (by omega), e]
    · rw [if_neg e]
      by_cases f : l.val < k
      · rw [if_pos f, if_pos (by omega)]
      · rw [if_neg f, if_neg (by omega)]

/-- The merged places: the first lanes hold the rounds' picks. -/
theorem mergeI_read (w : FVec Ideal S64x128 .f32) (ci : IVec S64x128 32) (h : Fin 64) (p : ℕ → Fin 128)
    (hp : ∀ n < 8, mtok (mkilled w n) ci (ix2 h 0) = ci (ix2 h (p n)))
    (k : ℕ) (hk : k ≤ 8) (l : Fin 128) : mergeI w ci k (ix2 h l) = if l.val < k then ci (ix2 h (p l.val)) else 0#32 := by
  induction k with
  | zero => rw [if_neg (by omega)]; rfl
  | succ k ih =>
    rw [mergeI_succ, hp k (by omega), ih (by omega)]
    simp only [small_eq l k (by omega)]
    by_cases e : l.val = k
    · rw [if_pos e, if_pos (by omega), e]
    · rw [if_neg e]
      by_cases f : l.val < k
      · rw [if_pos f, if_pos (by omega)]
      · rw [if_neg f, if_neg (by omega)]

/-! ## The running maximum and sum -/

/-- A sum of reals among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

/-- A maximum from −∞ of reals, of which there is one, is real. -/
theorem fold_max_real {ι : Type} [DecidableEq ι] (s : Finset ι) (hs : s.Nonempty) (f : ι → ℝ) :
    ∃ M : ℝ, s.fold max ⊥ (fun i => (f i : EReal)) = M := by
  rcases fold_max_mem s (fun i => (f i : EReal)) with h | ⟨i, _, h⟩
  · obtain ⟨i, hi⟩ := hs
    have := le_fold_max s (fun i => (f i : EReal)) i hi
    rw [h] at this
    exact absurd (le_bot_iff.1 this) (EReal.coe_ne_bot _)
  · exact ⟨f i, h⟩

/-- A sum over blocks, the last one apart. -/
theorem sum_blocks (k b : ℕ) (f : ℕ → ℝ) : ∑ c ∈ range (k * (b + 1)), f c = (∑ c ∈ range (k * b), f c) + ∑ c ∈ range k, f (k * b + c) := by
  rw [Nat.mul_succ, Finset.sum_range_add]

/-- A sum of exponentials moved to another maximum. -/
theorem scale_sum (s : Finset ℕ) (L : ℕ → ℝ) (M M' : ℝ) :
    (∑ c ∈ s, Real.exp (L c - M)) * Real.exp (M - M') = ∑ c ∈ s, Real.exp (L c - M') := by
  rw [Finset.sum_mul]
  refine sum_congr rfl fun c _ => ?_
  rw [← Real.exp_add]
  congr 1
  ring

/-- A row's running maximum and sum after `b` blocks. -/
def Stat (L : ℕ → ℝ) (b : ℕ) (m s : EReal) : Prop :=
  (b = 0 ∧ m = ⊥ ∧ s = 0) ∨ ∃ M : ℝ, m = M ∧ s = ((∑ c ∈ range (5000 * b), Real.exp (L c - M) : ℝ) : EReal)

/-- The running maximum and sum after one more block. -/
theorem Stat.add {L : ℕ → ℝ} {b : ℕ} {m s : EReal} (H : Stat L b m s) (B : Fin 5000 → EReal) (hB : ∀ c, B c = (L (5000 * b + c.val) : EReal)) :
    Stat L (b + 1) (max m (univ.fold max ⊥ B))
      (s * Ideal.exp (m - max m (univ.fold max ⊥ B)) + ∑ c : Fin 5000, Ideal.exp (B c - max m (univ.fold max ⊥ B))) := by
  obtain rfl : B = fun c => (L (5000 * b + c.val) : EReal) := funext hB
  obtain ⟨K, hK⟩ := fold_max_real (univ : Finset (Fin 5000)) ⟨0, mem_univ _⟩ fun c => L (5000 * b + c.val)
  rw [hK]
  have blk : ∀ M : ℝ, ∑ c : Fin 5000, Ideal.exp ((L (5000 * b + c.val) : EReal) - (M : EReal))
      = ((∑ c ∈ range 5000, Real.exp (L (5000 * b + c) - M) : ℝ) : EReal) := by
    intro M
    rw [Finset.sum_range, ← coe_sum]
    refine sum_congr rfl fun c _ => ?_
    rw [← EReal.coe_sub, Ideal.exp_coe]
  right
  rcases H with ⟨rfl, rfl, rfl⟩ | ⟨M, rfl, rfl⟩
  · refine ⟨K, max_eq_right bot_le, ?_⟩
    rw [max_eq_right (bot_le : (⊥ : EReal) ≤ (K : EReal)), blk, zero_mul, zero_add, sum_blocks, Nat.mul_zero, Finset.sum_range_zero, zero_add]
  · refine ⟨max M K, (EReal.coe_strictMono.monotone.map_max).symm, ?_⟩
    have hM : max (M : EReal) (K : EReal) = ((max M K : ℝ) : EReal) := (EReal.coe_strictMono.monotone.map_max).symm
    rw [hM, blk, ← EReal.coe_sub, Ideal.exp_coe, ← EReal.coe_mul, ← EReal.coe_add, scale_sum, sum_blocks]

/-! ## The state -/

/-- The block a point consumes, and its number among the fifteen. -/
theorem jj_at : ∀ (n : ℕ) (h : n + 1 < grid1.N), (jjw (crd (n + 1) h)).toNat = n % 15 ∧ (blkw (crd (n + 1) h)).toNat = n := by
  have : ∀ t : Fin grid1.N, t.val ≠ 0 → (jjw (grid1.coords t)).toNat = (t.val - 1) % 15 ∧ (blkw (grid1.coords t)).toNat = t.val - 1 := by decide +kernel
  intro n h
  exact this ⟨n + 1, h⟩ (Nat.succ_ne_zero n)

/-- What row `h` of the state is after `b` blocks. -/
structure Good (L : Fin 64 → ℕ → ℝ) (b : ℕ) (x : St Ideal) (h : Fin 64) : Prop where
  inv : Inv (L h) b (8 + 8 * (b % 15)) (fun l => x.cv (ix2 h l)) fun l => (x.ci (ix2 h l)).toNat
  stat : Stat (L h) b (x.m (ix2 h 0)) (x.s (ix2 h 0))

/-- The state the first point makes satisfies the invariant. -/
theorem good_zero (L : Fin 64 → ℕ → ℝ) (h : Fin 64) : Good L 0 (st0 : St Ideal) h :=
  ⟨Inv.zero _ _ _ _ fun _ => rfl, .inl ⟨rfl, rfl, by
    show k1_pay1 (F := Ideal) k1_pay17 (ix2 h 0) = (0 : EReal)
    pointwise [k1_pay1, k1_pay17]⟩⟩

/-- The lanes after one more block, before any merge. -/
theorem good_lanes {L : Fin 64 → ℕ → ℝ} {b : ℕ} {x : St Ideal} {h : Fin 64} (G : Good L b x h) (hb : b < 20) (hn : b + 1 < grid1.N)
    (B : FVec Ideal S1x64x5000 .f32) (hB : ∀ c : Fin 5000, B (ix3 0 h c) = (L h (5000 * b + c.val) : EReal)) :
    Inv (L h) (b + 1) (8 + 8 * (b % 15) + 8) (fun l => candV (jjw (crd (b + 1) hn)) (k1_pay54 (F := Ideal) B) x.cv 8 (ix2 h l))
      fun l => (candI (blkw (crd (b + 1) hn)) (jjw (crd (b + 1) hn)) (k1_pay54 (F := Ideal) B) x.ci 8 (ix2 h l)).toNat := by
  obtain ⟨ej, eb⟩ := jj_at b hn
  have hv : ∀ c, k1_pay54 (F := Ideal) B (ix2 h c) = (L h (5000 * b + c.val) : EReal) := fun c => by rw [pay54_apply, hB]
  obtain ⟨p, R, hp⟩ := block_rounds (k1_pay54 B) h fun c => by rw [hv]; exact EReal.coe_ne_bot _
  have word : ∀ c : Fin 5000, (blkw (crd (b + 1) hn) * 5000#32 + BitVec.ofNat 32 c.val).toNat = 5000 * b + c.val := fun c => by
    rw [BitVec.toNat_add, BitVec.toNat_mul, eb, BitVec.toNat_ofNat, BitVec.toNat_ofNat]
    have := c.isLt
    omega
  refine G.inv.add R hv (by omega) _ _ (fun l h1 h2 => ⟨?_, ?_⟩) (fun l h' => ⟨?_, ?_⟩)
  · rw [candV_read _ _ ej (by omega) _ _ h p (fun n hn => (hp n hn).1) 8 le_rfl, if_pos ⟨h1, h2⟩]; rfl
  · rw [candI_read _ _ _ ej (by omega) _ _ h p (fun n hn => (hp n hn).2) 8 le_rfl, if_pos ⟨h1, h2⟩, word]
  · rw [candV_read _ _ ej (by omega) _ _ h p (fun n hn => (hp n hn).1) 8 le_rfl, if_neg h']
  · rw [candI_read _ _ _ ej (by omega) _ _ h p (fun n hn => (hp n hn).2) 8 le_rfl, if_neg h']

/-- The running maximum and sum of a point. -/
theorem good_stat {L : Fin 64 → ℕ → ℝ} {b : ℕ} {x : St Ideal} {h : Fin 64} (G : Good L b x h)
    (B : FVec Ideal S1x64x5000 .f32) (hB : ∀ c : Fin 5000, B (ix3 0 h c) = (L h (5000 * b + c.val) : EReal)) :
    Stat (L h) (b + 1) (k1_pay58 (F := Ideal) B x.m (ix2 h 0)) (k1_pay59 (F := Ideal) B x.m x.s (ix2 h 0)) := by
  rw [pay59_apply, pay58_apply]
  exact G.stat.add (fun c => B (ix3 0 h c)) hB

/-- Every state is good. -/
theorem good (V : Valuation τ sig (Elt Ideal)) (L : Fin 64 → ℕ → ℝ)
    (hL : ∀ n (hn : n < grid1.N), n < 20 → ∀ (h : Fin 64) (c : Fin 5000), logit V n hn (ix3 0 h c) = (L h (5000 * n + c.val) : EReal))
    (n : ℕ) (hn : n < grid1.N) (h : Fin 64) : Good L n (st V n hn) h := by
  have N : grid1.N = 21 := by decide
  induction n with
  | zero => exact good_zero L h
  | succ n ih =>
    have G := ih (Nat.lt_of_succ_lt hn)
    have hB := hL n (Nat.lt_of_succ_lt hn) (by omega) h
    have I := good_lanes G (by omega) hn _ hB
    have S := good_stat G _ hB
    unfold st
    by_cases h15 : n + 1 = 15
    · rw [if_pos h15]
      refine ⟨?_, S⟩
      have many := I.many (by omega)
      obtain ⟨p, R, hp⟩ := lane_rounds _ (candI (blkw (crd (n + 1) hn)) (jjw (crd (n + 1) hn)) (k1_pay54 (logit V n (Nat.lt_of_succ_lt hn)))
        (st V n (Nat.lt_of_succ_lt hn)).ci 8) h many (fun l hl => by have := (I.occ l hl).1; omega)
      have e : 8 + 8 * ((n + 1) % 15) = 8 := by omega
      unfold merged
      rw [e, keepV_eq, keepI_eq]
      refine I.merge R (fun _ => rfl) _ _ (fun l hl => ⟨?_, ?_⟩) (fun l hl => ?_)
      · exact (mergeV_read _ h p (fun n hn => (hp n hn).1) 8 le_rfl l).trans (if_pos hl)
      · exact congrArg BitVec.toNat ((mergeI_read _ _ h p (fun n hn => (hp n hn).2) 8 le_rfl l).trans (if_pos hl))
      · exact (mergeV_read _ h p (fun n hn => (hp n hn).1) 8 le_rfl l).trans (if_neg (by omega))
    · rw [if_neg h15]
      refine ⟨?_, S⟩
      unfold consume
      rw [keepV_eq, keepI_eq]
      have e : 8 + 8 * ((n + 1) % 15) = 8 + 8 * (n % 15) + 8 := by omega
      rw [e]
      exact I

end Cert.Proof.Beam

end
-- ==== Proof.Select.lean ====
/-
  The eight results the beam kernel reads off its candidate lanes: the eight best of all scores.
-/
module

public import proofs.«01_k».proof.Proof.State

@[expose] public section

set_option maxRecDepth 16384

noncomputable section

namespace Cert.Proof.Beam

open Cert.KernelIdeal Cert.KernelIdeal.Gen
open Idealize.ShloMosaic Idealize.ShloMosaic.Pointwise
open Cert.Proof.Rank Finset

/-- The place of a row and a column in the flattened scores. -/
def place (f : Fin 64 × ℕ) : ℕ := f.1.val * 100000 + f.2

/-- The rows and columns `σ 0, σ 1, … σ 7` are those of the eight greatest scores in order, the earlier place first among equals. -/
structure Best (A : Fin 64 × ℕ → ℝ) (σ : ℕ → Fin 64 × ℕ) : Prop where
  lt : ∀ n < 8, (σ n).2 < 100000
  order : ∀ m n, m < n → n < 8 → Better (fun f => (A f : EReal)) place (σ m) (σ n)
  dom : ∀ f : Fin 64 × ℕ, f.2 < 100000 → (∀ n < 8, σ n ≠ f) → ∀ n < 8, Better (fun f => (A f : EReal)) place (σ n) f

/-- A minimum that ignores all but one. -/
theorem fold_min_single {ι : Type} [Fintype ι] [DecidableEq ι] (p : ι) (f : ι → EReal) (P : ι → Prop) [DecidablePred P] (hP : ∀ i, P i ↔ i = p) :
    univ.fold min ⊤ (fun i => if P i then f i else ⊤) = f p := by
  apply le_antisymm
  · have := ((Finset.le_fold_min (univ.fold min ⊤ (fun i => if P i then f i else ⊤))).1 le_rfl).2 p (mem_univ _)
    rwa [if_pos ((hP p).2 rfl)] at this
  · refine (Finset.le_fold_min _).2 ⟨le_top, fun i _ => ?_⟩
    by_cases h : P i
    · rw [if_pos h, (hP i).1 h]
    · rw [if_neg h]; exact le_top

/-- The log of a sum of exponentials, a maximum taken out or not. -/
theorem log_sum (L : ℕ → ℝ) (n : ℕ) (hn : 0 < n) (M : ℝ) :
    (M : EReal) + Ideal.log ((∑ c ∈ range n, Real.exp (L c - M) : ℝ) : EReal) = ((Real.log (∑ c ∈ range n, Real.exp (L c)) : ℝ) : EReal) := by
  have pos : ∀ f : ℕ → ℝ, 0 < ∑ c ∈ range n, Real.exp (f c) := fun f =>
    sum_pos (fun c _ => Real.exp_pos _) ⟨0, mem_range.2 hn⟩
  have e : (∑ c ∈ range n, Real.exp (L c - M)) = (∑ c ∈ range n, Real.exp (L c)) * Real.exp (-M) := by
    rw [Finset.sum_mul]
    refine sum_congr rfl fun c _ => ?_
    rw [← Real.exp_add, sub_eq_add_neg]
  rw [Ideal.log_coe, if_neg (not_le.2 (pos fun c => L c - M)), ← EReal.coe_add, e, Real.log_mul (pos L).ne' (Real.exp_pos _).ne', Real.log_exp]
  congr 1
  ring

/-- The score of row `h` and column `c`. -/
def score (L : Fin 64 → ℕ → ℝ) (H : Fin 64 → ℝ) (f : Fin 64 × ℕ) : ℝ :=
  L f.1 f.2 + H f.1 - Real.log (∑ c ∈ range 100000, Real.exp (L f.1 c))

section
variable {L : Fin 64 → ℕ → ℝ} {H : Fin 64 → ℝ} {x : St Ideal} {hyp : FVec Ideal S64x128 .f32}

/-- The score a lane holds, minus infinity where it is empty. -/
theorem adj_good (G : ∀ h, Good L 20 x h) (hh : ∀ h l, hyp (ix2 h l) = (H h : EReal)) (h : Fin 64) (l : Fin 128) :
    adj x.m x.s hyp x.cv (ix2 h l) = if x.cv (ix2 h l) = ⊥ then ⊥ else (score L H (h, (x.ci (ix2 h l)).toNat) : EReal) := by
  rw [adj_apply, hh]
  rcases (G h).stat with ⟨e, _⟩ | ⟨M, e1, e2⟩
  · exact absurd e (by omega)
  · rw [e1, e2, log_sum _ _ (by omega)]
    by_cases hc : x.cv (ix2 h l) = ⊥
    · rw [if_pos hc, hc]; rfl
    · rw [if_neg hc, ((G h).inv.occ l hc).2]
      rfl

/-- What each of the eight rounds over the scores of the lanes reads. -/
theorem eight_best (G : ∀ h, Good L 20 x h) (hh : ∀ h l, hyp (ix2 h l) = (H h : EReal)) :
    ∃ σ : ℕ → Fin 64 × ℕ, Best (score L H) σ ∧ ∀ n < 8,
      gmax (gkilled (flat x.ci) (adj x.m x.s hyp x.cv) n) = (score L H (σ n) : EReal)
      ∧ hypAt (gsel (flat x.ci) (gkilled (flat x.ci) (adj x.m x.s hyp x.cv) n)) hyp = (H (σ n).1 : EReal)
      ∧ gminI (gsel (flat x.ci) (gkilled (flat x.ci) (adj x.m x.s hyp x.cv) n)) rowid = BitVec.ofNat 32 (σ n).1.val
      ∧ gminI (gsel (flat x.ci) (gkilled (flat x.ci) (adj x.m x.s hyp x.cv) n)) x.ci = BitVec.ofNat 32 (σ n).2 := by
  classical
  have hw := adj_good G hh
  generalize adj x.m x.s hyp x.cv = w at hw
  have ne : ∀ h l, w (ix2 h l) ≠ ⊥ ↔ x.cv (ix2 h l) ≠ ⊥ := fun h l => by
    rw [hw]
    by_cases hc : x.cv (ix2 h l) = ⊥
    · simp [hc]
    · rw [if_neg hc]; exact ⟨fun _ => hc, fun _ => EReal.coe_ne_bot _⟩
  have tok : ∀ h l, w (ix2 h l) ≠ ⊥ → (x.ci (ix2 h l)).toNat < 100000 := fun h l hl => ((G h).inv.occ l ((ne h l).1 hl)).1
  have fl : ∀ h l, w (ix2 h l) ≠ ⊥ → (flat x.ci (ix2 h l)).toNat = place (h, (x.ci (ix2 h l)).toNat) := fun h l hl => by
    have h1 := tok h l hl
    have h2 := h.isLt
    rw [flat_apply, BitVec.toNat_add, BitVec.toNat_mul, BitVec.toNat_ofNat, BitVec.toNat_ofNat]
    unfold place
    simp only
    omega
  have flt : ∀ h l, w (ix2 h l) ≠ ⊥ → (flat x.ci (ix2 h l)).toNat < 2 ^ 30 := fun h l hl => by
    rw [fl h l hl]
    have h1 := tok h l hl
    have h2 := h.isLt
    unfold place
    simp only
    omega
  have finj : ∀ i j : Fin 64 × Fin 128, w (ix2 i.1 i.2) ≠ ⊥ → w (ix2 j.1 j.2) ≠ ⊥ →
      (flat x.ci (ix2 i.1 i.2)).toNat = (flat x.ci (ix2 j.1 j.2)).toNat → i = j := by
    rintro ⟨h, l⟩ ⟨h', l'⟩ hi hj e
    have t1 := tok _ _ hi
    have t2 := tok _ _ hj
    rw [fl _ _ hi, fl _ _ hj] at e
    unfold place at e
    simp only at e t1 t2 hi hj
    obtain rfl : h = h' := Fin.ext (by omega)
    rw [(G h).inv.inj l l' ((ne _ _).1 hi) ((ne _ _).1 hj) (by show (x.ci (ix2 h l)).toNat = (x.ci (ix2 h l')).toNat; omega)]
  have pick : ∀ (n : ℕ) (i p : Fin 64 × Fin 128), w (ix2 i.1 i.2) ≠ ⊥ → w (ix2 p.1 p.2) ≠ ⊥ →
      univ.fold max ⊥ (fun i : Fin 64 × Fin 128 => gkilled (flat x.ci) w n (ix2 i.1 i.2)) = gkilled (flat x.ci) w n (ix2 p.1 p.2) →
      univ.fold IntOp.minsi 2147483647#32 (fun i : Fin 64 × Fin 128 => if gkilled (flat x.ci) w n (ix2 i.1 i.2) =
        univ.fold max ⊥ (fun i : Fin 64 × Fin 128 => gkilled (flat x.ci) w n (ix2 i.1 i.2)) then flat x.ci (ix2 i.1 i.2) else 1073741824#32)
          = flat x.ci (ix2 p.1 p.2) → (gsel (flat x.ci) (gkilled (flat x.ci) w n) (ix2 i.1 i.2) = 1#1 ↔ i = p) := by
    intro n i p hi hp e1 e2
    rw [gsel_apply, gmax_apply, e2]
    constructor
    · rintro ⟨_, e⟩
      exact finj i p hi hp (congrArg BitVec.toNat e)
    · rintro rfl
      exact ⟨e1.symm, rfl⟩
  obtain ⟨p, R, hp⟩ := rounds_of_folds (fun n (i : Fin 64 × Fin 128) => gkilled (flat x.ci) w n (ix2 i.1 i.2)) (fun i => flat x.ci (ix2 i.1 i.2)) 8
    (fun n i => gsel (flat x.ci) (gkilled (flat x.ci) w n) (ix2 i.1 i.2) = 1#1)
    (fun i hi => flt _ _ hi) (fun i j hi hj => finj i j hi hj)
    (fun n i hc => by show gkill _ _ _ = _; rw [gkill_apply, if_pos hc]) (fun n i hc => by show gkill _ _ _ = _; rw [gkill_apply, if_neg hc])
    (fun n i q hi hq => pick n i q hi hq)
    (by
      refine ((G 0).inv.many (by omega)).trans ?_
      refine card_le_card_of_injOn (fun l => ((0 : Fin 64), l)) (fun l hl => ?_) (fun a _ b _ e => (Prod.mk.inj e).2)
      simp only [coe_filter, mem_univ, true_and, Set.mem_setOf_eq] at hl ⊢
      exact (ne 0 l).2 hl)
  have sel : ∀ n < 8, ∀ i : Fin 64 × Fin 128, gsel (flat x.ci) (gkilled (flat x.ci) w n) (ix2 i.1 i.2) = 1#1 ↔ i = p n := by
    intro n hn i
    obtain ⟨e1, e2⟩ := hp n hn
    by_cases hi : w (ix2 i.1 i.2) = ⊥
    · constructor
      · intro hs
        exfalso
        rw [gsel_apply, gmax_apply] at hs
        have h1 := R.step_aux n (by omega) i
        have h2 : gkilled (flat x.ci) w n (ix2 i.1 i.2) = ⊥ := by
          rw [h1]; split_ifs
          · rfl
          · exact hi
        exact (R.picked n hn).ne (by show gkilled _ _ n _ = ⊥; rw [← e1, ← hs.1, h2])
      · rintro rfl
        exact absurd hi (R.value_ne n hn)
    · exact pick n i (p n) hi (R.value_ne n hn) e1 e2
  have up : ∀ i j : Fin 64 × Fin 128, w (ix2 j.1 j.2) ≠ ⊥ →
      Better (fun i : Fin 64 × Fin 128 => w (ix2 i.1 i.2)) (fun i => (flat x.ci (ix2 i.1 i.2)).toNat) i j →
      w (ix2 i.1 i.2) ≠ ⊥ ∧ Better (fun f => (score L H f : EReal)) place (i.1, (x.ci (ix2 i.1 i.2)).toNat) (j.1, (x.ci (ix2 j.1 j.2)).toNat) := by
    intro i j hj h
    have hi : w (ix2 i.1 i.2) ≠ ⊥ := by
      rcases h with h | ⟨h, _⟩
      · exact ne_bot_of_gt h
      · exact fun e => hj (h.symm.trans e)
    have v : ∀ i : Fin 64 × Fin 128, w (ix2 i.1 i.2) ≠ ⊥ → w (ix2 i.1 i.2) = (score L H (i.1, (x.ci (ix2 i.1 i.2)).toNat) : EReal) := fun i hi => by
      rw [hw, if_neg ((ne _ _).1 hi)]
    refine ⟨hi, ?_⟩
    unfold Better at h ⊢
    simp only at h ⊢
    rwa [v i hi, v j hj, fl _ _ hi, fl _ _ hj] at h
  refine ⟨fun n => ((p n).1, (x.ci (ix2 (p n).1 (p n).2)).toNat), ⟨fun n hn => tok _ _ (R.value_ne n hn), fun m n hm hn => ?_, fun f hf hne => ?_⟩,
    fun n hn => ⟨?_, ?_, ?_, ?_⟩⟩
  · exact (up _ _ (R.value_ne n hn) (R.order hm hn)).2
  · obtain ⟨h, c⟩ := f
    rcases (G h).inv.dom c hf with ⟨l, hl, e⟩ | ⟨S, hS, hd⟩
    · intro n hn
      have hl' := (ne h l).2 hl
      have := (up _ (h, l) hl' (R.worse (fun m hm e' => hne m hm (by
        simp only [e']
        exact Prod.ext rfl e)) hn)).2
      simp only at this e
      rwa [e] at this
    · intro n hn
      refine (R.dominate (fun i => w (ix2 i.1 i.2) ≠ ⊥ ∧ Better (fun f => (score L H f : EReal)) place (i.1, (x.ci (ix2 i.1 i.2)).toNat) (h, c))
        (S.image fun l => (h, l)) ?_ ?_ ?_ n hn).2
      · rw [card_image_of_injective _ fun a b e => (Prod.mk.inj e).2]
        exact hS
      · intro i hi
        obtain ⟨l, hl, rfl⟩ := mem_image.1 hi
        obtain ⟨h1, h2⟩ := hd l hl
        refine ⟨(ne h l).2 h1, ?_⟩
        rcases h2 with h2 | ⟨h2, h3⟩
        · left
          have := EReal.coe_lt_coe_iff.1 h2
          refine EReal.coe_lt_coe_iff.2 ?_
          unfold score
          simp only
          linarith
        · right
          have := EReal.coe_injective h2
          refine ⟨?_, ?_⟩
          · unfold score
            simp only
            rw [this]
          · unfold place
            simp only
            simp only [id] at h3
            omega
      · intro n hn i hb hi
        obtain ⟨h1, h2⟩ := up _ _ hi.1 hb
        exact ⟨h1, h2.trans hi.2⟩
  · rw [gmax_apply, (hp n hn).1, R.value n hn]
    show w _ = _
    rw [hw, if_neg ((ne _ _).1 (R.value_ne n hn))]
  · rw [hypAt_apply, fold_min_single (p n) (fun i : Fin 64 × Fin 128 => hyp (ix2 i.1 i.2)) _ (sel n hn), hh]
  · rw [gminI_apply]
    obtain ⟨i, _, hi, e, _⟩ := fold_minsi_select univ (fun i : Fin 64 × Fin 128 => gsel (flat x.ci) (gkilled (flat x.ci) w n) (ix2 i.1 i.2) = 1#1)
      (fun i => rowid (ix2 i.1 i.2)) (fun i _ _ => by rw [rowid_apply, BitVec.toNat_ofNat]; have := i.1.isLt; omega) ⟨p n, mem_univ _, (sel n hn _).2 rfl⟩
    rw [e, rowid_apply, (sel n hn i).1 hi]
  · rw [gminI_apply]
    obtain ⟨i, _, hi, e, _⟩ := fold_minsi_select univ (fun i : Fin 64 × Fin 128 => gsel (flat x.ci) (gkilled (flat x.ci) w n) (ix2 i.1 i.2) = 1#1)
      (fun i => x.ci (ix2 i.1 i.2)) (fun i _ hi => by
        rw [(sel n hn i).1 hi]
        have := tok _ _ (R.value_ne n hn)
        omega) ⟨p n, mem_univ _, (sel n hn _).2 rfl⟩
    rw [e, (sel n hn i).1 hi]
    simp

/-- The lane `l` of the results. -/
theorem lanes_read {α : Type} (o : ℕ → S1x128.Idx → α) (v : ℕ → α) (step : ∀ n, o (n + 1) = atLane n (v n) (o n)) (n : ℕ) (hn : n < 8) (l : Fin 128)
    (e : l.val = n) (k : ℕ) (hk : k ≤ 8) (hnk : n < k) : o k (ix2 0 l) = v n := by
  induction k with
  | zero => omega
  | succ k ih =>
    rw [step, atLane_apply]
    simp only [small_eq l k (by omega)]
    by_cases h : l.val = k
    · rw [if_pos h, ← h, e]
    · rw [if_neg h]
      exact ih (by omega) (by omega)

end

end Cert.Proof.Beam

end
-- ==== Proof.Results.lean ====
/-
  The kernel's four results: the eight best of all the scores, their probabilities, rows and columns.
-/
module

public import proofs.«01_k».proof.Proof.Logit
public import proofs.«01_k».proof.Proof.Select

@[expose] public section

set_option maxRecDepth 16384

noncomputable section

namespace Cert.Proof.Beam

open Cert.KernelIdeal Cert.KernelIdeal.Gen
open Idealize.ShloMosaic Idealize.ShloMosaic.Pointwise
open Cert.Proof.Rank Finset

variable {m : (ℓ : Loc nD τ sig) → Buf (Elt Ideal) ℓ} (hr : InRange m) {d : Dev nD} {A : Args} (I : Is m d A)
include I

/-- The kernel's results in terms of the eight best scores. -/
theorem kernel_results : ∃ σ : ℕ → Fin 64 × ℕ, Best (score A.L A.H) σ ∧ ∀ i : Fin 8,
    (V5 m hr d (Proc.devRef .tc main_v33) (ix1 i) : EReal) = (score A.L A.H (σ i.val) : EReal)
    ∧ (V5 m hr d (Proc.devRef .tc main_v35) (ix1 i) : EReal) = (Real.exp (score A.L A.H (σ i.val) - A.H (σ i.val).1) : EReal)
    ∧ V5 m hr d (Proc.devRef .tc main_v37) (ix1 i) = BitVec.ofNat 32 (σ i.val).1.val
    ∧ V5 m hr d (Proc.devRef .tc main_v39) (ix1 i) = BitVec.ofNat 32 (σ i.val).2 := by
  obtain ⟨σ, hσ, h⟩ := eight_best (x := st (V3 m hr d) 20 twenty_lt) (hyp := winHyp (V3 m hr d) ⟨20, twenty_lt⟩) (L := A.L) (H := A.H)
    (fun q => good (V3 m hr d) A.L (fun n hn h20 q c => logit_real hr I n hn h20 q c) 20 twenty_lt q) (fun q l => hyp_real hr I _ q l)
  have cut : ∀ {α : Type} (o : S1x128.Idx → α) (i : Fin 8), shapeCast S8 (extractStridedSlice S1x8 ![0, 0] o slices_S1x128_S1x8_0_0) shapeCasts_S1x8_S8 (ix1 i)
      = o (ix2 0 ⟨i.val, by omega⟩) := fun o i => by
    pointwise []
  refine ⟨σ, hσ, fun i => ?_⟩
  obtain ⟨h1, h2, h3, h4⟩ := h i.val i.isLt
  rw [V5_res1, V5_res2, V5_res3, V5_res4, cut, cut, cut, cut]
  unfold out1 out2 out3 out4 flE wE
  generalize st (V3 m hr d) 20 twenty_lt = x at h1 h2 h3 h4 ⊢
  generalize winHyp (V3 m hr d) ⟨20, twenty_lt⟩ = hyp at h1 h2 h3 h4 ⊢
  have r1 := lanes_read (outG (flat x.ci) (adj x.m x.s hyp x.cv)) (fun n => gmax (gkilled (flat x.ci) (adj x.m x.s hyp x.cv) n)) (fun _ => rfl)
      i.val i.isLt ⟨i.val, by omega⟩ rfl 8 le_rfl i.isLt
  have r2 := lanes_read (outP (flat x.ci) hyp (adj x.m x.s hyp x.cv))
      (fun n => Scalar.exp (Scalar.subf (gmax (gkilled (flat x.ci) (adj x.m x.s hyp x.cv) n)) (hypAt (gsel (flat x.ci) (gkilled (flat x.ci) (adj x.m x.s hyp x.cv) n)) hyp))) (fun _ => rfl)
      i.val i.isLt ⟨i.val, by omega⟩ rfl 8 le_rfl i.isLt
  have r3 := lanes_read (outR (flat x.ci) (adj x.m x.s hyp x.cv)) (fun n => gminI (gsel (flat x.ci) (gkilled (flat x.ci) (adj x.m x.s hyp x.cv) n)) rowid) (fun _ => rfl)
      i.val i.isLt ⟨i.val, by omega⟩ rfl 8 le_rfl i.isLt
  have r4 := lanes_read (outT (flat x.ci) x.ci (adj x.m x.s hyp x.cv)) (fun n => gminI (gsel (flat x.ci) (gkilled (flat x.ci) (adj x.m x.s hyp x.cv) n)) x.ci) (fun _ => rfl)
      i.val i.isLt ⟨i.val, by omega⟩ rfl 8 le_rfl i.isLt
  rw [r1, r2, r3, r4]
  refine ⟨h1, ?_, h3, h4⟩
  show Scalar.exp (F := Ideal) (φ := .f32) (Scalar.subf (gmax (gkilled (flat x.ci) (adj x.m x.s hyp x.cv) i.val)) (hypAt (gsel (flat x.ci) (gkilled (flat x.ci) (adj x.m x.s hyp x.cv) i.val)) hyp)) = _
  rw [h1, h2]
  generalize score A.L A.H (σ i.val) = u
  generalize A.H (σ i.val).1 = v
  rw [← Ideal.exp_coe, EReal.coe_sub]
  rfl

end Cert.Proof.Beam

end
-- ==== Proof.Top.lean ====
/-
  The host's top-k of a vector of extended reals: a stable sort, greater first, cut to its first `k`.
-/
module

public import Idealize.ShloMosaic.Lib.SortPrefix
public import Idealize.ShloMosaic.Lib.Pointwise
public import Idealize.ShloMosaic.PureOps.Ideal

@[expose] public section

noncomputable section

namespace Cert.Proof.Top

open Idealize.ShloMosaic Idealize.ShloMosaic.Pointwise

/-- Two orders that agree on every later element against an earlier one sort a list alike. -/
theorem stableSort_of_pairwise {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A stable sort by the key alone is the sort by the key and then the position. -/
theorem sortedFrom_position {n : ℕ} (R R' : Fin n → Fin n → Bool) (h : ∀ a b, a < b → R b a = R' b a) : sortedFrom R = sortedFrom R' := by
  have e : sortPositions n R = sortPositions n R' :=
    stableSort_of_pairwise R R' _ ((List.pairwise_lt_finRange n).imp fun {a b} hab => h a b hab)
  funext k
  unfold sortedFrom
  rw [List.get_of_eq e]
  rfl

/-- The first `k` of the sort, greater first and the earlier of equals first, given by their places. -/
theorem sorted_eq {n k : ℕ} (hk : k ≤ n) (key : Fin n → EReal) (σ : Fin k → Fin n)
    (hord : ∀ i j : Fin k, i < j → key (σ j) < key (σ i) ∨ key (σ i) = key (σ j) ∧ σ i < σ j)
    (hdom : ∀ (i : Fin k) (p : Fin n), (∀ j, σ j ≠ p) → key p < key (σ i) ∨ key (σ i) = key p ∧ σ i < p) (i : Fin k) :
    sortedFrom (fun a b : Fin n => (BitVec.ofBool (decide (key b < key a))) == 1#1) (i.castLE hk) = σ i := by
  classical
  have hB := StrictTotalBefore.of_key_then_position (fun a b : EReal => decide (b < a)) key (fun a => by simp) (fun a b c h1 h2 => by
      simp only [decide_eq_true_eq] at *; exact lt_trans h2 h1) (fun a b => by
      simp only [decide_eq_true_eq]
      rcases lt_trichotomy a b with h | h | h
      · exact Or.inr (Or.inr h)
      · exact Or.inr (Or.inl h)
      · exact Or.inl h)
  have before : ∀ p q : Fin n, key q < key p ∨ key p = key q ∧ p < q →
      (decide (key q < key p) || (decide (key p = key q) && decide (p < q))) = true := fun p q h => by
    simpa using h
  rw [sortedFrom_position _ (fun a b : Fin n => decide (key b < key a) || (decide (key a = key b) && decide (a < b)))]
  · refine hB.sortedFrom_eq_of_prefix hk σ (fun a b hab => ?_) (fun a b hab => hB.asymm _ _ (before _ _ (hord a b hab)))
      (fun a p hp => hB.asymm _ _ (before _ _ (hdom a p hp))) i
    by_contra hne
    rcases lt_or_gt_of_ne hne with h | h
    · rcases hord a b h with h' | ⟨_, h'⟩
      · rw [hab] at h'; exact lt_irrefl _ h'
      · rw [hab] at h'; exact lt_irrefl _ h'
    · rcases hord b a h with h' | ⟨_, h'⟩
      · rw [hab] at h'; exact lt_irrefl _ h'
      · rw [hab] at h'; exact lt_irrefl _ h'
  · intro a b hab
    have : ¬ b < a := not_lt.2 hab.le
    by_cases h : key a < key b <;> simp [h, this]

/-- The top-k of a vector: the values at the given places and the places. -/
theorem topK_eq {n k : ℕ} (hk : k ≤ n) (x : FVec Ideal ⟨1, ![n]⟩ .f32) (hs) (σ : Fin k → Fin n)
    (hord : ∀ i j : Fin k, i < j → (x (ix1 (σ j)) : EReal) < x (ix1 (σ i)) ∨ (x (ix1 (σ i)) : EReal) = x (ix1 (σ j)) ∧ σ i < σ j)
    (hdom : ∀ (i : Fin k) (p : Fin n), (∀ j, σ j ≠ p) → (x (ix1 p) : EReal) < x (ix1 (σ i)) ∨ (x (ix1 (σ i)) : EReal) = x (ix1 p) ∧ σ i < p) (i : Fin k) :
    (Host.topK ⟨1, ![k]⟩ 0 (FloatOps.cmpfTotal .gt) x hs).1 (ix1 i) = x (ix1 (σ i))
    ∧ (Host.topK ⟨1, ![k]⟩ 0 (FloatOps.cmpfTotal .gt) x hs).2 (ix1 i) = BitVec.ofNat 32 (σ i).val := by
  have e := sorted_eq hk (fun a => (x (ix1 a) : EReal)) σ hord hdom i
  have along : ∀ (j : (⟨1, ![n]⟩ : Shape).Idx) (a : Fin n), j.along (0 : Fin 1) a = ix1 a := fun j a => by
    rw [Shape.Idx.along_rank1]
    funext d
    match d with
    | ⟨0, _⟩ => rfl
  have cut : ∀ {α : Type} (v : (⟨1, ![n]⟩ : Shape).Idx → α), extractStridedSlice ⟨1, ![k]⟩ (fun _ => 0) v hs (ix1 i) = v (ix1 (i.castLE hk)) := fun v => by
    unfold extractStridedSlice
    congr 1
    funext d
    match d with
    | ⟨0, _⟩ => exact Fin.ext (by show 0 + i.val = i.val; omega)
  have place : ∀ j : (⟨1, ![n]⟩ : Shape).Idx, j 0 = i.castLE hk → sortedFrom (fun a b : Fin n => FloatOps.cmpfTotal (F := Ideal) (φ := .f32) .gt (x (j.along (0 : Fin 1) a)) (x (j.along (0 : Fin 1) b)) == 1#1) (j 0) = σ i := fun j hj => by
    simp only [along]
    rw [hj]
    exact e
  constructor
  · unfold Host.topK
    dsimp only
    rw [cut]
    unfold Host.sort2
    exact congrArg x ((congrArg (Shape.Idx.along (ix1 (i.castLE hk)) (0 : Fin 1)) (place (ix1 (i.castLE hk)) rfl)).trans (along _ _))
  · unfold Host.topK
    dsimp only
    rw [cut]
    unfold Host.sort2
    exact congrArg (fun j : (⟨1, ![n]⟩ : Shape).Idx => iotaInDim ⟨1, ![n]⟩ 32 0 j)
      ((congrArg (Shape.Idx.along (ix1 (i.castLE hk)) (0 : Fin 1)) (place (ix1 (i.castLE hk)) rfl)).trans (along _ _))

end Cert.Proof.Top

end
-- ==== Proof.RefDefs.lean ====
/-
  The reference's values over the extended reals, stage by stage.
-/
module

public import proofs.«01_k».proof.Proof.Model
public import proofs.«01_k».proof.Proof.Top
public import proofs.«01_k».proof.Proof.Gen.ReferenceIdeal.Run

@[expose] public section

set_option maxRecDepth 16384

noncomputable section

namespace Cert.Proof.Ref

open Cert.ReferenceIdeal Cert.ReferenceIdeal.Gen
open Idealize.ShloMosaic Idealize.ShloMosaic.TcCoe Idealize.ShloMosaic.Pointwise
open Finset

/-- The tokens, a negative one taken as the first. -/
def rWord (x0 : IVec S64x2 32) : IVec S64x2 32 :=
  select (cmpi .slt (maxsi (broadcastInDim S64x2 ![] bcast_S_S64x2 (id (constantI S_ 32 0#32))) x0) (broadcastInDim S64x2 ![] bcast_S_S64x2 (constantI S_ 32 0#32))) (addi (maxsi (broadcastInDim S64x2 ![] bcast_S_S64x2 (id (constantI S_ 32 0#32))) x0) (broadcastInDim S64x2 ![] bcast_S_S64x2 (constantI S_ 32 100000#32))) (maxsi (broadcastInDim S64x2 ![] bcast_S_S64x2 (id (constantI S_ 32 0#32))) x0)

/-- The embeddings of the tokens. -/
def rEmb (x0 : IVec S64x2 32) (x3 : FVec Ideal S100000x512 .f32) : FVec Ideal S64x2x512 .f32 :=
  mulf (select (broadcastInDim S64x2x512 ![0, 1] bcast_S64x2_S64x2x512_0_1 (Host.reduce IntOp.andi (andi (cmpi .sge (broadcastInDim S64x2x1 ![0, 1] bcast_S64x2_S64x2x1_0_1 (rWord x0)) (broadcastInDim S64x2x1 ![] bcast_S_S64x2x1 (constantI S_ 32 0#32))) (cmpi .sle (broadcastInDim S64x2x1 ![0, 1] bcast_S64x2_S64x2x1_0_1 (rWord x0)) (broadcastInDim S64x2x1 ![0, 1, 2] bcast_S1x1x1_S64x2x1_0_1_2 (broadcastInDim S1x1x1 ![2] bcast_S1_S1x1x1_2 (constantI S1 32 99999#32))))) (constantI S_ 1 1#1) reducesTo_S64x2x1_S64x2_d2 h_S_)) (Host.gather gather_S100000x512_S64x2x1_S64x2x512_2_0_n_n_0_2_1512 x3 (broadcastInDim S64x2x1 ![0, 1] bcast_S64x2_S64x2x1_0_1 (rWord x0))) (broadcastInDim S64x2x512 ![] bcast_S_S64x2x512 (constant S_ .f32 0x7FC00000#32))) (broadcastInDim S64x2x512 ![0, 1, 2] bcast_S64x2x1_S64x2x512_0_1_2 (uitofp .f32 (broadcastInDim S64x2x1 ![0, 1] bcast_S64x2_S64x2x1_0_1 (cmpi .sge x0 (broadcastInDim S64x2 ![] bcast_S_S64x2 (constantI S_ 32 0#32))))))

/-- The grouped convolution and its positive part. -/
def rDec (e : FVec Ideal S64x2x512 .f32) (x4 : FVec Ideal S512x4x2 .f32) : FVec Ideal S64x1x512 .f32 :=
  maximumf (transpose S64x1x512 [0, 2, 1] (shapeCast _ (transpose S64x128x4 [2, 0, 1] (Host.dotGeneral dot_S128x4x4x2_S64x128x4x2_S128x4x64_23_23_1_0_0_1 none (shapeCast _ x4 shapeCasts_S512x4x2_S128x4x4x2) (shapeCast _ (transpose S64x512x2 [0, 2, 1] e transposes_S64x2x512_S64x512x2_0_2_1) shapeCasts_S64x512x2_S64x128x4x2)) transposes_S128x4x64_S64x128x4_2_0_1) shapeCasts_S64x128x4_S64x512x1) transposes_S64x512x1_S64x1x512_0_2_1) (broadcastInDim S64x1x512 ![] bcast_S_S64x1x512 (constant S_ .f32 0x00000000#32))

/-- The joint state. -/
def rJnt (x1 : FVec Ideal S64x512 .f32) (v : FVec Ideal S64x1x512 .f32) (x5 : FVec Ideal S512x512 .f32) (x6 : FVec Ideal S512 .f32) : FVec Ideal S64x512 .f32 :=
  Host.tanh (addf x1 (shapeCast _ (addf (Host.dotGeneral dot_S64x1x512_S512x512_S64x1x512_2_0_01_1_n_n none v (transpose S512x512 [1, 0] x5 transposes_S512x512_S512x512_1_0)) (broadcastInDim S64x1x512 ![0, 1, 2] bcast_S1x1x512_S64x1x512_0_1_2 (broadcastInDim S1x1x512 ![2] bcast_S512_S1x1x512_2 x6))) shapeCasts_S64x1x512_S64x512))

/-- The logits. -/
def rLgt (J : FVec Ideal S64x512 .f32) (x7 : FVec Ideal S100000x512 .f32) (x8 : FVec Ideal S100000 .f32) : FVec Ideal S64x100000 .f32 :=
  addf (Host.dotGeneral dot_S64x512_S512x100000_S64x100000_1_0_0_1_n_n none J (transpose S512x100000 [1, 0] x7 transposes_S100000x512_S512x100000_1_0)) (broadcastInDim S64x100000 ![0, 1] bcast_S1x100000_S64x100000_0_1 (broadcastInDim S1x100000 ![1] bcast_S100000_S1x100000_1 x8))

/-- The log-softmax. -/
def rLsm (l : FVec Ideal S64x100000 .f32) : FVec Ideal S64x100000 .f32 :=
  subf (subf l (broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf l (constant S_ .f32 0xFF800000#32) reducesTo_S64x100000_S64_d1 h_S_))))) (broadcastInDim S64x100000 ![0, 1] bcast_S64x1_S64x100000_0_1 (Host.log (broadcastInDim S64x1 ![0] bcast_S64_S64x1_0 (Host.reduceAdd (Host.exp (subf l (broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf l (constant S_ .f32 0xFF800000#32) reducesTo_S64x100000_S64_d1 h_S_)))))) (constant S_ .f32 0x00000000#32) reducesTo_S64x100000_S64_d1 h_S_))))

/-- The scores, flattened. -/
def rScore (v : FVec Ideal S64x100000 .f32) (x2 : FVec Ideal S64x1 .f32) : FVec Ideal S6400000 .f32 :=
  shapeCast _ (addf v (broadcastInDim S64x100000 ![0, 1] bcast_S64x1_S64x100000_0_1 x2)) shapeCasts_S64x100000_S6400000

/-- The probabilities at the places. -/
def rProb (v : FVec Ideal S64x100000 .f32) (i : IVec S8 32) : FVec Ideal S8 .f32 :=
  Host.exp (Host.gather gather_S6400000_S8x1_S8_n_0_n_n_0_1_1 (shapeCast _ v shapeCasts_S64x100000_S6400000) (broadcastInDim S8x1 ![0] bcast_S8_S8x1_0 (select (cmpi .slt i (broadcastInDim S8 ![] bcast_S_S8 (constantI S_ 32 0#32))) (addi i (broadcastInDim S8 ![] bcast_S_S8 (constantI S_ 32 6400000#32))) i)))

/-- The rows of the places. -/
def rRow (i : IVec S8 32) : IVec S8 32 :=
  select (andi (cmpi .ne (signi i) (broadcastInDim S8 ![] bcast_S_S8 (signi (id (constantI S_ 32 100000#32))))) (cmpi .ne (Host.remsi i (broadcastInDim S8 ![] bcast_S_S8 (id (constantI S_ 32 100000#32)))) (broadcastInDim S8 ![] bcast_S_S8 (constantI S_ 32 0#32)))) (subi (Host.divsi i (broadcastInDim S8 ![] bcast_S_S8 (id (constantI S_ 32 100000#32)))) (broadcastInDim S8 ![] bcast_S_S8 (constantI S_ 32 1#32))) (Host.divsi i (broadcastInDim S8 ![] bcast_S_S8 (id (constantI S_ 32 100000#32))))

/-- The columns of the places. -/
def rCol (i : IVec S8 32) : IVec S8 32 :=
  select (andi (cmpi .ne (cmpi .slt (Host.remsi i (broadcastInDim S8 ![] bcast_S_S8 (select (cmpi .eq (id (constantI S_ 32 100000#32)) (constantI S_ 32 0#32)) (constantI S_ 32 1#32) (id (constantI S_ 32 100000#32))))) (broadcastInDim S8 ![] bcast_S_S8 (constantI S_ 32 0#32))) (broadcastInDim S8 ![] bcast_S_S8 (cmpi .slt (select (cmpi .eq (id (constantI S_ 32 100000#32)) (constantI S_ 32 0#32)) (constantI S_ 32 1#32) (id (constantI S_ 32 100000#32))) (constantI S_ 32 0#32)))) (cmpi .ne (Host.remsi i (broadcastInDim S8 ![] bcast_S_S8 (select (cmpi .eq (id (constantI S_ 32 100000#32)) (constantI S_ 32 0#32)) (constantI S_ 32 1#32) (id (constantI S_ 32 100000#32))))) (broadcastInDim S8 ![] bcast_S_S8 (constantI S_ 32 0#32)))) (addi (Host.remsi i (broadcastInDim S8 ![] bcast_S_S8 (select (cmpi .eq (id (constantI S_ 32 100000#32)) (constantI S_ 32 0#32)) (constantI S_ 32 1#32) (id (constantI S_ 32 100000#32))))) (broadcastInDim S8 ![] bcast_S_S8 (select (cmpi .eq (id (constantI S_ 32 100000#32)) (constantI S_ 32 0#32)) (constantI S_ 32 1#32) (id (constantI S_ 32 100000#32))))) (Host.remsi i (broadcastInDim S8 ![] bcast_S_S8 (select (cmpi .eq (id (constantI S_ 32 100000#32)) (constantI S_ 32 0#32)) (constantI S_ 32 1#32) (id (constantI S_ 32 100000#32)))))

section
variable (m : (ℓ : Loc nD τ sig) → Buf (Elt Ideal) ℓ) (c : Dev nD)

/-- The reference's log-softmax. -/
def lsm : FVec Ideal S64x100000 .f32 :=
  rLsm (rLgt (rJnt (m ((c.tc : Thread nD τ).loc main_arg1)) (rDec (rEmb (m ((c.tc : Thread nD τ).loc main_arg0)) (m ((c.tc : Thread nD τ).loc main_arg3))) (m ((c.tc : Thread nD τ).loc main_arg4)))
    (m ((c.tc : Thread nD τ).loc main_arg5)) (m ((c.tc : Thread nD τ).loc main_arg6))) (m ((c.tc : Thread nD τ).loc main_arg7)) (m ((c.tc : Thread nD τ).loc main_arg8)))

/-- The reference's scores. -/
def scores : FVec Ideal S6400000 .f32 := rScore (lsm m c) (m ((c.tc : Thread nD τ).loc main_arg2))

/-- The places of the reference's eight best scores. -/
def places : IVec S8 32 := (Host.topK S8 0 (FloatOps.cmpfTotal .gt) (scores m c) sliceFits_S6400000_S8).2

/-- The first result: the eight best scores. -/
theorem out0_eq : Value.res_main_values (F := Ideal) m c = (Host.topK S8 0 (FloatOps.cmpfTotal .gt) (scores m c) sliceFits_S6400000_S8).1 := rfl
/-- The second result: the probabilities at their places. -/
theorem out1_eq : Value.res_main_v43 (F := Ideal) m c = rProb (lsm m c) (places m c) := rfl
/-- The third result: the rows of their places. -/
theorem out2_eq : Value.res_main_v33 (F := Ideal) m c = rRow (places m c) := rfl
/-- The fourth result: the columns of their places. -/
theorem out3_eq : Value.res_main_v34 (F := Ideal) m c = rCol (places m c) := rfl

end

end Cert.Proof.Ref

end
-- ==== Proof.RefRead.lean ====
/-
  The reference's stages read at an index.
-/
module

public import proofs.«01_k».proof.Proof.RefDefs
public import Idealize.ShloMosaic.Lib.ValueIdx

@[expose] public section

set_option maxRecDepth 16384

noncomputable section

namespace Cert.Proof.Ref

open Cert.ReferenceIdeal Cert.ReferenceIdeal.Gen
open Idealize.ShloMosaic Idealize.ShloMosaic.TcCoe Idealize.ShloMosaic.Pointwise
open Finset Cert.Proof.Beam

/-- A small word is its own signed value. -/
theorem toInt_small (x : BitVec 32) (h : x.toNat < 6400000) : x.toInt = x.toNat := BitVec.toInt_eq_toNat_of_lt (by omega)

/-- The signed maximum of zero and a small word is the word. -/
theorem maxsi_zero (x : BitVec 32) (h : x.toNat < 6400000) : IntOp.maxsi 0#32 x = x := by
  unfold IntOp.maxsi
  simp only [BitVec.slt, BitVec.toInt_zero, toInt_small x h, decide_eq_true_eq]
  rw [if_neg (by omega)]

/-- A small word is not below zero. -/
theorem slt_zero (x : BitVec 32) (h : x.toNat < 6400000) : IntOp.cmpi .slt x 0#32 = 0#1 := by
  show BitVec.ofBool (x.slt 0#32) = 0#1
  have e : x.slt 0#32 = false := by
    simp only [BitVec.slt, BitVec.toInt_zero, toInt_small x h, decide_eq_false_iff_not]
    omega
  rw [e]
  rfl

/-- A small word is at least zero. -/
theorem sge_zero (x : BitVec 32) (h : x.toNat < 6400000) : IntOp.cmpi .sge x 0#32 = 1#1 := by
  show BitVec.ofBool ((0#32).sle x) = 1#1
  have e : (0#32).sle x = true := by
    simp only [BitVec.sle, BitVec.toInt_zero, toInt_small x h, decide_eq_true_eq]
    omega
  rw [e]
  rfl

/-- A word in range is at most the last row's number. -/
theorem sle_last (x : BitVec 32) (h : x.toNat < 100000) : IntOp.cmpi .sle x 99999#32 = 1#1 := by
  show BitVec.ofBool (x.sle 99999#32) = 1#1
  have e : x.sle 99999#32 = true := by
    rw [BitVec.sle, toInt_small x (by omega), toInt_small 99999#32 (by decide), decide_eq_true_eq]
    show (x.toNat : Int) ≤ ((99999 : ℕ) : Int)
    omega
  rw [e]
  rfl

/-- A gather of whole rows at the words of a table of two axes, read at an index. -/
theorem gather_rows {α : Type} {N D R C : ℕ} (hN : 0 < N) (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ 32) (r : Fin R) (c : Fin C) (a : Fin D) :
    Host.gather (⟨[2], [0], [], [], [0], 2, ![1, D], wf⟩ : GatherDims ⟨2, ![N, D]⟩ ⟨3, ![R, C, 1]⟩ ⟨3, ![R, C, D]⟩) x idx (ix3 r c a)
      = x (ix2 ⟨min (idx (ix3 r c 0)).toInt.toNat (N - 1), by omega⟩ a) := by
  unfold Host.gather
  refine congrArg x (funext fun b => Fin.ext ?_)
  generalize hd : (⟨[2], [0], [], [], [0], 2, ![1, D], wf⟩ : GatherDims ⟨2, ![N, D]⟩ ⟨3, ![R, C, 1]⟩ ⟨3, ![R, C, D]⟩) = d
  show d.start (ix3 r c a) idx b + d.batchCoord (ix3 r c a) b + d.offCoord (ix3 r c a) b = _
  subst hd
  match b with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg₂ (fun u v : ℕ => min u v) (congrArg (fun k => (idx k).toInt.toNat) ?_) rfl
    funext b
    refine Fin.ext ?_
    match b with
    | ⟨0, _⟩ => rfl
    | ⟨1, _⟩ => rfl
    | ⟨2, _⟩ => rfl
  | ⟨1, _⟩ =>
    rw [GatherDims.batchCoord_eq_zero _ _ _ List.not_mem_nil]
    have s0 : (⟨[2], [0], [], [], [0], 2, ![1, D], wf⟩ : GatherDims ⟨2, ![N, D]⟩ ⟨3, ![R, C, 1]⟩ ⟨3, ![R, C, D]⟩).start (ix3 r c a) idx (1 : Fin 2) = 0 :=
      dif_neg (fun h => Nat.one_ne_zero (congrArg Fin.val (List.mem_singleton.mp h)))
    refine (congrArg (fun u : ℕ => u + 0 + _) s0).trans ?_
    simp only [Nat.zero_add]
    rfl

/-- The tokens in range are left as they are. -/
theorem rWord_apply (x0 : IVec S64x2 32) (lt : ∀ k, (x0 k).toNat < 100000) (h : Fin 64) (k : Fin 2) : rWord x0 (ix2 h k) = x0 (ix2 h k) := by
  pointwise [rWord]
  show Scalar.select (IntOp.cmpi .slt (IntOp.maxsi 0#32 (x0 (ix2 h k))) 0#32) (IntOp.addi (IntOp.maxsi 0#32 (x0 (ix2 h k))) 100000#32)
    (IntOp.maxsi 0#32 (x0 (ix2 h k))) = _
  rw [maxsi_zero _ (by have := lt (ix2 h k); omega), slt_zero _ (by have := lt (ix2 h k); omega)]
  rfl

/-- The embeddings are rows of the table. -/
theorem rEmb_apply (x0 : IVec S64x2 32) (x3 : FVec Ideal S100000x512 .f32) (lt : ∀ k, (x0 k).toNat < 100000) (h : Fin 64) (k : Fin 2) (a : Fin 512) :
    (rEmb x0 x3 (ix3 h k a) : EReal) = x3 (ix2 ⟨(x0 (ix2 h k)).toNat, lt _⟩ a) := by
  pointwise [rEmb]
  have e := lt (ix2 h k)
  simp only [rWord_apply x0 lt]
  rw [sge_zero _ (by omega), sle_last _ e]
  have f : (univ : Finset (Fin 1)).fold IntOp.andi (1#1) (fun _ => IntOp.andi 1#1 1#1) = 1#1 := by decide
  have g : Host.gather gather_S100000x512_S64x2x1_S64x2x512_2_0_n_n_0_2_1512 x3 (broadcastInDim S64x2x1 ![0, 1] bcast_S64x2_S64x2x1_0_1 (rWord x0)) (ix3 h k a)
      = x3 (ix2 ⟨(x0 (ix2 h k)).toNat, lt _⟩ a) := by
    refine (gather_rows (by omega) _ x3 _ h k a).trans ?_
    have hb : broadcastInDim S64x2x1 ![0, 1] bcast_S64x2_S64x2x1_0_1 (rWord x0) (ix3 h k 0) = x0 (ix2 h k) := by
      pointwise []
      exact rWord_apply x0 lt h k
    congr 2
    refine Fin.ext ?_
    show min _ _ = _
    rw [hb, toInt_small _ (by omega), Int.toNat_natCast]
    exact Nat.min_eq_left (Nat.le_of_lt_succ e)
  rw [g]
  refine (congrArg₂ (fun u v : EReal => u * v) (show _ = (x3 (ix2 ⟨(x0 (ix2 h k)).toNat, lt _⟩ a) : EReal) from ?_) (show _ = (1 : EReal) from ?_)).trans (mul_one _)
  · rw [f]; rfl
  · show (((1#1 : BitVec 1).toNat : ℝ) : EReal) = 1
    simp

/-- The grouped convolution, read. -/
theorem rDec_apply (e : FVec Ideal S64x2x512 .f32) (x4 : FVec Ideal S512x4x2 .f32) (h : Fin 64) (q : Fin 512) :
    (rDec e x4 (ix3 h 0 q) : EReal) = max (∑ i : Fin 4, ∑ k : Fin 2, (x4 (ix3 q i k) : EReal) * e (ix3 h k (Args.chan q i))) 0 := by
  pointwise [rDec]
  rfl

/-- The joint state, read. -/
theorem rJnt_apply (x1 : FVec Ideal S64x512 .f32) (v : FVec Ideal S64x1x512 .f32) (x5 : FVec Ideal S512x512 .f32) (x6 : FVec Ideal S512 .f32) (h : Fin 64) (j : Fin 512) :
    (rJnt x1 v x5 x6 (ix2 h j) : EReal) = Ideal.tanh (x1 (ix2 h j) + ((∑ q : Fin 512, (v (ix3 h 0 q) : EReal) * x5 (ix2 j q)) + x6 (ix1 j))) := by
  pointwise [rJnt]

/-- The logits, read. -/
theorem rLgt_apply (J : FVec Ideal S64x512 .f32) (x7 : FVec Ideal S100000x512 .f32) (x8 : FVec Ideal S100000 .f32) (h : Fin 64) (c : Fin 100000) :
    (rLgt J x7 x8 (ix2 h c) : EReal) = (∑ k : Fin 512, (J (ix2 h k) : EReal) * x7 (ix2 c k)) + x8 (ix1 c) := by
  pointwise [rLgt]

/-- The flattened scores, read at a place. -/
theorem rScore_apply (v : FVec Ideal S64x100000 .f32) (x2 : FVec Ideal S64x1 .f32) (p : Fin 6400000) :
    (rScore v x2 (ix1 p) : EReal) = v (ix2 ⟨p.val / 100000, by omega⟩ ⟨p.val % 100000, by omega⟩) + x2 (ix2 ⟨p.val / 100000, by omega⟩ 0) := by
  pointwise [rScore]

/-- The log-softmax of rows of any length, read at an index. -/
theorem lsm_read {N : ℕ} (l : FVec Ideal ⟨2, ![64, N]⟩ .f32) (r : Shape.ReducesTo ⟨2, ![64, N]⟩ [1] S64)
    (hb : S64x1.BroadcastsInDim ⟨2, ![64, N]⟩ (![0, 1] : Fin 2 → Fin (⟨2, ![64, N]⟩ : Shape).rank)) (h : Fin 64) (c : Fin N) :
    ((subf (subf l (broadcastInDim ⟨2, ![64, N]⟩ ![0, 1] hb (broadcastInDim S64x1 ![0] bcast_S64_S64x1_0 (maximumf (broadcastInDim S64 ![] bcast_S_S64 (constant S_ .f32 0xFF800000#32)) (Host.reduce FloatOps.maximumf l (constant S_ .f32 0xFF800000#32) r h_S_))))) (broadcastInDim ⟨2, ![64, N]⟩ ![0, 1] hb (Host.log (broadcastInDim S64x1 ![0] bcast_S64_S64x1_0 (Host.reduceAdd (Host.exp (subf l (broadcastInDim ⟨2, ![64, N]⟩ ![0, 1] hb (broadcastInDim S64x1 ![0] bcast_S64_S64x1_0 (maximumf (broadcastInDim S64 ![] bcast_S_S64 (constant S_ .f32 0xFF800000#32)) (Host.reduce FloatOps.maximumf l (constant S_ .f32 0xFF800000#32) r h_S_)))))) (constant S_ .f32 0x00000000#32) r h_S_)))) : FVec Ideal ⟨2, ![64, N]⟩ .f32) (ix2 h c) : EReal) = l (ix2 h c) - max (Ideal.ofBits .f32 0xFF800000#32) ((univ : Finset (Fin N)).fold max (Ideal.ofBits .f32 0xFF800000#32) (fun a => (l (ix2 h a) : EReal))) -
      Ideal.log (∑ a : Fin N, Ideal.exp (l (ix2 h a) - max (Ideal.ofBits .f32 0xFF800000#32) ((univ : Finset (Fin N)).fold max (Ideal.ofBits .f32 0xFF800000#32) (fun b => (l (ix2 h b) : EReal))))) := by
  pointwise []

/-- The log-softmax, read. -/
theorem rLsm_apply (l : FVec Ideal S64x100000 .f32) (h : Fin 64) (c : Fin 100000) :
    (rLsm l (ix2 h c) : EReal) = l (ix2 h c) - max (Ideal.ofBits .f32 0xFF800000#32) ((univ : Finset (Fin 100000)).fold max (Ideal.ofBits .f32 0xFF800000#32) (fun a => (l (ix2 h a) : EReal))) -
      Ideal.log (∑ a : Fin 100000, Ideal.exp (l (ix2 h a) - max (Ideal.ofBits .f32 0xFF800000#32) ((univ : Finset (Fin 100000)).fold max (Ideal.ofBits .f32 0xFF800000#32) (fun b => (l (ix2 h b) : EReal))))) :=
  lsm_read l _ _ h c

end Cert.Proof.Ref

end
-- ==== Proof.RefPlace.lean ====
/-
  The rows, the columns and the probabilities of the reference's places.
-/
module

public import proofs.«01_k».proof.Proof.RefRead
public import Idealize.ShloMosaic.Lib.StableHlo.Predicate

@[expose] public section

set_option maxRecDepth 16384

noncomputable section

namespace Cert.Proof.Ref

open Cert.ReferenceIdeal Cert.ReferenceIdeal.Gen
open Idealize.ShloMosaic Idealize.ShloMosaic.TcCoe Idealize.ShloMosaic.Pointwise
open Finset Cert.Proof.Beam

/-- A place is not negative as a word. -/
theorem msb_small (p : ℕ) (hp : p < 6400000) : (BitVec.ofNat 32 p).msb = false := by
  rw [BitVec.msb_eq_false_iff_two_mul_lt, BitVec.toNat_ofNat]
  omega

/-- Division by the rows' length is never one of the corner cases. -/
theorem corner (x : BitVec 32) : ¬ IntOp.SDivCorner x 100000#32 := by
  unfold IntOp.SDivCorner
  rintro (h | ⟨_, h⟩)
  · exact absurd h (by decide)
  · exact absurd h (by decide)

/-- The quotient of a place by the rows' length. -/
theorem div_word (p : ℕ) (hp : p < 6400000) : IntOp.divsi .host (BitVec.ofNat 32 p) 100000#32 = BitVec.ofNat 32 (p / 100000) := by
  unfold IntOp.divsi
  rw [if_neg (corner _), BitVec.sdiv_eq, msb_small p hp]
  show BitVec.udiv _ _ = _
  refine BitVec.eq_of_toNat_eq ?_
  show (BitVec.ofNat 32 p / 100000#32).toNat = _
  rw [BitVec.toNat_udiv, BitVec.toNat_ofNat, BitVec.toNat_ofNat, BitVec.toNat_ofNat]
  show p % 4294967296 / 100000 = p / 100000 % 4294967296
  omega

/-- The remainder of a place by the rows' length. -/
theorem rem_word (p : ℕ) (hp : p < 6400000) : IntOp.remsi .host (BitVec.ofNat 32 p) 100000#32 = BitVec.ofNat 32 (p % 100000) := by
  unfold IntOp.remsi
  rw [if_neg (corner _), BitVec.srem_eq, msb_small p hp]
  show BitVec.umod _ _ = _
  refine BitVec.eq_of_toNat_eq ?_
  show (BitVec.ofNat 32 p % 100000#32).toNat = _
  rw [BitVec.toNat_umod, BitVec.toNat_ofNat, BitVec.toNat_ofNat, BitVec.toNat_ofNat]
  show p % 4294967296 % 100000 = p % 100000 % 4294967296
  omega

/-- A select whose condition is false. -/
theorem select_zero {α : Type} (b : BitVec 1) (h : b = 0#1) (x y : α) : Scalar.select b x y = y := by
  rw [h]
  rfl

/-- A place's row: the floored quotient. -/
theorem rRow_apply (i : IVec S8 32) (k : Fin 8) (p : ℕ) (hp : p < 6400000) (e : i (ix1 k) = BitVec.ofNat 32 p) :
    rRow i (ix1 k) = BitVec.ofNat 32 (p / 100000) := by
  pointwise [rRow]
  rw [e, show id (constantI S_ 32 100000#32) ix0 = 100000#32 from rfl, div_word p hp, rem_word p hp]
  refine select_zero _ ?_ _ _
  by_cases h0 : p = 0
  · subst h0; decide
  · have n0 : BitVec.ofNat 32 p ≠ 0 := fun h => h0 (by
      have := congrArg BitVec.toNat h
      rw [BitVec.toNat_ofNat] at this
      have z : (0 : BitVec 32).toNat = 0 := rfl
      omega)
    rw [if_neg n0, msb_small p hp, if_neg (by decide)]
    generalize IntOp.cmpi .ne (BitVec.ofNat 32 (p % 100000)) 0#32 = b
    revert b
    decide

/-- A place's column: the remainder. -/
theorem rCol_apply (i : IVec S8 32) (k : Fin 8) (p : ℕ) (hp : p < 6400000) (e : i (ix1 k) = BitVec.ofNat 32 p) :
    rCol i (ix1 k) = BitVec.ofNat 32 (p % 100000) := by
  pointwise [rCol]
  have c : Scalar.select (IntOp.cmpi CmpIPredicate.eq (id (constantI S_ 32 100000#32) ix0) 0#32) (1#32) (id (constantI S_ 32 100000#32) ix0) = 100000#32 := by decide
  rw [e, c, rem_word p hp]
  refine select_zero _ ?_ _ _
  rw [slt_zero _ (by rw [BitVec.toNat_ofNat]; omega)]
  generalize IntOp.cmpi .ne (BitVec.ofNat 32 (p % 100000)) 0#32 = b
  revert b
  decide

/-- A take of single entries, read at an index. -/
theorem take_one {α : Type} {N n : ℕ} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ 32) (p : Fin n) (hN : 0 < N) (q : Fin N) (hq : (idx (ix2 p 0)).toInt.toNat = q.val) :
    Host.gather d x idx (ix1 p) = x (ix1 q) := by
  have e := Idealize.ShloMosaic.StableHlo.Predicate.gather_take d hcoll hob hsim hivd x idx p hN
  have of1 : ∀ {k : ℕ} (a : Fin k), (Shape.Idx.ofFin a : (⟨1, ![k]⟩ : Shape).Idx) = ix1 a := fun a => by
    funext b
    match b with
    | ⟨0, _⟩ => rfl
  have hP : (Idealize.ShloMosaic.StableHlo.Predicate.ixP p : (⟨2, ![n, 1]⟩ : Shape).Idx) = ix2 p 0 := by
    funext b
    match b with
    | ⟨0, _⟩ => rfl
    | ⟨1, _⟩ => rfl
  rw [of1, of1] at e
  refine e.trans (congrArg (fun a => x (ix1 a)) (Fin.ext ?_))
  show min (idx (Idealize.ShloMosaic.StableHlo.Predicate.ixP p)).toInt.toNat (N - 1) = q.val
  rw [hP, hq]
  omega

/-- A place's probability. -/
theorem rProb_apply (v : FVec Ideal S64x100000 .f32) (i : IVec S8 32) (k : Fin 8) (p : ℕ) (hp : p < 6400000) (e : i (ix1 k) = BitVec.ofNat 32 p) :
    (rProb v i (ix1 k) : EReal) = Ideal.exp (v (ix2 ⟨p / 100000, by omega⟩ ⟨p % 100000, by omega⟩)) := by
  pointwise [rProb]
  refine congrArg Ideal.exp ?_
  have hi : broadcastInDim S8x1 ![0] bcast_S8_S8x1_0 (select (cmpi CmpIPredicate.slt i (broadcastInDim S8 ![] bcast_S_S8 (constantI S_ 32 0#32)))
            (addi i (broadcastInDim S8 ![] bcast_S_S8 (constantI S_ 32 6400000#32))) i) (ix2 k 0) = BitVec.ofNat 32 p := by
    pointwise []
    rw [e]
    exact select_zero _ (slt_zero _ (by rw [BitVec.toNat_ofNat]; omega)) _ _
  refine (take_one gather_S6400000_S8x1_S8_n_0_n_n_0_1_1 rfl rfl rfl rfl _ _ k (by omega) ⟨p, hp⟩ ?_).trans ?_
  · rw [hi, toInt_small _ (by rw [BitVec.toNat_ofNat]; omega), Int.toNat_natCast, BitVec.toNat_ofNat]
    exact Nat.mod_eq_of_lt (by omega)
  · pointwise []

end Cert.Proof.Ref

end
-- ==== Proof.RefValue.lean ====
/-
  The reference's results over the extended reals, at real scores and joiner's weights: the scores, and what the eight best of them are.
-/
module

public import proofs.«01_k».proof.Proof.RefPlace
public import proofs.«01_k».proof.Proof.Select

@[expose] public section

set_option maxRecDepth 16384

noncomputable section

namespace Cert.Proof.Ref

open Cert.ReferenceIdeal Cert.ReferenceIdeal.Gen
open Idealize.ShloMosaic Idealize.ShloMosaic.TcCoe Idealize.ShloMosaic.Pointwise
open Finset Cert.Proof.Beam

variable (A : Args)

/-- The reference's logits are the logits of the model. -/
theorem lgt_value (x0 : IVec S64x2 32) (x1 : FVec Ideal S64x512 .f32) (x3 : FVec Ideal S100000x512 .f32) (x4 : FVec Ideal S512x4x2 .f32)
    (x5 : FVec Ideal S512x512 .f32) (x6 : FVec Ideal S512 .f32) (x7 : FVec Ideal S100000x512 .f32) (x8 : FVec Ideal S100000 .f32)
    (h0 : x0 = A.x0) (h1 : ∀ k, (x1 k : EReal) = A.x1 k) (h3 : ∀ k, (x3 k : EReal) = A.x3 k) (h4 : ∀ k, (x4 k : EReal) = A.x4 k)
    (h5 : ∀ k, (x5 k : EReal) = A.x5 k) (h6 : ∀ k, (x6 k : EReal) = A.x6 k) (h7 : ∀ k, (x7 k : EReal) = (A.r7 k : EReal))
    (h8 : ∀ k, (x8 k : EReal) = (A.r8 k : EReal)) (h : Fin 64) (c : Fin 100000) :
    (rLgt (rJnt x1 (rDec (rEmb x0 x3) x4) x5 x6) x7 x8 (ix2 h c) : EReal) = (A.lgt h c : EReal) := by
  subst h0
  have d : ∀ q, (rDec (rEmb A.x0 x3) x4 (ix3 h 0 q) : EReal) = A.dec h q := by
    intro q
    rw [rDec_apply]
    have e : ∀ (i : Fin 4) (k : Fin 2), (x4 (ix3 q i k) * rEmb A.x0 x3 (ix3 h k (Args.chan q i)) : EReal)
        = A.emb h k (Args.chan q i) * A.x4 (ix3 q i k) := by
      intro i k
      rw [rEmb_apply A.x0 x3 A.lt, h3, h4, mul_comm]
      rfl
    simp only [e]
    rfl
  have j : ∀ j, (rJnt x1 (rDec (rEmb A.x0 x3) x4) x5 x6 (ix2 h j) : EReal) = (A.jnt h j : EReal) := by
    intro j
    rw [rJnt_apply, h1, h6]
    simp only [d, h5]
    exact (A.jnt_coe h j).symm
  rw [rLgt_apply, h8]
  simp only [j, h7, ← EReal.coe_mul, sum_coe, ← EReal.coe_add]
  rfl

/-- The log-softmax of the model's logits. -/
theorem lsm_value (l : FVec Ideal S64x100000 .f32) (hl : ∀ h c, (l (ix2 h c) : EReal) = (A.lgt h c : EReal)) (h : Fin 64) (c : Fin 100000) :
    (rLsm l (ix2 h c) : EReal) = ((A.L h c.val - Real.log (∑ a ∈ range 100000, Real.exp (A.L h a)) : ℝ) : EReal) := by
  rw [rLsm_apply, ofBits_neg_inf]
  simp only [hl, ← A.L_eq]
  obtain ⟨M, hM⟩ := fold_max_real (univ : Finset (Fin 100000)) ⟨0, mem_univ _⟩ fun a => A.L h a.val
  rw [hM, max_eq_right (bot_le : (⊥ : EReal) ≤ (M : EReal))]
  have s : ∑ a : Fin 100000, Ideal.exp ((A.L h a.val : EReal) - (M : EReal)) = ((∑ a ∈ range 100000, Real.exp (A.L h a - M) : ℝ) : EReal) := by
    rw [Finset.sum_range, ← sum_coe]
    refine sum_congr rfl fun a _ => ?_
    rw [← EReal.coe_sub, Ideal.exp_coe]
  have g := log_sum (A.L h) 100000 (by omega) M
  rw [s]
  have pos : 0 < ∑ a ∈ range 100000, Real.exp (A.L h a - M) := sum_pos (fun c _ => Real.exp_pos _) ⟨0, mem_range.2 (by omega)⟩
  rw [Ideal.log_coe, if_neg (not_le.2 pos)] at g ⊢
  rw [← EReal.coe_add] at g
  have g' := EReal.coe_injective g
  rw [← EReal.coe_sub, ← EReal.coe_sub, ← g', sub_sub]

/-- The row and the column of a place. -/
def cell (p : Fin 6400000) : Fin 64 × ℕ := (⟨p.val / 100000, by omega⟩, p.val % 100000)

/-- A place is the place of its row and column. -/
theorem place_cell (p : Fin 6400000) : place (cell p) = p.val := by
  show p.val / 100000 * 100000 + p.val % 100000 = p.val
  omega

variable (m : (ℓ : Loc nD τ sig) → Buf (Elt Ideal) ℓ) (c : Dev nD)

/-- The reference's arguments are those of the model. -/
structure Is : Prop where
  h0 : (m ((c.tc : Thread nD τ).loc main_arg0) : IVec S64x2 32) = A.x0
  h1 : ∀ k, ((m ((c.tc : Thread nD τ).loc main_arg1) : FVec Ideal S64x512 .f32) k : EReal) = A.x1 k
  h2 : ∀ k, ((m ((c.tc : Thread nD τ).loc main_arg2) : FVec Ideal S64x1 .f32) k : EReal) = (A.r2 k : EReal)
  h3 : ∀ k, ((m ((c.tc : Thread nD τ).loc main_arg3) : FVec Ideal S100000x512 .f32) k : EReal) = A.x3 k
  h4 : ∀ k, ((m ((c.tc : Thread nD τ).loc main_arg4) : FVec Ideal S512x4x2 .f32) k : EReal) = A.x4 k
  h5 : ∀ k, ((m ((c.tc : Thread nD τ).loc main_arg5) : FVec Ideal S512x512 .f32) k : EReal) = A.x5 k
  h6 : ∀ k, ((m ((c.tc : Thread nD τ).loc main_arg6) : FVec Ideal S512 .f32) k : EReal) = A.x6 k
  h7 : ∀ k, ((m ((c.tc : Thread nD τ).loc main_arg7) : FVec Ideal S100000x512 .f32) k : EReal) = (A.r7 k : EReal)
  h8 : ∀ k, ((m ((c.tc : Thread nD τ).loc main_arg8) : FVec Ideal S100000 .f32) k : EReal) = (A.r8 k : EReal)

variable {A m c}

/-- The reference's log-softmax is the model's. -/
theorem lsm_eq (I : Is A m c) (h : Fin 64) (k : Fin 100000) :
    (lsm m c (ix2 h k) : EReal) = ((A.L h k.val - Real.log (∑ a ∈ range 100000, Real.exp (A.L h a)) : ℝ) : EReal) :=
  lsm_value A _ (fun h k => lgt_value A _ _ _ _ _ _ _ _ I.h0 I.h1 I.h3 I.h4 I.h5 I.h6 I.h7 I.h8 h k) h k

/-- The reference's scores are the model's. -/
theorem scores_eq (I : Is A m c) (p : Fin 6400000) : (scores m c (ix1 p) : EReal) = (score A.L A.H (cell p) : EReal) := by
  unfold scores
  rw [rScore_apply, lsm_eq I, I.h2, ← EReal.coe_add]
  refine congrArg _ ?_
  exact sub_add_eq_add_sub _ _ _

/-- The reference's results, by the rows and columns of the eight best scores. -/
theorem ref_results (I : Is A m c) (σ : ℕ → Fin 64 × ℕ) (B : Best (score A.L A.H) σ) (i : Fin 8) :
    (Value.res_main_values (F := Ideal) m c (ix1 i) : EReal) = (score A.L A.H (σ i.val) : EReal)
    ∧ (Value.res_main_v43 (F := Ideal) m c (ix1 i) : EReal) = (Real.exp (score A.L A.H (σ i.val) - A.H (σ i.val).1) : EReal)
    ∧ Value.res_main_v33 (F := Ideal) m c (ix1 i) = BitVec.ofNat 32 (σ i.val).1.val
    ∧ Value.res_main_v34 (F := Ideal) m c (ix1 i) = BitVec.ofNat 32 (σ i.val).2 := by
  have lt : ∀ i : Fin 8, place (σ i.val) < 6400000 := by
    intro i
    have h2 := B.lt i.val i.isLt
    have h1 := (σ i.val).1.isLt
    show (σ i.val).1.val * 100000 + (σ i.val).2 < 6400000
    omega
  have cl : ∀ i : Fin 8, cell ⟨place (σ i.val), lt i⟩ = σ i.val := by
    intro i
    have h2 := B.lt i.val i.isLt
    refine Prod.ext (Fin.ext ?_) ?_
    · show ((σ i.val).1.val * 100000 + (σ i.val).2) / 100000 = (σ i.val).1.val
      omega
    · show ((σ i.val).1.val * 100000 + (σ i.val).2) % 100000 = (σ i.val).2
      omega
  have T := Top.topK_eq (by omega : (8 : ℕ) ≤ 6400000) (scores m c) sliceFits_S6400000_S8 (fun i => ⟨place (σ i.val), lt i⟩)
    (fun a b hab => by
      have o := B.order a.val b.val hab b.isLt
      rw [scores_eq I, scores_eq I, cl, cl]
      exact o)
    (fun a p hp => by
      have o := B.dom (cell p) (Nat.mod_lt _ (by omega)) (fun n hn e => hp ⟨n, hn⟩ (Fin.ext (by
        show place (σ n) = p.val
        rw [e, place_cell]))) a.val a.isLt
      rw [scores_eq I, scores_eq I, cl]
      unfold Rank.Better at o
      rw [place_cell] at o
      exact o) i
  rw [scores_eq I, cl] at T
  have P : places m c (ix1 i) = BitVec.ofNat 32 (place (σ i.val)) := T.2
  have c1 : (⟨place (σ i.val) / 100000, by have := lt i; omega⟩ : Fin 64) = (σ i.val).1 := congrArg Prod.fst (cl i)
  have c2 : place (σ i.val) % 100000 = (σ i.val).2 := congrArg Prod.snd (cl i)
  refine ⟨T.1, ?_, ?_, ?_⟩
  · rw [out1_eq, rProb_apply _ _ _ _ (lt i) P, lsm_eq I, Ideal.exp_coe]
    refine congrArg _ (congrArg Real.exp ?_)
    rw [c1]
    show A.L _ (place (σ i.val) % 100000) - _ = A.L _ _ + A.H _ - Real.log _ - A.H _
    rw [c2]
    ring
  · rw [out2_eq, rRow_apply _ _ _ (lt i) P]
    exact congrArg (fun a : Fin 64 => BitVec.ofNat 32 a.val) c1
  · rw [out3_eq, rCol_apply _ _ _ (lt i) P, c2]

end Cert.Proof.Ref

end
-- ==== Proof.Value.lean ====
/-
  The value claim: over the extended reals, with the tokens in range and the hypotheses' scores and the joiner's weights finite, the kernel and the reference end
  with the same four results.
-/
module

public import proofs.«01_k».proof.Proof.Frames
public import proofs.«01_k».proof.Proof.Results
public import proofs.«01_k».proof.Proof.RefValue

@[expose] public section

set_option maxRecDepth 16384

noncomputable section

namespace Cert.Proof.Beam

open Idealize.ShloMosaic Idealize.SL.Sem Idealize.ShloMosaic.Pointwise
open Cert.KernelIdeal Cert.KernelIdeal.Gen
open TcCoe

variable (m : (ℓ : Loc nD τ sig) → Buf (Elt Ideal) ℓ)
  (m' : (ℓ : Loc Cert.ReferenceIdeal.nD Cert.ReferenceIdeal.τ Cert.ReferenceIdeal.sig) → Buf (Elt Ideal) ℓ) (d : Dev nD)

/-- The model's arguments, from the precondition. -/
theorem exists_args (h : Pre_KernelIdeal_finite_in_range m) : ∃ A : Args, Is m d A := by
  obtain ⟨lt, e2, e7, e8⟩ := finite_of_pre _ _ _ _ _ _ _ _ _ (h d)
  choose r2 e2 using e2
  choose r7 e7 using e7
  choose r8 e8 using e8
  exact ⟨⟨_, _, r2, _, _, _, _, r7, r8, lt⟩, rfl, fun _ => rfl, e2, fun _ => rfl, fun _ => rfl, fun _ => rfl, fun _ => rfl, e7, e8⟩

/-- The two programs' arguments are the same arrays. -/
def SameArgs : Prop :=
  m' ((d.tc : Thread Cert.ReferenceIdeal.nD Cert.ReferenceIdeal.τ).loc Cert.ReferenceIdeal.main_arg0) = m ((d.tc : Thread nD τ).loc main_arg0)
  ∧ m' ((d.tc : Thread Cert.ReferenceIdeal.nD Cert.ReferenceIdeal.τ).loc Cert.ReferenceIdeal.main_arg1) = m ((d.tc : Thread nD τ).loc main_arg1)
  ∧ m' ((d.tc : Thread Cert.ReferenceIdeal.nD Cert.ReferenceIdeal.τ).loc Cert.ReferenceIdeal.main_arg2) = m ((d.tc : Thread nD τ).loc main_arg2)
  ∧ m' ((d.tc : Thread Cert.ReferenceIdeal.nD Cert.ReferenceIdeal.τ).loc Cert.ReferenceIdeal.main_arg3) = m ((d.tc : Thread nD τ).loc main_arg3)
  ∧ m' ((d.tc : Thread Cert.ReferenceIdeal.nD Cert.ReferenceIdeal.τ).loc Cert.ReferenceIdeal.main_arg4) = m ((d.tc : Thread nD τ).loc main_arg4)
  ∧ m' ((d.tc : Thread Cert.ReferenceIdeal.nD Cert.ReferenceIdeal.τ).loc Cert.ReferenceIdeal.main_arg5) = m ((d.tc : Thread nD τ).loc main_arg5)
  ∧ m' ((d.tc : Thread Cert.ReferenceIdeal.nD Cert.ReferenceIdeal.τ).loc Cert.ReferenceIdeal.main_arg6) = m ((d.tc : Thread nD τ).loc main_arg6)
  ∧ m' ((d.tc : Thread Cert.ReferenceIdeal.nD Cert.ReferenceIdeal.τ).loc Cert.ReferenceIdeal.main_arg7) = m ((d.tc : Thread nD τ).loc main_arg7)
  ∧ m' ((d.tc : Thread Cert.ReferenceIdeal.nD Cert.ReferenceIdeal.τ).loc Cert.ReferenceIdeal.main_arg8) = m ((d.tc : Thread nD τ).loc main_arg8)

variable {m m' d}

/-- The reference's arguments are the model's where the kernel's are. -/
theorem ref_is {A : Args} (I : Is m d A) (h : SameArgs m m' d) : Ref.Is A m' d := by
  obtain ⟨a0, a1, a2, a3, a4, a5, a6, a7, a8⟩ := h
  exact ⟨a0.trans I.h0, fun k => (congrFun a1 k).trans (I.h1 k), fun k => (congrFun a2 k).trans (I.h2 k), fun k => (congrFun a3 k).trans (I.h3 k),
    fun k => (congrFun a4 k).trans (I.h4 k), fun k => (congrFun a5 k).trans (I.h5 k), fun k => (congrFun a6 k).trans (I.h6 k),
    fun k => (congrFun a7 k).trans (I.h7 k), fun k => (congrFun a8 k).trans (I.h8 k)⟩

/-- Two arrays of eight that agree entry by entry are equal. -/
theorem ext8 {α : Type} (x y : S8.Idx → α) (h : ∀ i : Fin 8, x (ix1 i) = y (ix1 i)) : x = y := by
  funext j
  have e : j = ix1 (j 0) := by
    funext a
    match a with
    | ⟨0, _⟩ => rfl
  rw [e]
  exact h _

/-- The reference's results are the kernel's. -/
theorem results_eq (hr : InRange m) (hpre : Pre_KernelIdeal_finite_in_range m) (h : SameArgs m m' d) :
    Cert.ReferenceIdeal.Value.res_main_values (F := Ideal) m' d = V5 m hr d (Proc.devRef .tc main_v33)
    ∧ Cert.ReferenceIdeal.Value.res_main_v43 (F := Ideal) m' d = V5 m hr d (Proc.devRef .tc main_v35)
    ∧ Cert.ReferenceIdeal.Value.res_main_v33 (F := Ideal) m' d = V5 m hr d (Proc.devRef .tc main_v37)
    ∧ Cert.ReferenceIdeal.Value.res_main_v34 (F := Ideal) m' d = V5 m hr d (Proc.devRef .tc main_v39) := by
  obtain ⟨A, I⟩ := exists_args m d hpre
  obtain ⟨σ, B, K⟩ := kernel_results hr I
  have R := Ref.ref_results (ref_is I h) σ B
  exact ⟨ext8 _ _ fun i => (R i).1.trans (K i).1.symm, ext8 _ _ fun i => (R i).2.1.trans (K i).2.1.symm,
    ext8 _ _ fun i => (R i).2.2.1.trans (K i).2.2.1.symm, ext8 _ _ fun i => (R i).2.2.2.trans (K i).2.2.2.symm⟩

/-- The kernel's four results are the reference's. -/
theorem algebraic : Cert.algebraic_KernelIdeal_ReferenceIdeal_pre_finite_in_range := fun m ρ m' ρ' hpre hargs => by
  have hr : InRange m := inRange_of_finite m hpre
  refine ⟨fun c => V5 m hr c (Proc.devRef .tc main_v33), fun c => V5 m hr c (Proc.devRef .tc main_v35), fun c => V5 m hr c (Proc.devRef .tc main_v37),
    fun c => V5 m hr c (Proc.devRef .tc main_v39), ?_, ?_⟩
  · exact (θ_run Cert.KernelIdeal.defs _ _).mono (fun r h c => ⟨(h.1 c).1.1, (h.1 c).1.2.1, (h.1 c).1.2.2.1, (h.1 c).1.2.2.2, (h.1 c).2⟩) (run_args (F := Ideal) m ρ hr)
  · refine (θ_run Cert.ReferenceIdeal.defs _ _).mono (fun r h c => ?_) (Cert.ReferenceIdeal.Value.run (F := Ideal) m' ρ')
    obtain ⟨q0, q1, q2, q3⟩ := results_eq hr hpre (hargs c)
    exact ⟨(h c).1.trans q0, (h c).2.1.trans q1, (h c).2.2.1.trans q2, (h c).2.2.2.1.trans q3, (h c).2.2.2.2⟩

end Cert.Proof.Beam

end
-- ==== Proof.lean ====
/-
  The proof of the certificate's claim: the frames of the kernel as printed, of the kernel over the extended reals and of the
  reference, the named constants, and the equality of the four results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.Pre_finite_in_range
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_in_range.Gen.facts, Cert.Pre_finite_in_range.Gen.facts,
  Beam.frame_kernel, Beam.frame_kernelIdeal, Beam.frame_kernelIdeal_finite, Beam.frame_reference, fun m ρ _ => Beam.frame_reference m ρ trivial,
  Beam.preserves, Beam.algebraic⟩

end Cert.Proof

end
